-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodeIdeal_all_finite [hPre_all_finite : Cert.Pre_all_finite.Facts] (m : (ℓ : Loc Cert.EncodeIdeal.nD Cert.EncodeIdeal.τ Cert.EncodeIdeal.sig) → Buf (Elt Ideal) ℓ) : Prop :=
  ∀ c : Dev Cert.EncodeIdeal.nD,
    (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.2.2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.2.2.2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.2.2.2.2.2.2.2.2.1 = (fun _ => 1#1)
    ∧ (Cert.Pre_all_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16)) (m ((c.tc : Thread Cert.EncodeIdeal.nD Cert.EncodeIdeal.τ).loc Cert.EncodeIdeal.main_arg17))).2.2.2.2.2.2.2.2.2.2.2.2.2.2.2 = (fun _ => 1#1)

def Pre_EncodeReferenceIdeal (m : (ℓ : Loc Cert.EncodeReferenceIdeal.nD Cert.EncodeReferenceIdeal.τ Cert.EncodeReferenceIdeal.sig) → Buf (Elt Ideal) ℓ) : Prop :=
  True

def Pre_EncodeReferenceIdeal_all_finite [hPre_all_finite : Cert.Pre_all_finite.Facts] (m : (ℓ : Loc Cert.EncodeReferenceIdeal.nD Cert.EncodeReferenceIdeal.τ Cert.EncodeReferenceIdeal.sig) → Buf (Elt Ideal) ℓ) : Prop :=
  ∀ c : Dev Cert.EncodeReferenceIdeal.nD,
    (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.2.2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.2.2.2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.2.2.2.2.2.2.2.2.1 = (fun _ => 1#1)
    ∧ (Cert.Pre_all_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7)) (m ((c.tc : Thread Cert.EncodeReferenceIdeal.nD Cert.EncodeReferenceIdeal.τ).loc Cert.EncodeReferenceIdeal.main_arg8)) (m ((c.tc : Thread Cert.EncodeReferenceIdeal.nD Cert.EncodeReferenceIdeal.τ).loc Cert.EncodeReferenceIdeal.main_arg9)) (m ((c.tc : Thread Cert.EncodeReferenceIdeal.nD Cert.EncodeReferenceIdeal.τ).loc Cert.EncodeReferenceIdeal.main_arg10)) (m ((c.tc : Thread Cert.EncodeReferenceIdeal.nD Cert.EncodeReferenceIdeal.τ).loc Cert.EncodeReferenceIdeal.main_arg11)) (m ((c.tc : Thread Cert.EncodeReferenceIdeal.nD Cert.EncodeReferenceIdeal.τ).loc Cert.EncodeReferenceIdeal.main_arg12)) (m ((c.tc : Thread Cert.EncodeReferenceIdeal.nD Cert.EncodeReferenceIdeal.τ).loc Cert.EncodeReferenceIdeal.main_arg13)) (m ((c.tc : Thread Cert.EncodeReferenceIdeal.nD Cert.EncodeReferenceIdeal.τ).loc Cert.EncodeReferenceIdeal.main_arg14)) (m ((c.tc : Thread Cert.EncodeReferenceIdeal.nD Cert.EncodeReferenceIdeal.τ).loc Cert.EncodeReferenceIdeal.main_arg15)) (m ((c.tc : Thread Cert.EncodeReferenceIdeal.nD Cert.EncodeReferenceIdeal.τ).loc Cert.EncodeReferenceIdeal.main_arg16)) (m ((c.tc : Thread Cert.EncodeReferenceIdeal.nD Cert.EncodeReferenceIdeal.τ).loc Cert.EncodeReferenceIdeal.main_arg17))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2)
      ∧ r.2.mem ((c.tc : Thread Cert.Encode.nD Cert.Encode.τ).loc Cert.Encode.main_arg3) = m ((c.tc : Thread Cert.Encode.nD Cert.Encode.τ).loc Cert.Encode.main_arg3)
      ∧ r.2.mem ((c.tc : Thread Cert.Encode.nD Cert.Encode.τ).loc Cert.Encode.main_arg4) = m ((c.tc : Thread Cert.Encode.nD Cert.Encode.τ).loc Cert.Encode.main_arg4)
      ∧ r.2.mem ((c.tc : Thread Cert.Encode.nD Cert.Encode.τ).loc Cert.Encode.main_arg5) = m ((c.tc : Thread Cert.Encode.nD Cert.Encode.τ).loc Cert.Encode.main_arg5)
      ∧ r.2.mem ((c.tc : Thread Cert.Encode.nD Cert.Encode.τ).loc Cert.Encode.main_arg6) = m ((c.tc : Thread Cert.Encode.nD Cert.Encode.τ).loc Cert.Encode.main_arg6)
      ∧ r.2.mem ((c.tc : Thread Cert.Encode.nD Cert.Encode.τ).loc Cert.Encode.main_arg7) = m ((c.tc : Thread Cert.Encode.nD Cert.Encode.τ).loc Cert.Encode.main_arg7)
      ∧ r.2.mem ((c.tc : Thread Cert.Encode.nD Cert.Encode.τ).loc Cert.Encode.main_arg8) = m ((c.tc : Thread Cert.Encode.nD Cert.Encode.τ).loc Cert.Encode.main_arg8)
      ∧ r.2.mem ((c.tc : Thread Cert.Encode.nD Cert.Encode.τ).loc Cert.Encode.main_arg9) = m ((c.tc : Thread Cert.Encode.nD Cert.Encode.τ).loc Cert.Encode.main_arg9)
      ∧ r.2.mem ((c.tc : Thread Cert.Encode.nD Cert.Encode.τ).loc Cert.Encode.main_arg10) = m ((c.tc : Thread Cert.Encode.nD Cert.Encode.τ).loc Cert.Encode.main_arg10)
      ∧ r.2.mem ((c.tc : Thread Cert.Encode.nD Cert.Encode.τ).loc Cert.Encode.main_arg11) = m ((c.tc : Thread Cert.Encode.nD Cert.Encode.τ).loc Cert.Encode.main_arg11)
      ∧ r.2.mem ((c.tc : Thread Cert.Encode.nD Cert.Encode.τ).loc Cert.Encode.main_arg12) = m ((c.tc : Thread Cert.Encode.nD Cert.Encode.τ).loc Cert.Encode.main_arg12)
      ∧ r.2.mem ((c.tc : Thread Cert.Encode.nD Cert.Encode.τ).loc Cert.Encode.main_arg13) = m ((c.tc : Thread Cert.Encode.nD Cert.Encode.τ).loc Cert.Encode.main_arg13)
      ∧ r.2.mem ((c.tc : Thread Cert.Encode.nD Cert.Encode.τ).loc Cert.Encode.main_arg14) = m ((c.tc : Thread Cert.Encode.nD Cert.Encode.τ).loc Cert.Encode.main_arg14)
      ∧ r.2.mem ((c.tc : Thread Cert.Encode.nD Cert.Encode.τ).loc Cert.Encode.main_arg15) = m ((c.tc : Thread Cert.Encode.nD Cert.Encode.τ).loc Cert.Encode.main_arg15)
      ∧ r.2.mem ((c.tc : Thread Cert.Encode.nD Cert.Encode.τ).loc Cert.Encode.main_arg16) = m ((c.tc : Thread Cert.Encode.nD Cert.Encode.τ).loc Cert.Encode.main_arg16)
      ∧ r.2.mem ((c.tc : Thread Cert.Encode.nD Cert.Encode.τ).loc Cert.Encode.main_arg17) = m ((c.tc : Thread Cert.Encode.nD Cert.Encode.τ).loc Cert.Encode.main_arg17))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
      ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
      ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
      ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
      ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7)
      ∧ r.2.mem ((c.tc : Thread Cert.EncodeIdeal.nD Cert.EncodeIdeal.τ).loc Cert.EncodeIdeal.main_arg8) = m ((c.tc : Thread Cert.EncodeIdeal.nD Cert.EncodeIdeal.τ).loc Cert.EncodeIdeal.main_arg8)
      ∧ r.2.mem ((c.tc : Thread Cert.EncodeIdeal.nD Cert.EncodeIdeal.τ).loc Cert.EncodeIdeal.main_arg9) = m ((c.tc : Thread Cert.EncodeIdeal.nD Cert.EncodeIdeal.τ).loc Cert.EncodeIdeal.main_arg9)
      ∧ r.2.mem ((c.tc : Thread Cert.EncodeIdeal.nD Cert.EncodeIdeal.τ).loc Cert.EncodeIdeal.main_arg10) = m ((c.tc : Thread Cert.EncodeIdeal.nD Cert.EncodeIdeal.τ).loc Cert.EncodeIdeal.main_arg10)
      ∧ r.2.mem ((c.tc : Thread Cert.EncodeIdeal.nD Cert.EncodeIdeal.τ).loc Cert.EncodeIdeal.main_arg11) = m ((c.tc : Thread Cert.EncodeIdeal.nD Cert.EncodeIdeal.τ).loc Cert.EncodeIdeal.main_arg11)
      ∧ r.2.mem ((c.tc : Thread Cert.EncodeIdeal.nD Cert.EncodeIdeal.τ).loc Cert.EncodeIdeal.main_arg12) = m ((c.tc : Thread Cert.EncodeIdeal.nD Cert.EncodeIdeal.τ).loc Cert.EncodeIdeal.main_arg12)
      ∧ r.2.mem ((c.tc : Thread Cert.EncodeIdeal.nD Cert.EncodeIdeal.τ).loc Cert.EncodeIdeal.main_arg13) = m ((c.tc : Thread Cert.EncodeIdeal.nD Cert.EncodeIdeal.τ).loc Cert.EncodeIdeal.main_arg13)
      ∧ r.2.mem ((c.tc : Thread Cert.EncodeIdeal.nD Cert.EncodeIdeal.τ).loc Cert.EncodeIdeal.main_arg14) = m ((c.tc : Thread Cert.EncodeIdeal.nD Cert.EncodeIdeal.τ).loc Cert.EncodeIdeal.main_arg14)
      ∧ r.2.mem ((c.tc : Thread Cert.EncodeIdeal.nD Cert.EncodeIdeal.τ).loc Cert.EncodeIdeal.main_arg15) = m ((c.tc : Thread Cert.EncodeIdeal.nD Cert.EncodeIdeal.τ).loc Cert.EncodeIdeal.main_arg15)
      ∧ r.2.mem ((c.tc : Thread Cert.EncodeIdeal.nD Cert.EncodeIdeal.τ).loc Cert.EncodeIdeal.main_arg16) = m ((c.tc : Thread Cert.EncodeIdeal.nD Cert.EncodeIdeal.τ).loc Cert.EncodeIdeal.main_arg16)
      ∧ r.2.mem ((c.tc : Thread Cert.EncodeIdeal.nD Cert.EncodeIdeal.τ).loc Cert.EncodeIdeal.main_arg17) = m ((c.tc : Thread Cert.EncodeIdeal.nD Cert.EncodeIdeal.τ).loc Cert.EncodeIdeal.main_arg17))
      ∧ r.2.sem = fun _ => 0)

def quiescent_EncodeIdeal_pre_all_finite [hEncodeIdeal : Cert.EncodeIdeal.Facts] [hPre_all_finite : Cert.Pre_all_finite.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal_all_finite m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
      ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
      ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
      ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
      ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7)
      ∧ r.2.mem ((c.tc : Thread Cert.EncodeIdeal.nD Cert.EncodeIdeal.τ).loc Cert.EncodeIdeal.main_arg8) = m ((c.tc : Thread Cert.EncodeIdeal.nD Cert.EncodeIdeal.τ).loc Cert.EncodeIdeal.main_arg8)
      ∧ r.2.mem ((c.tc : Thread Cert.EncodeIdeal.nD Cert.EncodeIdeal.τ).loc Cert.EncodeIdeal.main_arg9) = m ((c.tc : Thread Cert.EncodeIdeal.nD Cert.EncodeIdeal.τ).loc Cert.EncodeIdeal.main_arg9)
      ∧ r.2.mem ((c.tc : Thread Cert.EncodeIdeal.nD Cert.EncodeIdeal.τ).loc Cert.EncodeIdeal.main_arg10) = m ((c.tc : Thread Cert.EncodeIdeal.nD Cert.EncodeIdeal.τ).loc Cert.EncodeIdeal.main_arg10)
      ∧ r.2.mem ((c.tc : Thread Cert.EncodeIdeal.nD Cert.EncodeIdeal.τ).loc Cert.EncodeIdeal.main_arg11) = m ((c.tc : Thread Cert.EncodeIdeal.nD Cert.EncodeIdeal.τ).loc Cert.EncodeIdeal.main_arg11)
      ∧ r.2.mem ((c.tc : Thread Cert.EncodeIdeal.nD Cert.EncodeIdeal.τ).loc Cert.EncodeIdeal.main_arg12) = m ((c.tc : Thread Cert.EncodeIdeal.nD Cert.EncodeIdeal.τ).loc Cert.EncodeIdeal.main_arg12)
      ∧ r.2.mem ((c.tc : Thread Cert.EncodeIdeal.nD Cert.EncodeIdeal.τ).loc Cert.EncodeIdeal.main_arg13) = m ((c.tc : Thread Cert.EncodeIdeal.nD Cert.EncodeIdeal.τ).loc Cert.EncodeIdeal.main_arg13)
      ∧ r.2.mem ((c.tc : Thread Cert.EncodeIdeal.nD Cert.EncodeIdeal.τ).loc Cert.EncodeIdeal.main_arg14) = m ((c.tc : Thread Cert.EncodeIdeal.nD Cert.EncodeIdeal.τ).loc Cert.EncodeIdeal.main_arg14)
      ∧ r.2.mem ((c.tc : Thread Cert.EncodeIdeal.nD Cert.EncodeIdeal.τ).loc Cert.EncodeIdeal.main_arg15) = m ((c.tc : Thread Cert.EncodeIdeal.nD Cert.EncodeIdeal.τ).loc Cert.EncodeIdeal.main_arg15)
      ∧ r.2.mem ((c.tc : Thread Cert.EncodeIdeal.nD Cert.EncodeIdeal.τ).loc Cert.EncodeIdeal.main_arg16) = m ((c.tc : Thread Cert.EncodeIdeal.nD Cert.EncodeIdeal.τ).loc Cert.EncodeIdeal.main_arg16)
      ∧ r.2.mem ((c.tc : Thread Cert.EncodeIdeal.nD Cert.EncodeIdeal.τ).loc Cert.EncodeIdeal.main_arg17) = m ((c.tc : Thread Cert.EncodeIdeal.nD Cert.EncodeIdeal.τ).loc Cert.EncodeIdeal.main_arg17))
      ∧ r.2.sem = fun _ => 0)

def quiescent_EncodeReferenceIdeal [hEncodeReferenceIdeal : Cert.EncodeReferenceIdeal.Facts] : Prop :=
  ∀ (m : (ℓ : Loc Cert.EncodeReferenceIdeal.nD Cert.EncodeReferenceIdeal.τ Cert.EncodeReferenceIdeal.sig) → Buf (Elt Ideal) ℓ) (g : Dev Cert.EncodeReferenceIdeal.nD → PrngReg), Pre_EncodeReferenceIdeal m →
    θ_run (Cert.EncodeReferenceIdeal.defs (F := Ideal)) (onTc (τ := Cert.EncodeReferenceIdeal.τ) (Cert.EncodeReferenceIdeal.main (F := Ideal))) ⟨m, fun _ => 0, g⟩ (fun r => (∀ c : Dev Cert.EncodeReferenceIdeal.nD,
      r.2.mem ((c.tc : Thread Cert.EncodeReferenceIdeal.nD Cert.EncodeReferenceIdeal.τ).loc Cert.EncodeReferenceIdeal.main_arg0) = m ((c.tc : Thread Cert.EncodeReferenceIdeal.nD Cert.EncodeReferenceIdeal.τ).loc Cert.EncodeReferenceIdeal.main_arg0)
      ∧ r.2.mem ((c.tc : Thread Cert.EncodeReferenceIdeal.nD Cert.EncodeReferenceIdeal.τ).loc Cert.EncodeReferenceIdeal.main_arg1) = m ((c.tc : Thread Cert.EncodeReferenceIdeal.nD Cert.EncodeReferenceIdeal.τ).loc Cert.EncodeReferenceIdeal.main_arg1)
      ∧ r.2.mem ((c.tc : Thread Cert.EncodeReferenceIdeal.nD Cert.EncodeReferenceIdeal.τ).loc Cert.EncodeReferenceIdeal.main_arg2) = m ((c.tc : Thread Cert.EncodeReferenceIdeal.nD Cert.EncodeReferenceIdeal.τ).loc Cert.EncodeReferenceIdeal.main_arg2)
      ∧ r.2.mem ((c.tc : Thread Cert.EncodeReferenceIdeal.nD Cert.EncodeReferenceIdeal.τ).loc Cert.EncodeReferenceIdeal.main_arg3) = m ((c.tc : Thread Cert.EncodeReferenceIdeal.nD Cert.EncodeReferenceIdeal.τ).loc Cert.EncodeReferenceIdeal.main_arg3)
      ∧ r.2.mem ((c.tc : Thread Cert.EncodeReferenceIdeal.nD Cert.EncodeReferenceIdeal.τ).loc Cert.EncodeReferenceIdeal.main_arg4) = m ((c.tc : Thread Cert.EncodeReferenceIdeal.nD Cert.EncodeReferenceIdeal.τ).loc Cert.EncodeReferenceIdeal.main_arg4)
      ∧ r.2.mem ((c.tc : Thread Cert.EncodeReferenceIdeal.nD Cert.EncodeReferenceIdeal.τ).loc Cert.EncodeReferenceIdeal.main_arg5) = m ((c.tc : Thread Cert.EncodeReferenceIdeal.nD Cert.EncodeReferenceIdeal.τ).loc Cert.EncodeReferenceIdeal.main_arg5)
      ∧ r.2.mem ((c.tc : Thread Cert.EncodeReferenceIdeal.nD Cert.EncodeReferenceIdeal.τ).loc Cert.EncodeReferenceIdeal.main_arg6) = m ((c.tc : Thread Cert.EncodeReferenceIdeal.nD Cert.EncodeReferenceIdeal.τ).loc Cert.EncodeReferenceIdeal.main_arg6)
      ∧ r.2.mem ((c.tc : Thread Cert.EncodeReferenceIdeal.nD Cert.EncodeReferenceIdeal.τ).loc Cert.EncodeReferenceIdeal.main_arg7) = m ((c.tc : Thread Cert.EncodeReferenceIdeal.nD Cert.EncodeReferenceIdeal.τ).loc Cert.EncodeReferenceIdeal.main_arg7)
      ∧ r.2.mem ((c.tc : Thread Cert.EncodeReferenceIdeal.nD Cert.EncodeReferenceIdeal.τ).loc Cert.EncodeReferenceIdeal.main_arg8) = m ((c.tc : Thread Cert.EncodeReferenceIdeal.nD Cert.EncodeReferenceIdeal.τ).loc Cert.EncodeReferenceIdeal.main_arg8)
      ∧ r.2.mem ((c.tc : Thread Cert.EncodeReferenceIdeal.nD Cert.EncodeReferenceIdeal.τ).loc Cert.EncodeReferenceIdeal.main_arg9) = m ((c.tc : Thread Cert.EncodeReferenceIdeal.nD Cert.EncodeReferenceIdeal.τ).loc Cert.EncodeReferenceIdeal.main_arg9)
      ∧ r.2.mem ((c.tc : Thread Cert.EncodeReferenceIdeal.nD Cert.EncodeReferenceIdeal.τ).loc Cert.EncodeReferenceIdeal.main_arg10) = m ((c.tc : Thread Cert.EncodeReferenceIdeal.nD Cert.EncodeReferenceIdeal.τ).loc Cert.EncodeReferenceIdeal.main_arg10)
      ∧ r.2.mem ((c.tc : Thread Cert.EncodeReferenceIdeal.nD Cert.EncodeReferenceIdeal.τ).loc Cert.EncodeReferenceIdeal.main_arg11) = m ((c.tc : Thread Cert.EncodeReferenceIdeal.nD Cert.EncodeReferenceIdeal.τ).loc Cert.EncodeReferenceIdeal.main_arg11)
      ∧ r.2.mem ((c.tc : Thread Cert.EncodeReferenceIdeal.nD Cert.EncodeReferenceIdeal.τ).loc Cert.EncodeReferenceIdeal.main_arg12) = m ((c.tc : Thread Cert.EncodeReferenceIdeal.nD Cert.EncodeReferenceIdeal.τ).loc Cert.EncodeReferenceIdeal.main_arg12)
      ∧ r.2.mem ((c.tc : Thread Cert.EncodeReferenceIdeal.nD Cert.EncodeReferenceIdeal.τ).loc Cert.EncodeReferenceIdeal.main_arg13) = m ((c.tc : Thread Cert.EncodeReferenceIdeal.nD Cert.EncodeReferenceIdeal.τ).loc Cert.EncodeReferenceIdeal.main_arg13)
      ∧ r.2.mem ((c.tc : Thread Cert.EncodeReferenceIdeal.nD Cert.EncodeReferenceIdeal.τ).loc Cert.EncodeReferenceIdeal.main_arg14) = m ((c.tc : Thread Cert.EncodeReferenceIdeal.nD Cert.EncodeReferenceIdeal.τ).loc Cert.EncodeReferenceIdeal.main_arg14)
      ∧ r.2.mem ((c.tc : Thread Cert.EncodeReferenceIdeal.nD Cert.EncodeReferenceIdeal.τ).loc Cert.EncodeReferenceIdeal.main_arg15) = m ((c.tc : Thread Cert.EncodeReferenceIdeal.nD Cert.EncodeReferenceIdeal.τ).loc Cert.EncodeReferenceIdeal.main_arg15)
      ∧ r.2.mem ((c.tc : Thread Cert.EncodeReferenceIdeal.nD Cert.EncodeReferenceIdeal.τ).loc Cert.EncodeReferenceIdeal.main_arg16) = m ((c.tc : Thread Cert.EncodeReferenceIdeal.nD Cert.EncodeReferenceIdeal.τ).loc Cert.EncodeReferenceIdeal.main_arg16)
      ∧ r.2.mem ((c.tc : Thread Cert.EncodeReferenceIdeal.nD Cert.EncodeReferenceIdeal.τ).loc Cert.EncodeReferenceIdeal.main_arg17) = m ((c.tc : Thread Cert.EncodeReferenceIdeal.nD Cert.EncodeReferenceIdeal.τ).loc Cert.EncodeReferenceIdeal.main_arg17))
      ∧ r.2.sem = fun _ => 0)

def quiescent_EncodeReferenceIdeal_pre_all_finite [hEncodeReferenceIdeal : Cert.EncodeReferenceIdeal.Facts] [hPre_all_finite : Cert.Pre_all_finite.Facts] : Prop :=
  ∀ (m : (ℓ : Loc Cert.EncodeReferenceIdeal.nD Cert.EncodeReferenceIdeal.τ Cert.EncodeReferenceIdeal.sig) → Buf (Elt Ideal) ℓ) (g : Dev Cert.EncodeReferenceIdeal.nD → PrngReg), Pre_EncodeReferenceIdeal_all_finite m →
    θ_run (Cert.EncodeReferenceIdeal.defs (F := Ideal)) (onTc (τ := Cert.EncodeReferenceIdeal.τ) (Cert.EncodeReferenceIdeal.main (F := Ideal))) ⟨m, fun _ => 0, g⟩ (fun r => (∀ c : Dev Cert.EncodeReferenceIdeal.nD,
      r.2.mem ((c.tc : Thread Cert.EncodeReferenceIdeal.nD Cert.EncodeReferenceIdeal.τ).loc Cert.EncodeReferenceIdeal.main_arg0) = m ((c.tc : Thread Cert.EncodeReferenceIdeal.nD Cert.EncodeReferenceIdeal.τ).loc Cert.EncodeReferenceIdeal.main_arg0)
      ∧ r.2.mem ((c.tc : Thread Cert.EncodeReferenceIdeal.nD Cert.EncodeReferenceIdeal.τ).loc Cert.EncodeReferenceIdeal.main_arg1) = m ((c.tc : Thread Cert.EncodeReferenceIdeal.nD Cert.EncodeReferenceIdeal.τ).loc Cert.EncodeReferenceIdeal.main_arg1)
      ∧ r.2.mem ((c.tc : Thread Cert.EncodeReferenceIdeal.nD Cert.EncodeReferenceIdeal.τ).loc Cert.EncodeReferenceIdeal.main_arg2) = m ((c.tc : Thread Cert.EncodeReferenceIdeal.nD Cert.EncodeReferenceIdeal.τ).loc Cert.EncodeReferenceIdeal.main_arg2)
      ∧ r.2.mem ((c.tc : Thread Cert.EncodeReferenceIdeal.nD Cert.EncodeReferenceIdeal.τ).loc Cert.EncodeReferenceIdeal.main_arg3) = m ((c.tc : Thread Cert.EncodeReferenceIdeal.nD Cert.EncodeReferenceIdeal.τ).loc Cert.EncodeReferenceIdeal.main_arg3)
      ∧ r.2.mem ((c.tc : Thread Cert.EncodeReferenceIdeal.nD Cert.EncodeReferenceIdeal.τ).loc Cert.EncodeReferenceIdeal.main_arg4) = m ((c.tc : Thread Cert.EncodeReferenceIdeal.nD Cert.EncodeReferenceIdeal.τ).loc Cert.EncodeReferenceIdeal.main_arg4)
      ∧ r.2.mem ((c.tc : Thread Cert.EncodeReferenceIdeal.nD Cert.EncodeReferenceIdeal.τ).loc Cert.EncodeReferenceIdeal.main_arg5) = m ((c.tc : Thread Cert.EncodeReferenceIdeal.nD Cert.EncodeReferenceIdeal.τ).loc Cert.EncodeReferenceIdeal.main_arg5)
      ∧ r.2.mem ((c.tc : Thread Cert.EncodeReferenceIdeal.nD Cert.EncodeReferenceIdeal.τ).loc Cert.EncodeReferenceIdeal.main_arg6) = m ((c.tc : Thread Cert.EncodeReferenceIdeal.nD Cert.EncodeReferenceIdeal.τ).loc Cert.EncodeReferenceIdeal.main_arg6)
      ∧ r.2.mem ((c.tc : Thread Cert.EncodeReferenceIdeal.nD Cert.EncodeReferenceIdeal.τ).loc Cert.EncodeReferenceIdeal.main_arg7) = m ((c.tc : Thread Cert.EncodeReferenceIdeal.nD Cert.EncodeReferenceIdeal.τ).loc Cert.EncodeReferenceIdeal.main_arg7)
      ∧ r.2.mem ((c.tc : Thread Cert.EncodeReferenceIdeal.nD Cert.EncodeReferenceIdeal.τ).loc Cert.EncodeReferenceIdeal.main_arg8) = m ((c.tc : Thread Cert.EncodeReferenceIdeal.nD Cert.EncodeReferenceIdeal.τ).loc Cert.EncodeReferenceIdeal.main_arg8)
      ∧ r.2.mem ((c.tc : Thread Cert.EncodeReferenceIdeal.nD Cert.EncodeReferenceIdeal.τ).loc Cert.EncodeReferenceIdeal.main_arg9) = m ((c.tc : Thread Cert.EncodeReferenceIdeal.nD Cert.EncodeReferenceIdeal.τ).loc Cert.EncodeReferenceIdeal.main_arg9)
      ∧ r.2.mem ((c.tc : Thread Cert.EncodeReferenceIdeal.nD Cert.EncodeReferenceIdeal.τ).loc Cert.EncodeReferenceIdeal.main_arg10) = m ((c.tc : Thread Cert.EncodeReferenceIdeal.nD Cert.EncodeReferenceIdeal.τ).loc Cert.EncodeReferenceIdeal.main_arg10)
      ∧ r.2.mem ((c.tc : Thread Cert.EncodeReferenceIdeal.nD Cert.EncodeReferenceIdeal.τ).loc Cert.EncodeReferenceIdeal.main_arg11) = m ((c.tc : Thread Cert.EncodeReferenceIdeal.nD Cert.EncodeReferenceIdeal.τ).loc Cert.EncodeReferenceIdeal.main_arg11)
      ∧ r.2.mem ((c.tc : Thread Cert.EncodeReferenceIdeal.nD Cert.EncodeReferenceIdeal.τ).loc Cert.EncodeReferenceIdeal.main_arg12) = m ((c.tc : Thread Cert.EncodeReferenceIdeal.nD Cert.EncodeReferenceIdeal.τ).loc Cert.EncodeReferenceIdeal.main_arg12)
      ∧ r.2.mem ((c.tc : Thread Cert.EncodeReferenceIdeal.nD Cert.EncodeReferenceIdeal.τ).loc Cert.EncodeReferenceIdeal.main_arg13) = m ((c.tc : Thread Cert.EncodeReferenceIdeal.nD Cert.EncodeReferenceIdeal.τ).loc Cert.EncodeReferenceIdeal.main_arg13)
      ∧ r.2.mem ((c.tc : Thread Cert.EncodeReferenceIdeal.nD Cert.EncodeReferenceIdeal.τ).loc Cert.EncodeReferenceIdeal.main_arg14) = m ((c.tc : Thread Cert.EncodeReferenceIdeal.nD Cert.EncodeReferenceIdeal.τ).loc Cert.EncodeReferenceIdeal.main_arg14)
      ∧ r.2.mem ((c.tc : Thread Cert.EncodeReferenceIdeal.nD Cert.EncodeReferenceIdeal.τ).loc Cert.EncodeReferenceIdeal.main_arg15) = m ((c.tc : Thread Cert.EncodeReferenceIdeal.nD Cert.EncodeReferenceIdeal.τ).loc Cert.EncodeReferenceIdeal.main_arg15)
      ∧ r.2.mem ((c.tc : Thread Cert.EncodeReferenceIdeal.nD Cert.EncodeReferenceIdeal.τ).loc Cert.EncodeReferenceIdeal.main_arg16) = m ((c.tc : Thread Cert.EncodeReferenceIdeal.nD Cert.EncodeReferenceIdeal.τ).loc Cert.EncodeReferenceIdeal.main_arg16)
      ∧ r.2.mem ((c.tc : Thread Cert.EncodeReferenceIdeal.nD Cert.EncodeReferenceIdeal.τ).loc Cert.EncodeReferenceIdeal.main_arg17) = m ((c.tc : Thread Cert.EncodeReferenceIdeal.nD Cert.EncodeReferenceIdeal.τ).loc Cert.EncodeReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Encode_EncodeIdeal : Prop :=
  True

def algebraic_EncodeIdeal_EncodeReferenceIdeal_pre_all_finite [hEncodeIdeal : Cert.EncodeIdeal.Facts] [hEncodeReferenceIdeal : Cert.EncodeReferenceIdeal.Facts] [hPre_all_finite : Cert.Pre_all_finite.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodeReferenceIdeal.nD Cert.EncodeReferenceIdeal.τ Cert.EncodeReferenceIdeal.sig) → Buf (Elt Ideal) ℓ) (g' : Dev Cert.EncodeReferenceIdeal.nD → PrngReg), Pre_EncodeIdeal_all_finite m →
    (∀ c : Dev Cert.EncodeIdeal.nD,
      m' ((c.tc : Thread Cert.EncodeReferenceIdeal.nD Cert.EncodeReferenceIdeal.τ).loc Cert.EncodeReferenceIdeal.main_arg0) = m ((c.tc : Thread Cert.EncodeIdeal.nD Cert.EncodeIdeal.τ).loc Cert.EncodeIdeal.main_arg0)
      ∧ m' ((c.tc : Thread Cert.EncodeReferenceIdeal.nD Cert.EncodeReferenceIdeal.τ).loc Cert.EncodeReferenceIdeal.main_arg1) = m ((c.tc : Thread Cert.EncodeIdeal.nD Cert.EncodeIdeal.τ).loc Cert.EncodeIdeal.main_arg1)
      ∧ m' ((c.tc : Thread Cert.EncodeReferenceIdeal.nD Cert.EncodeReferenceIdeal.τ).loc Cert.EncodeReferenceIdeal.main_arg2) = m ((c.tc : Thread Cert.EncodeIdeal.nD Cert.EncodeIdeal.τ).loc Cert.EncodeIdeal.main_arg2)
      ∧ m' ((c.tc : Thread Cert.EncodeReferenceIdeal.nD Cert.EncodeReferenceIdeal.τ).loc Cert.EncodeReferenceIdeal.main_arg3) = m ((c.tc : Thread Cert.EncodeIdeal.nD Cert.EncodeIdeal.τ).loc Cert.EncodeIdeal.main_arg3)
      ∧ m' ((c.tc : Thread Cert.EncodeReferenceIdeal.nD Cert.EncodeReferenceIdeal.τ).loc Cert.EncodeReferenceIdeal.main_arg4) = m ((c.tc : Thread Cert.EncodeIdeal.nD Cert.EncodeIdeal.τ).loc Cert.EncodeIdeal.main_arg4)
      ∧ m' ((c.tc : Thread Cert.EncodeReferenceIdeal.nD Cert.EncodeReferenceIdeal.τ).loc Cert.EncodeReferenceIdeal.main_arg5) = m ((c.tc : Thread Cert.EncodeIdeal.nD Cert.EncodeIdeal.τ).loc Cert.EncodeIdeal.main_arg5)
      ∧ m' ((c.tc : Thread Cert.EncodeReferenceIdeal.nD Cert.EncodeReferenceIdeal.τ).loc Cert.EncodeReferenceIdeal.main_arg6) = m ((c.tc : Thread Cert.EncodeIdeal.nD Cert.EncodeIdeal.τ).loc Cert.EncodeIdeal.main_arg6)
      ∧ m' ((c.tc : Thread Cert.EncodeReferenceIdeal.nD Cert.EncodeReferenceIdeal.τ).loc Cert.EncodeReferenceIdeal.main_arg7) = m ((c.tc : Thread Cert.EncodeIdeal.nD Cert.EncodeIdeal.τ).loc Cert.EncodeIdeal.main_arg7)
      ∧ m' ((c.tc : Thread Cert.EncodeReferenceIdeal.nD Cert.EncodeReferenceIdeal.τ).loc Cert.EncodeReferenceIdeal.main_arg8) = m ((c.tc : Thread Cert.EncodeIdeal.nD Cert.EncodeIdeal.τ).loc Cert.EncodeIdeal.main_arg8)
      ∧ m' ((c.tc : Thread Cert.EncodeReferenceIdeal.nD Cert.EncodeReferenceIdeal.τ).loc Cert.EncodeReferenceIdeal.main_arg9) = m ((c.tc : Thread Cert.EncodeIdeal.nD Cert.EncodeIdeal.τ).loc Cert.EncodeIdeal.main_arg9)
      ∧ m' ((c.tc : Thread Cert.EncodeReferenceIdeal.nD Cert.EncodeReferenceIdeal.τ).loc Cert.EncodeReferenceIdeal.main_arg10) = m ((c.tc : Thread Cert.EncodeIdeal.nD Cert.EncodeIdeal.τ).loc Cert.EncodeIdeal.main_arg10)
      ∧ m' ((c.tc : Thread Cert.EncodeReferenceIdeal.nD Cert.EncodeReferenceIdeal.τ).loc Cert.EncodeReferenceIdeal.main_arg11) = m ((c.tc : Thread Cert.EncodeIdeal.nD Cert.EncodeIdeal.τ).loc Cert.EncodeIdeal.main_arg11)
      ∧ m' ((c.tc : Thread Cert.EncodeReferenceIdeal.nD Cert.EncodeReferenceIdeal.τ).loc Cert.EncodeReferenceIdeal.main_arg12) = m ((c.tc : Thread Cert.EncodeIdeal.nD Cert.EncodeIdeal.τ).loc Cert.EncodeIdeal.main_arg12)
      ∧ m' ((c.tc : Thread Cert.EncodeReferenceIdeal.nD Cert.EncodeReferenceIdeal.τ).loc Cert.EncodeReferenceIdeal.main_arg13) = m ((c.tc : Thread Cert.EncodeIdeal.nD Cert.EncodeIdeal.τ).loc Cert.EncodeIdeal.main_arg13)
      ∧ m' ((c.tc : Thread Cert.EncodeReferenceIdeal.nD Cert.EncodeReferenceIdeal.τ).loc Cert.EncodeReferenceIdeal.main_arg14) = m ((c.tc : Thread Cert.EncodeIdeal.nD Cert.EncodeIdeal.τ).loc Cert.EncodeIdeal.main_arg14)
      ∧ m' ((c.tc : Thread Cert.EncodeReferenceIdeal.nD Cert.EncodeReferenceIdeal.τ).loc Cert.EncodeReferenceIdeal.main_arg15) = m ((c.tc : Thread Cert.EncodeIdeal.nD Cert.EncodeIdeal.τ).loc Cert.EncodeIdeal.main_arg15)
      ∧ m' ((c.tc : Thread Cert.EncodeReferenceIdeal.nD Cert.EncodeReferenceIdeal.τ).loc Cert.EncodeReferenceIdeal.main_arg16) = m ((c.tc : Thread Cert.EncodeIdeal.nD Cert.EncodeIdeal.τ).loc Cert.EncodeIdeal.main_arg16)
      ∧ m' ((c.tc : Thread Cert.EncodeReferenceIdeal.nD Cert.EncodeReferenceIdeal.τ).loc Cert.EncodeReferenceIdeal.main_arg17) = m ((c.tc : Thread Cert.EncodeIdeal.nD Cert.EncodeIdeal.τ).loc Cert.EncodeIdeal.main_arg17)) →
    ∃ (v0 : (c : Dev Cert.EncodeIdeal.nD) → Buf (Elt Ideal) ((c.tc : Thread Cert.EncodeIdeal.nD Cert.EncodeIdeal.τ).loc Cert.EncodeIdeal.main_v57)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v57) = v0 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
          ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
          ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
          ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
          ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
          ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7)
          ∧ r.2.mem ((c.tc : Thread Cert.EncodeIdeal.nD Cert.EncodeIdeal.τ).loc Cert.EncodeIdeal.main_arg8) = m ((c.tc : Thread Cert.EncodeIdeal.nD Cert.EncodeIdeal.τ).loc Cert.EncodeIdeal.main_arg8)
          ∧ r.2.mem ((c.tc : Thread Cert.EncodeIdeal.nD Cert.EncodeIdeal.τ).loc Cert.EncodeIdeal.main_arg9) = m ((c.tc : Thread Cert.EncodeIdeal.nD Cert.EncodeIdeal.τ).loc Cert.EncodeIdeal.main_arg9)
          ∧ r.2.mem ((c.tc : Thread Cert.EncodeIdeal.nD Cert.EncodeIdeal.τ).loc Cert.EncodeIdeal.main_arg10) = m ((c.tc : Thread Cert.EncodeIdeal.nD Cert.EncodeIdeal.τ).loc Cert.EncodeIdeal.main_arg10)
          ∧ r.2.mem ((c.tc : Thread Cert.EncodeIdeal.nD Cert.EncodeIdeal.τ).loc Cert.EncodeIdeal.main_arg11) = m ((c.tc : Thread Cert.EncodeIdeal.nD Cert.EncodeIdeal.τ).loc Cert.EncodeIdeal.main_arg11)
          ∧ r.2.mem ((c.tc : Thread Cert.EncodeIdeal.nD Cert.EncodeIdeal.τ).loc Cert.EncodeIdeal.main_arg12) = m ((c.tc : Thread Cert.EncodeIdeal.nD Cert.EncodeIdeal.τ).loc Cert.EncodeIdeal.main_arg12)
          ∧ r.2.mem ((c.tc : Thread Cert.EncodeIdeal.nD Cert.EncodeIdeal.τ).loc Cert.EncodeIdeal.main_arg13) = m ((c.tc : Thread Cert.EncodeIdeal.nD Cert.EncodeIdeal.τ).loc Cert.EncodeIdeal.main_arg13)
          ∧ r.2.mem ((c.tc : Thread Cert.EncodeIdeal.nD Cert.EncodeIdeal.τ).loc Cert.EncodeIdeal.main_arg14) = m ((c.tc : Thread Cert.EncodeIdeal.nD Cert.EncodeIdeal.τ).loc Cert.EncodeIdeal.main_arg14)
          ∧ r.2.mem ((c.tc : Thread Cert.EncodeIdeal.nD Cert.EncodeIdeal.τ).loc Cert.EncodeIdeal.main_arg15) = m ((c.tc : Thread Cert.EncodeIdeal.nD Cert.EncodeIdeal.τ).loc Cert.EncodeIdeal.main_arg15)
          ∧ r.2.mem ((c.tc : Thread Cert.EncodeIdeal.nD Cert.EncodeIdeal.τ).loc Cert.EncodeIdeal.main_arg16) = m ((c.tc : Thread Cert.EncodeIdeal.nD Cert.EncodeIdeal.τ).loc Cert.EncodeIdeal.main_arg16)
          ∧ r.2.mem ((c.tc : Thread Cert.EncodeIdeal.nD Cert.EncodeIdeal.τ).loc Cert.EncodeIdeal.main_arg17) = m ((c.tc : Thread Cert.EncodeIdeal.nD Cert.EncodeIdeal.τ).loc Cert.EncodeIdeal.main_arg17))
      ∧ θ_run (Cert.EncodeReferenceIdeal.defs (F := Ideal)) (onTc (τ := Cert.EncodeReferenceIdeal.τ) (Cert.EncodeReferenceIdeal.main (F := Ideal))) ⟨m', fun _ => 0, g'⟩ (fun r => ∀ c : Dev Cert.EncodeReferenceIdeal.nD,
          r.2.mem ((c.tc : Thread Cert.EncodeReferenceIdeal.nD Cert.EncodeReferenceIdeal.τ).loc Cert.EncodeReferenceIdeal.main_v266) = v0 c
          ∧ r.2.mem ((c.tc : Thread Cert.EncodeReferenceIdeal.nD Cert.EncodeReferenceIdeal.τ).loc Cert.EncodeReferenceIdeal.main_arg0) = m' ((c.tc : Thread Cert.EncodeReferenceIdeal.nD Cert.EncodeReferenceIdeal.τ).loc Cert.EncodeReferenceIdeal.main_arg0)
          ∧ r.2.mem ((c.tc : Thread Cert.EncodeReferenceIdeal.nD Cert.EncodeReferenceIdeal.τ).loc Cert.EncodeReferenceIdeal.main_arg1) = m' ((c.tc : Thread Cert.EncodeReferenceIdeal.nD Cert.EncodeReferenceIdeal.τ).loc Cert.EncodeReferenceIdeal.main_arg1)
          ∧ r.2.mem ((c.tc : Thread Cert.EncodeReferenceIdeal.nD Cert.EncodeReferenceIdeal.τ).loc Cert.EncodeReferenceIdeal.main_arg2) = m' ((c.tc : Thread Cert.EncodeReferenceIdeal.nD Cert.EncodeReferenceIdeal.τ).loc Cert.EncodeReferenceIdeal.main_arg2)
          ∧ r.2.mem ((c.tc : Thread Cert.EncodeReferenceIdeal.nD Cert.EncodeReferenceIdeal.τ).loc Cert.EncodeReferenceIdeal.main_arg3) = m' ((c.tc : Thread Cert.EncodeReferenceIdeal.nD Cert.EncodeReferenceIdeal.τ).loc Cert.EncodeReferenceIdeal.main_arg3)
          ∧ r.2.mem ((c.tc : Thread Cert.EncodeReferenceIdeal.nD Cert.EncodeReferenceIdeal.τ).loc Cert.EncodeReferenceIdeal.main_arg4) = m' ((c.tc : Thread Cert.EncodeReferenceIdeal.nD Cert.EncodeReferenceIdeal.τ).loc Cert.EncodeReferenceIdeal.main_arg4)
          ∧ r.2.mem ((c.tc : Thread Cert.EncodeReferenceIdeal.nD Cert.EncodeReferenceIdeal.τ).loc Cert.EncodeReferenceIdeal.main_arg5) = m' ((c.tc : Thread Cert.EncodeReferenceIdeal.nD Cert.EncodeReferenceIdeal.τ).loc Cert.EncodeReferenceIdeal.main_arg5)
          ∧ r.2.mem ((c.tc : Thread Cert.EncodeReferenceIdeal.nD Cert.EncodeReferenceIdeal.τ).loc Cert.EncodeReferenceIdeal.main_arg6) = m' ((c.tc : Thread Cert.EncodeReferenceIdeal.nD Cert.EncodeReferenceIdeal.τ).loc Cert.EncodeReferenceIdeal.main_arg6)
          ∧ r.2.mem ((c.tc : Thread Cert.EncodeReferenceIdeal.nD Cert.EncodeReferenceIdeal.τ).loc Cert.EncodeReferenceIdeal.main_arg7) = m' ((c.tc : Thread Cert.EncodeReferenceIdeal.nD Cert.EncodeReferenceIdeal.τ).loc Cert.EncodeReferenceIdeal.main_arg7)
          ∧ r.2.mem ((c.tc : Thread Cert.EncodeReferenceIdeal.nD Cert.EncodeReferenceIdeal.τ).loc Cert.EncodeReferenceIdeal.main_arg8) = m' ((c.tc : Thread Cert.EncodeReferenceIdeal.nD Cert.EncodeReferenceIdeal.τ).loc Cert.EncodeReferenceIdeal.main_arg8)
          ∧ r.2.mem ((c.tc : Thread Cert.EncodeReferenceIdeal.nD Cert.EncodeReferenceIdeal.τ).loc Cert.EncodeReferenceIdeal.main_arg9) = m' ((c.tc : Thread Cert.EncodeReferenceIdeal.nD Cert.EncodeReferenceIdeal.τ).loc Cert.EncodeReferenceIdeal.main_arg9)
          ∧ r.2.mem ((c.tc : Thread Cert.EncodeReferenceIdeal.nD Cert.EncodeReferenceIdeal.τ).loc Cert.EncodeReferenceIdeal.main_arg10) = m' ((c.tc : Thread Cert.EncodeReferenceIdeal.nD Cert.EncodeReferenceIdeal.τ).loc Cert.EncodeReferenceIdeal.main_arg10)
          ∧ r.2.mem ((c.tc : Thread Cert.EncodeReferenceIdeal.nD Cert.EncodeReferenceIdeal.τ).loc Cert.EncodeReferenceIdeal.main_arg11) = m' ((c.tc : Thread Cert.EncodeReferenceIdeal.nD Cert.EncodeReferenceIdeal.τ).loc Cert.EncodeReferenceIdeal.main_arg11)
          ∧ r.2.mem ((c.tc : Thread Cert.EncodeReferenceIdeal.nD Cert.EncodeReferenceIdeal.τ).loc Cert.EncodeReferenceIdeal.main_arg12) = m' ((c.tc : Thread Cert.EncodeReferenceIdeal.nD Cert.EncodeReferenceIdeal.τ).loc Cert.EncodeReferenceIdeal.main_arg12)
          ∧ r.2.mem ((c.tc : Thread Cert.EncodeReferenceIdeal.nD Cert.EncodeReferenceIdeal.τ).loc Cert.EncodeReferenceIdeal.main_arg13) = m' ((c.tc : Thread Cert.EncodeReferenceIdeal.nD Cert.EncodeReferenceIdeal.τ).loc Cert.EncodeReferenceIdeal.main_arg13)
          ∧ r.2.mem ((c.tc : Thread Cert.EncodeReferenceIdeal.nD Cert.EncodeReferenceIdeal.τ).loc Cert.EncodeReferenceIdeal.main_arg14) = m' ((c.tc : Thread Cert.EncodeReferenceIdeal.nD Cert.EncodeReferenceIdeal.τ).loc Cert.EncodeReferenceIdeal.main_arg14)
          ∧ r.2.mem ((c.tc : Thread Cert.EncodeReferenceIdeal.nD Cert.EncodeReferenceIdeal.τ).loc Cert.EncodeReferenceIdeal.main_arg15) = m' ((c.tc : Thread Cert.EncodeReferenceIdeal.nD Cert.EncodeReferenceIdeal.τ).loc Cert.EncodeReferenceIdeal.main_arg15)
          ∧ r.2.mem ((c.tc : Thread Cert.EncodeReferenceIdeal.nD Cert.EncodeReferenceIdeal.τ).loc Cert.EncodeReferenceIdeal.main_arg16) = m' ((c.tc : Thread Cert.EncodeReferenceIdeal.nD Cert.EncodeReferenceIdeal.τ).loc Cert.EncodeReferenceIdeal.main_arg16)
          ∧ r.2.mem ((c.tc : Thread Cert.EncodeReferenceIdeal.nD Cert.EncodeReferenceIdeal.τ).loc Cert.EncodeReferenceIdeal.main_arg17) = m' ((c.tc : Thread Cert.EncodeReferenceIdeal.nD Cert.EncodeReferenceIdeal.τ).loc Cert.EncodeReferenceIdeal.main_arg17))

def Claim : Prop :=
  ∃ (hKernel : Cert.Kernel.Facts) (hKernelIdeal : Cert.KernelIdeal.Facts) (hReferenceIdeal : Cert.ReferenceIdeal.Facts) (hEncode : Cert.Encode.Facts) (hEncodeIdeal : Cert.EncodeIdeal.Facts) (hEncodeReferenceIdeal : Cert.EncodeReferenceIdeal.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_Encode (hEncode := hEncode)
    ∧ quiescent_EncodeIdeal (hEncodeIdeal := hEncodeIdeal)
    ∧ quiescent_EncodeIdeal_pre_all_finite (hEncodeIdeal := hEncodeIdeal) (hPre_all_finite := hPre_all_finite)
    ∧ quiescent_EncodeReferenceIdeal (hEncodeReferenceIdeal := hEncodeReferenceIdeal)
    ∧ quiescent_EncodeReferenceIdeal_pre_all_finite (hEncodeReferenceIdeal := hEncodeReferenceIdeal) (hPre_all_finite := hPre_all_finite)
    ∧ preserves_Kernel_KernelIdeal
    ∧ algebraic_KernelIdeal_ReferenceIdeal (hKernelIdeal := hKernelIdeal) (hReferenceIdeal := hReferenceIdeal)
    ∧ preserves_Encode_EncodeIdeal
    ∧ algebraic_EncodeIdeal_EncodeReferenceIdeal_pre_all_finite (hEncodeIdeal := hEncodeIdeal) (hEncodeReferenceIdeal := hEncodeReferenceIdeal) (hPre_all_finite := hPre_all_finite)
-- ==== Pre_all_finite.lean ====
abbrev S2x15x3x84x84 : Shape := ⟨5, ![2, 15, 3, 84, 84]⟩
abbrev S2x5x5x3x84x84 : Shape := ⟨6, ![2, 5, 5, 3, 84, 84]⟩
abbrev S64x3x3x3 : Shape := ⟨4, ![64, 3, 3, 3]⟩
abbrev S64 : Shape := ⟨1, ![64]⟩
abbrev S64x64x3x3 : Shape := ⟨4, ![64, 64, 3, 3]⟩
abbrev S_ : Shape := ⟨0, ![]⟩

class Facts : Prop where
  bcast_S_S2x15x3x84x84 : S_.BroadcastsInDim S2x15x3x84x84 (![] : Fin 0 → Fin S2x15x3x84x84.rank)
  bcast_S_S2x5x5x3x84x84 : S_.BroadcastsInDim S2x5x5x3x84x84 (![] : Fin 0 → Fin S2x5x5x3x84x84.rank)
  bcast_S_S64x3x3x3 : S_.BroadcastsInDim S64x3x3x3 (![] : Fin 0 → Fin S64x3x3x3.rank)
  bcast_S_S64 : S_.BroadcastsInDim S64 (![] : Fin 0 → Fin S64.rank)
  bcast_S_S64x64x3x3 : S_.BroadcastsInDim S64x64x3x3 (![] : Fin 0 → Fin S64x64x3x3.rank)

variable [Facts]

def fn_part2 {F : FTy → Type} [FloatOps F] (main_arg12 : FVec F S64 .f32) (main_arg13 : FVec F S64 .f32) (main_arg14 : FVec F S64x64x3x3 .f32) (main_arg16 : FVec F S64 .f32) (main_v2 : IVec S2x15x3x84x84 1) (main_v5 : IVec S2x5x5x3x84x84 1) (main_v8 : IVec S64x3x3x3 1) (main_v11 : IVec S64 1) (main_v14 : IVec S64 1) (main_v17 : IVec S64 1) (main_v20 : IVec S64x64x3x3 1) (main_v23 : IVec S64 1) (main_v26 : IVec S64 1) (main_v29 : IVec S64 1) (main_v32 : IVec S64x64x3x3 1) (main_v35 : IVec S64 1) : IVec S2x15x3x84x84 1 × IVec S2x5x5x3x84x84 1 × IVec S64x3x3x3 1 × IVec S64 1 × IVec S64 1 × IVec S64 1 × IVec S64x64x3x3 1 × IVec S64 1 × IVec S64 1 × IVec S64 1 × IVec S64x64x3x3 1 × IVec S64 1 × IVec S64 1 × IVec S64 1 × IVec S64x64x3x3 1 × IVec S64 1 :=
  let main_v36 : FVec F S64 .f32 := Host.absf main_arg12
  let main_cst_11 : FVec F S_ .f32 := constant S_ .f32 0x7F800000#32
  let main_v37 : FVec F S64 .f32 := broadcastInDim S64 ![] bcast_S_S64 main_cst_11
  let main_v38 : IVec S64 1 := cmpf .olt main_v36 main_v37
  let main_v39 : FVec F S64 .f32 := Host.absf main_arg13
  let main_cst_12 : FVec F S_ .f32 := constant S_ .f32 0x7F800000#32
  let main_v40 : FVec F S64 .f32 := broadcastInDim S64 ![] bcast_S_S64 main_cst_12
  let main_v41 : IVec S64 1 := cmpf .olt main_v39 main_v40
  let main_v42 : FVec F S64x64x3x3 .f32 := Host.absf main_arg14
  let main_cst_13 : FVec F S_ .f32 := constant S_ .f32 0x7F800000#32
  let main_v43 : FVec F S64x64x3x3 .f32 := broadcastInDim S64x64x3x3 ![] bcast_S_S64x64x3x3 main_cst_13
  let main_v44 : IVec S64x64x3x3 1 := cmpf .olt main_v42 main_v43
  let main_v45 : FVec F S64 .f32 := Host.absf main_arg16
  let main_cst_14 : FVec F S_ .f32 := constant S_ .f32 0x7F800000#32
  let main_v46 : FVec F S64 .f32 := broadcastInDim S64 ![] bcast_S_S64 main_cst_14
  let main_v47 : IVec S64 1 := cmpf .olt main_v45 main_v46
  (main_v2, main_v5, main_v8, main_v11, main_v14, main_v17, main_v20, main_v23, main_v26, main_v29, main_v32, main_v35, main_v38, main_v41, main_v44, main_v47)

def fn_part1 {F : FTy → Type} [FloatOps F] (main_arg6 : FVec F S64x64x3x3 .f32) (main_arg7 : FVec F S64 .f32) (main_arg8 : FVec F S64 .f32) (main_arg9 : FVec F S64 .f32) (main_arg10 : FVec F S64x64x3x3 .f32) (main_arg11 : FVec F S64 .f32) (main_arg12 : FVec F S64 .f32) (main_arg13 : FVec F S64 .f32) (main_arg14 : FVec F S64x64x3x3 .f32) (main_arg16 : FVec F S64 .f32) (main_v2 : IVec S2x15x3x84x84 1) (main_v5 : IVec S2x5x5x3x84x84 1) (main_v8 : IVec S64x3x3x3 1) (main_v11 : IVec S64 1) (main_v14 : IVec S64 1) (main_v17 : IVec S64 1) : IVec S2x15x3x84x84 1 × IVec S2x5x5x3x84x84 1 × IVec S64x3x3x3 1 × IVec S64 1 × IVec S64 1 × IVec S64 1 × IVec S64x64x3x3 1 × IVec S64 1 × IVec S64 1 × IVec S64 1 × IVec S64x64x3x3 1 × IVec S64 1 × IVec S64 1 × IVec S64 1 × IVec S64x64x3x3 1 × IVec S64 1 :=
  let main_v18 : FVec F S64x64x3x3 .f32 := Host.absf main_arg6
  let main_cst_5 : FVec F S_ .f32 := constant S_ .f32 0x7F800000#32
  let main_v19 : FVec F S64x64x3x3 .f32 := broadcastInDim S64x64x3x3 ![] bcast_S_S64x64x3x3 main_cst_5
  let main_v20 : IVec S64x64x3x3 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S64 .f32 := Host.absf main_arg9
  let main_cst_8 : FVec F S_ .f32 := constant S_ .f32 0x7F800000#32
  let main_v28 : FVec F S64 .f32 := broadcastInDim S64 ![] bcast_S_S64 main_cst_8
  let main_v29 : IVec S64 1 := cmpf .olt main_v27 main_v28
  let main_v30 : FVec F S64x64x3x3 .f32 := Host.absf main_arg10
  let main_cst_9 : FVec F S_ .f32 := constant S_ .f32 0x7F800000#32
  let main_v31 : FVec F S64x64x3x3 .f32 := broadcastInDim S64x64x3x3 ![] bcast_S_S64x64x3x3 main_cst_9
  let main_v32 : IVec S64x64x3x3 1 := cmpf .olt main_v30 main_v31
  let main_v33 : FVec F S64 .f32 := Host.absf main_arg11
  let main_cst_10 : FVec F S_ .f32 := constant S_ .f32 0x7F800000#32
  let main_v34 : FVec F S64 .f32 := broadcastInDim S64 ![] bcast_S_S64 main_cst_10
  let main_v35 : IVec S64 1 := cmpf .olt main_v33 main_v34
  fn_part2 (F := F) main_arg12 main_arg13 main_arg14 main_arg16 main_v2 main_v5 main_v8 main_v11 main_v14 main_v17 main_v20 main_v23 main_v26 main_v29 main_v32 main_v35

def fn {F : FTy → Type} [FloatOps F] (main_arg0 : FVec F S2x15x3x84x84 .f32) (main_arg1 : FVec F S2x5x5x3x84x84 .f32) (main_arg2 : FVec F S64x3x3x3 .f32) (main_arg3 : FVec F S64 .f32) (main_arg4 : FVec F S64 .f32) (main_arg5 : FVec F S64 .f32) (main_arg6 : FVec F S64x64x3x3 .f32) (main_arg7 : FVec F S64 .f32) (main_arg8 : FVec F S64 .f32) (main_arg9 : FVec F S64 .f32) (main_arg10 : FVec F S64x64x3x3 .f32) (main_arg11 : FVec F S64 .f32) (main_arg12 : FVec F S64 .f32) (main_arg13 : FVec F S64 .f32) (main_arg14 : FVec F S64x64x3x3 .f32) (main_arg15 : FVec F S64 .f32) (main_arg16 : FVec F S64 .f32) (main_arg17 : FVec F S64 .f32) : IVec S2x15x3x84x84 1 × IVec S2x5x5x3x84x84 1 × IVec S64x3x3x3 1 × IVec S64 1 × IVec S64 1 × IVec S64 1 × IVec S64x64x3x3 1 × IVec S64 1 × IVec S64 1 × IVec S64 1 × IVec S64x64x3x3 1 × IVec S64 1 × IVec S64 1 × IVec S64 1 × IVec S64x64x3x3 1 × IVec S64 1 :=
  let main_v0 : FVec F S2x15x3x84x84 .f32 := Host.absf main_arg0
  let main_cst : FVec F S_ .f32 := constant S_ .f32 0x7F800000#32
  let main_v1 : FVec F S2x15x3x84x84 .f32 := broadcastInDim S2x15x3x84x84 ![] bcast_S_S2x15x3x84x84 main_cst
  let main_v2 : IVec S2x15x3x84x84 1 := cmpf .olt main_v0 main_v1
  let main_v3 : FVec F S2x5x5x3x84x84 .f32 := Host.absf main_arg1
  let main_cst_0 : FVec F S_ .f32 := constant S_ .f32 0x7F800000#32
  let main_v4 : FVec F S2x5x5x3x84x84 .f32 := broadcastInDim S2x5x5x3x84x84 ![] bcast_S_S2x5x5x3x84x84 main_cst_0
  let main_v5 : IVec S2x5x5x3x84x84 1 := cmpf .olt main_v3 main_v4
  let main_v6 : FVec F S64x3x3x3 .f32 := Host.absf main_arg2
  let main_cst_1 : FVec F S_ .f32 := constant S_ .f32 0x7F800000#32
  let main_v7 : FVec F S64x3x3x3 .f32 := broadcastInDim S64x3x3x3 ![] bcast_S_S64x3x3x3 main_cst_1
  let main_v8 : IVec S64x3x3x3 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_arg9 main_arg10 main_arg11 main_arg12 main_arg13 main_arg14 main_arg16 main_v2 main_v5 main_v8 main_v11 main_v14 main_v17
-- ==== Kernel.lean ====
abbrev S80x64x441 : Shape := ⟨3, ![80, 64, 441]⟩
abbrev S30x64x441 : Shape := ⟨3, ![30, 64, 441]⟩
abbrev S50x64x441 : Shape := ⟨3, ![50, 64, 441]⟩
abbrev S2x5x5x64x441 : Shape := ⟨5, ![2, 5, 5, 64, 441]⟩
abbrev S2x5x64x5x441 : Shape := ⟨5, ![2, 5, 64, 5, 441]⟩
abbrev S2x320x2205 : Shape := ⟨3, ![2, 320, 2205]⟩
abbrev S30x5x1x1 : Shape := ⟨4, ![30, 5, 1, 1]⟩
abbrev S1x64x441 : Shape := ⟨3, ![1, 64, 441]⟩
abbrev S1x320x2205 : Shape := ⟨3, ![1, 320, 2205]⟩
abbrev S1x5x1x1 : Shape := ⟨4, ![1, 5, 1, 1]⟩
abbrev S64x441 : Shape := ⟨2, ![64, 441]⟩
abbrev S1x64x2205 : Shape := ⟨3, ![1, 64, 2205]⟩
abbrev S64x2205 : Shape := ⟨2, ![64, 2205]⟩
abbrev S441x2205 : Shape := ⟨2, ![441, 2205]⟩
abbrev S441 : Shape := ⟨1, ![441]⟩
abbrev S441x1 : Shape := ⟨2, ![441, 1]⟩
abbrev S1 : Shape := ⟨1, ![1]⟩
abbrev S1x1 : Shape := ⟨2, ![1, 1]⟩
abbrev S1x1x1x1 : Shape := ⟨4, ![1, 1, 1, 1]⟩

abbrev nBuf : Space → Nat
  | .hbm => 7
  | .vmem => 6
  | .smem => 0
  | _ => 0

abbrev bufTy : (tb : Table) → Fin (tcTables nBuf tb) → BufTy
  | .hbm, ⟨0, _⟩ => ⟨S80x64x441, .f32⟩
  | .hbm, ⟨1, _⟩ => ⟨S30x64x441, .f32⟩
  | .hbm, ⟨2, _⟩ => ⟨S50x64x441, .f32⟩
  | .hbm, ⟨3, _⟩ => ⟨S2x5x5x64x441, .f32⟩
  | .hbm, ⟨4, _⟩ => ⟨S2x5x64x5x441, .f32⟩
  | .hbm, ⟨5, _⟩ => ⟨S2x320x2205, .f32⟩
  | .hbm, ⟨6, _⟩ => ⟨S30x5x1x1, .f32⟩
  | .local _ .vmem, ⟨0, _⟩ => ⟨S1x64x441, .f32⟩
  | .local _ .vmem, ⟨1, _⟩ => ⟨S1x64x441, .f32⟩
  | .local _ .vmem, ⟨2, _⟩ => ⟨S1x320x2205, .f32⟩
  | .local _ .vmem, ⟨3, _⟩ => ⟨S1x320x2205, .f32⟩
  | .local _ .vmem, ⟨4, _⟩ => ⟨S1x5x1x1, .f32⟩
  | .local _ .vmem, ⟨5, _⟩ => ⟨S1x5x1x1, .f32⟩
  | _, _ => ⟨S80x64x441, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![30], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.muli arg0 c1_i32
  let c15_i32 : BitVec 32 := 15#32
  let v1 : BitVec 32 := Scalar.divsi v0 c15_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c15_i32 c0_i32_1
  let v8 : BitVec 32 := Scalar.extui v7
  let c0_i32_2 : BitVec 32 := 0#32
  let v9 : BitVec 1 := Scalar.cmpi .slt c15_i32 c0_i32_2
  let v10 : BitVec 32 := Scalar.extui v9
  let v11 : BitVec 32 := Scalar.subi v8 v10
  let v12 : BitVec 1 := Scalar.cmpi .ne v6 v11
  let v13 : BitVec 32 := Scalar.remsi v0 c15_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x441 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x320x2205 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S80x64x441 : Shape := ⟨3, ![80, 64, 441]⟩
abbrev S30x64x441 : Shape := ⟨3, ![30, 64, 441]⟩
abbrev S2x15x64x441 : Shape := ⟨4, ![2, 15, 64, 441]⟩
abbrev S2x15x441x64 : Shape := ⟨4, ![2, 15, 441, 64]⟩
abbrev S2x6615x64 : Shape := ⟨3, ![2, 6615, 64]⟩
abbrev S50x64x441 : Shape := ⟨3, ![50, 64, 441]⟩
abbrev S2x5x5x64x441 : Shape := ⟨5, ![2, 5, 5, 64, 441]⟩
abbrev S2x5x5x441x64 : Shape := ⟨5, ![2, 5, 5, 441, 64]⟩
abbrev S2x5x2205x64 : Shape := ⟨4, ![2, 5, 2205, 64]⟩
abbrev S2x5x2205x6615 : Shape := ⟨4, ![2, 5, 2205, 6615]⟩
abbrev S2x5x6615x2205 : Shape := ⟨4, ![2, 5, 6615, 2205]⟩
abbrev S2x5x6615x3 : Shape := ⟨4, ![2, 5, 6615, 3]⟩
abbrev S2x5x15x1323 : Shape := ⟨4, ![2, 5, 15, 1323]⟩
abbrev S_ : Shape := ⟨0, ![]⟩
abbrev S2x5x15 : Shape := ⟨3, ![2, 5, 15]⟩
abbrev S2x15x5 : Shape := ⟨3, ![2, 15, 5]⟩
abbrev S30x5x1x1 : Shape := ⟨4, ![30, 5, 1, 1]⟩

abbrev nBuf : Space → Nat
  | .hbm => 18
  | .vmem => 0
  | .smem => 0
  | _ => 0

abbrev bufTy : (tb : Table) → Fin (tcTables nBuf tb) → BufTy
  | .hbm, ⟨0, _⟩ => ⟨S80x64x441, .f32⟩
  | .hbm, ⟨1, _⟩ => ⟨S30x64x441, .f32⟩
  | .hbm, ⟨2, _⟩ => ⟨S2x15x64x441, .f32⟩
  | .hbm, ⟨3, _⟩ => ⟨S2x15x441x64, .f32⟩
  | .hbm, ⟨4, _⟩ => ⟨S2x6615x64, .f32⟩
  | .hbm, ⟨5, _⟩ => ⟨S50x64x441, .f32⟩
  | .hbm, ⟨6, _⟩ => ⟨S2x5x5x64x441, .f32⟩
  | .hbm, ⟨7, _⟩ => ⟨S2x5x5x441x64, .f32⟩
  | .hbm, ⟨8, _⟩ => ⟨S2x5x2205x64, .f32⟩
  | .hbm, ⟨9, _⟩ => ⟨S2x5x2205x6615, .f32⟩
  | .hbm, ⟨10, _⟩ => ⟨S2x5x6615x2205, .f32⟩
  | .hbm, ⟨11, _⟩ => ⟨S2x5x6615x3, .f32⟩
  | .hbm, ⟨12, _⟩ => ⟨S2x5x6615x3, .i32⟩
  | .hbm, ⟨13, _⟩ => ⟨S2x5x15x1323, .f32⟩
  | .hbm, ⟨14, _⟩ => ⟨S_, .f32⟩
  | .hbm, ⟨15, _⟩ => ⟨S2x5x15, .f32⟩
  | .hbm, ⟨16, _⟩ => ⟨S2x15x5, .f32⟩
  | .hbm, ⟨17, _⟩ => ⟨S30x5x1x1, .f32⟩
  | _, _ => ⟨S80x64x441, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_values : Ref sig .tc := ⟨.hbm, 11, rfl⟩
abbrev main_indices : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Encode.lean ====
abbrev S2x15x3x84x84 : Shape := ⟨5, ![2, 15, 3, 84, 84]⟩
abbrev S2x5x5x3x84x84 : Shape := ⟨6, ![2, 5, 5, 3, 84, 84]⟩
abbrev S64x3x3x3 : Shape := ⟨4, ![64, 3, 3, 3]⟩
abbrev S64 : Shape := ⟨1, ![64]⟩
abbrev S64x64x3x3 : Shape := ⟨4, ![64, 64, 3, 3]⟩
abbrev S64x1x1x1 : Shape := ⟨4, ![64, 1, 1, 1]⟩
abbrev S3x3x3x64 : Shape := ⟨4, ![3, 3, 3, 64]⟩
abbrev S9x3x64 : Shape := ⟨3, ![9, 3, 64]⟩
abbrev S_ : Shape := ⟨0, ![]⟩
abbrev S9x8x64 : Shape := ⟨3, ![9, 8, 64]⟩
abbrev S9x8x128 : Shape := ⟨3, ![9, 8, 128]⟩
abbrev S9x16x128 : Shape := ⟨3, ![9, 16, 128]⟩
abbrev S144x128 : Shape := ⟨2, ![144, 128]⟩
abbrev S3x3x64x64 : Shape := ⟨4, ![3, 3, 64, 64]⟩
abbrev S9x64x64 : Shape := ⟨3, ![9, 64, 64]⟩
abbrev S1x9x64x64 : Shape := ⟨4, ![1, 9, 64, 64]⟩
abbrev S3x9x64x64 : Shape := ⟨4, ![3, 9, 64, 64]⟩
abbrev S3x9x64x128 : Shape := ⟨4, ![3, 9, 64, 128]⟩
abbrev S3x9x128x128 : Shape := ⟨4, ![3, 9, 128, 128]⟩
abbrev S1x64 : Shape := ⟨2, ![1, 64]⟩
abbrev S4x64 : Shape := ⟨2, ![4, 64]⟩
abbrev S4x128 : Shape := ⟨2, ![4, 128]⟩
abbrev S64x1 : Shape := ⟨2, ![64, 1]⟩
abbrev S64x2 : Shape := ⟨2, ![64, 2]⟩
abbrev S128x2 : Shape := ⟨2, ![128, 2]⟩
abbrev S30x3x84x84 : Shape := ⟨4, ![30, 3, 84, 84]⟩
abbrev S50x3x84x84 : Shape := ⟨4, ![50, 3, 84, 84]⟩
abbrev S80x3x84x84 : Shape := ⟨4, ![80, 3, 84, 84]⟩
abbrev S80x3x84x88 : Shape := ⟨4, ![80, 3, 84, 88]⟩
abbrev S80x3x7392 : Shape := ⟨3, ![80, 3, 7392]⟩
abbrev S80x64x441 : Shape := ⟨3, ![80, 64, 441]⟩
abbrev S8x3x7392 : Shape := ⟨3, ![8, 3, 7392]⟩
abbrev S8x64x441 : Shape := ⟨3, ![8, 64, 441]⟩
abbrev S16x7648 : Shape := ⟨2, ![16, 7648]⟩
abbrev S2128x128 : Shape := ⟨2, ![2128, 128]⟩
abbrev S589x128 : Shape := ⟨2, ![589, 128]⟩
abbrev S7392x128 : Shape := ⟨2, ![7392, 128]⟩
abbrev S2016x128 : Shape := ⟨2, ![2016, 128]⟩
abbrev S1x3x7392 : Shape := ⟨3, ![1, 3, 7392]⟩
abbrev S3x7392 : Shape := ⟨2, ![3, 7392]⟩
abbrev S16x7392 : Shape := ⟨2, ![16, 7392]⟩
abbrev S144x7392 : Shape := ⟨2, ![144, 7392]⟩
abbrev S3696x128 : Shape := ⟨2, ![3696, 128]⟩
abbrev S44x128 : Shape := ⟨2, ![44, 128]⟩
abbrev S42x128 : Shape := ⟨2, ![42, 128]⟩
abbrev S1x128 : Shape := ⟨2, ![1, 128]⟩
abbrev S128 : Shape := ⟨1, ![128]⟩
abbrev S1x1x128x128 : Shape := ⟨4, ![1, 1, 128, 128]⟩
abbrev S128x128 : Shape := ⟨2, ![128, 128]⟩
abbrev S1008x128 : Shape := ⟨2, ![1008, 128]⟩
abbrev S24x128 : Shape := ⟨2, ![24, 128]⟩
abbrev S21x128 : Shape := ⟨2, ![21, 128]⟩
abbrev S525x128 : Shape := ⟨2, ![525, 128]⟩
abbrev S441x128 : Shape := ⟨2, ![441, 128]⟩
abbrev S441x2 : Shape := ⟨2, ![441, 2]⟩
abbrev S441x1 : Shape := ⟨2, ![441, 1]⟩
abbrev S441x64 : Shape := ⟨2, ![441, 64]⟩
abbrev S128x441 : Shape := ⟨2, ![128, 441]⟩
abbrev S64x441 : Shape := ⟨2, ![64, 441]⟩
abbrev S1x64x441 : Shape := ⟨3, ![1, 64, 441]⟩

abbrev nBuf : Space → Nat
  | .hbm => 87
  | .vmem => 14
  | .smem => 0
  | _ => 0

abbrev bufTy : (tb : Table) → Fin (tcTables nBuf tb) → BufTy
  | .hbm, ⟨0, _⟩ => ⟨S2x15x3x84x84, .f32⟩
  | .hbm, ⟨1, _⟩ => ⟨S2x5x5x3x84x84, .f32⟩
  | .hbm, ⟨2, _⟩ => ⟨S64x3x3x3, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64x3x3, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64x3x3, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x64x3x3, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x1x1x1, .f32⟩
  | .hbm, ⟨19, _⟩ => ⟨S64x3x3x3, .f32⟩
  | .hbm, ⟨20, _⟩ => ⟨S64x3x3x3, .f32⟩
  | .hbm, ⟨21, _⟩ => ⟨S3x3x3x64, .f32⟩
  | .hbm, ⟨22, _⟩ => ⟨S9x3x64, .f32⟩
  | .hbm, ⟨23, _⟩ => ⟨S64, .f32⟩
  | .hbm, ⟨24, _⟩ => ⟨S64, .f32⟩
  | .hbm, ⟨25, _⟩ => ⟨S_, .i32⟩
  | .hbm, ⟨26, _⟩ => ⟨S_, .f32⟩
  | .hbm, ⟨27, _⟩ => ⟨S9x8x64, .f32⟩
  | .hbm, ⟨28, _⟩ => ⟨S_, .i32⟩
  | .hbm, ⟨29, _⟩ => ⟨S_, .f32⟩
  | .hbm, ⟨30, _⟩ => ⟨S9x8x128, .f32⟩
  | .hbm, ⟨31, _⟩ => ⟨S_, .i32⟩
  | .hbm, ⟨32, _⟩ => ⟨S_, .f32⟩
  | .hbm, ⟨33, _⟩ => ⟨S9x8x128, .f32⟩
  | .hbm, ⟨34, _⟩ => ⟨S9x16x128, .f32⟩
  | .hbm, ⟨35, _⟩ => ⟨S144x128, .f32⟩
  | .hbm, ⟨36, _⟩ => ⟨S64x1x1x1, .f32⟩
  | .hbm, ⟨37, _⟩ => ⟨S64x64x3x3, .f32⟩
  | .hbm, ⟨38, _⟩ => ⟨S64x64x3x3, .f32⟩
  | .hbm, ⟨39, _⟩ => ⟨S3x3x64x64, .f32⟩
  | .hbm, ⟨40, _⟩ => ⟨S9x64x64, .f32⟩
  | .hbm, ⟨41, _⟩ => ⟨S64, .f32⟩
  | .hbm, ⟨42, _⟩ => ⟨S64, .f32⟩
  | .hbm, ⟨43, _⟩ => ⟨S64x1x1x1, .f32⟩
  | .hbm, ⟨44, _⟩ => ⟨S64x64x3x3, .f32⟩
  | .hbm, ⟨45, _⟩ => ⟨S64x64x3x3, .f32⟩
  | .hbm, ⟨46, _⟩ => ⟨S3x3x64x64, .f32⟩
  | .hbm, ⟨47, _⟩ => ⟨S9x64x64, .f32⟩
  | .hbm, ⟨48, _⟩ => ⟨S64, .f32⟩
  | .hbm, ⟨49, _⟩ => ⟨S64, .f32⟩
  | .hbm, ⟨50, _⟩ => ⟨S64x1x1x1, .f32⟩
  | .hbm, ⟨51, _⟩ => ⟨S64x64x3x3, .f32⟩
  | .hbm, ⟨52, _⟩ => ⟨S64x64x3x3, .f32⟩
  | .hbm, ⟨53, _⟩ => ⟨S3x3x64x64, .f32⟩
  | .hbm, ⟨54, _⟩ => ⟨S9x64x64, .f32⟩
  | .hbm, ⟨55, _⟩ => ⟨S64, .f32⟩
  | .hbm, ⟨56, _⟩ => ⟨S64, .f32⟩
  | .hbm, ⟨57, _⟩ => ⟨S1x9x64x64, .f32⟩
  | .hbm, ⟨58, _⟩ => ⟨S1x9x64x64, .f32⟩
  | .hbm, ⟨59, _⟩ => ⟨S1x9x64x64, .f32⟩
  | .hbm, ⟨60, _⟩ => ⟨S3x9x64x64, .f32⟩
  | .hbm, ⟨61, _⟩ => ⟨S_, .f32⟩
  | .hbm, ⟨62, _⟩ => ⟨S3x9x64x64, .f32⟩
  | .hbm, ⟨63, _⟩ => ⟨S3x9x64x128, .f32⟩
  | .hbm, ⟨64, _⟩ => ⟨S3x9x64x128, .f32⟩
  | .hbm, ⟨65, _⟩ => ⟨S3x9x128x128, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S4x64, .f32⟩
  | .hbm, ⟨71, _⟩ => ⟨S4x128, .f32⟩
  | .hbm, ⟨72, _⟩ => ⟨S_, .f32⟩
  | .hbm, ⟨73, _⟩ => ⟨S64x1, .f32⟩
  | .hbm, ⟨74, _⟩ => ⟨S_, .f32⟩
  | .hbm, ⟨75, _⟩ => ⟨S64x1, .f32⟩
  | .hbm, ⟨76, _⟩ => ⟨S64x2, .f32⟩
  | .hbm, ⟨77, _⟩ => ⟨S64x2, .f32⟩
  | .hbm, ⟨78, _⟩ => ⟨S128x2, .f32⟩
  | .hbm, ⟨79, _⟩ => ⟨S30x3x84x84, .f32⟩
  | .hbm, ⟨80, _⟩ => ⟨S50x3x84x84, .f32⟩
  | .hbm, ⟨81, _⟩ => ⟨S80x3x84x84, .f32⟩
  | .hbm, ⟨82, _⟩ => ⟨S_, .i32⟩
  | .hbm, ⟨83, _⟩ => ⟨S_, .f32⟩
  | .hbm, ⟨84, _⟩ => ⟨S80x3x84x88, .f32⟩
  | .hbm, ⟨85, _⟩ => ⟨S80x3x7392, .f32⟩
  | .hbm, ⟨86, _⟩ => ⟨S80x64x441, .f32⟩
  | .local _ .vmem, ⟨0, _⟩ => ⟨S8x3x7392, .f32⟩
  | .local _ .vmem, ⟨1, _⟩ => ⟨S8x3x7392, .f32⟩
  | .local _ .vmem, ⟨2, _⟩ => ⟨S144x128, .f32⟩
  | .local _ .vmem, ⟨3, _⟩ => ⟨S3x9x128x128, .f32⟩
  | .local _ .vmem, ⟨4, _⟩ => ⟨S4x128, .f32⟩
  | .local _ .vmem, ⟨5, _⟩ => ⟨S128x2, .f32⟩
  | .local _ .vmem, ⟨6, _⟩ => ⟨S8x64x441, .f32⟩
  | .local _ .vmem, ⟨7, _⟩ => ⟨S8x64x441, .f32⟩
  | .local _ .vmem, ⟨8, _⟩ => ⟨S16x7648, .f32⟩
  | .local _ .vmem, ⟨9, _⟩ => ⟨S2128x128, .f32⟩
  | .local _ .vmem, ⟨10, _⟩ => ⟨S589x128, .f32⟩
  | .local _ .vmem, ⟨11, _⟩ => ⟨S589x128, .f32⟩
  | .local _ .vmem, ⟨12, _⟩ => ⟨S7392x128, .f32⟩
  | .local _ .vmem, ⟨13, _⟩ => ⟨S2016x128, .f32⟩
  | _, _ => ⟨S2x15x3x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_call0_v0 : Ref sig .tc := ⟨.hbm, 26, rfl⟩
abbrev main_v7 : Ref sig .tc := ⟨.hbm, 27, rfl⟩
abbrev main_c_0 : Ref sig .tc := ⟨.hbm, 28, rfl⟩
abbrev main_call1_v0 : Ref sig .tc := ⟨.hbm, 29, rfl⟩
abbrev main_v8 : Ref sig .tc := ⟨.hbm, 30, rfl⟩
abbrev main_c_1 : Ref sig .tc := ⟨.hbm, 31, rfl⟩
abbrev main_call2_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_2 : Ref sig .tc := ⟨.hbm, 72, rfl⟩
abbrev main_v47 : Ref sig .tc := ⟨.hbm, 73, rfl⟩
abbrev main_cst_3 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_4 : Ref sig .tc := ⟨.hbm, 82, rfl⟩
abbrev main_call3_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x7392 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x9x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x64x441 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EncodeReferenceIdeal.lean ====
abbrev S2x15x3x84x84 : Shape := ⟨5, ![2, 15, 3, 84, 84]⟩
abbrev S2x5x5x3x84x84 : Shape := ⟨6, ![2, 5, 5, 3, 84, 84]⟩
abbrev S64x3x3x3 : Shape := ⟨4, ![64, 3, 3, 3]⟩
abbrev S64 : Shape := ⟨1, ![64]⟩
abbrev S64x64x3x3 : Shape := ⟨4, ![64, 64, 3, 3]⟩
abbrev S30x3x84x84 : Shape := ⟨4, ![30, 3, 84, 84]⟩
abbrev S50x3x84x84 : Shape := ⟨4, ![50, 3, 84, 84]⟩
abbrev S80x3x84x84 : Shape := ⟨4, ![80, 3, 84, 84]⟩
abbrev S_ : Shape := ⟨0, ![]⟩
abbrev S80x3x86x86 : Shape := ⟨4, ![80, 3, 86, 86]⟩
abbrev S64x3x1x1 : Shape := ⟨4, ![64, 3, 1, 1]⟩
abbrev S64x3 : Shape := ⟨2, ![64, 3]⟩
abbrev S64x80x84x84 : Shape := ⟨4, ![64, 80, 84, 84]⟩
abbrev S80x64x84x84 : Shape := ⟨4, ![80, 64, 84, 84]⟩
abbrev S1x64x1x1 : Shape := ⟨4, ![1, 64, 1, 1]⟩
abbrev S80x64x42x42 : Shape := ⟨4, ![80, 64, 42, 42]⟩
abbrev S80x64x44x44 : Shape := ⟨4, ![80, 64, 44, 44]⟩
abbrev S64x64x1x1 : Shape := ⟨4, ![64, 64, 1, 1]⟩
abbrev S64x64 : Shape := ⟨2, ![64, 64]⟩
abbrev S64x80x42x42 : Shape := ⟨4, ![64, 80, 42, 42]⟩
abbrev S80x64x21x21 : Shape := ⟨4, ![80, 64, 21, 21]⟩
abbrev S80x64x23x23 : Shape := ⟨4, ![80, 64, 23, 23]⟩
abbrev S64x80x21x21 : Shape := ⟨4, ![64, 80, 21, 21]⟩
abbrev S80x64x441 : Shape := ⟨3, ![80, 64, 441]⟩
abbrev S80x441x64 : Shape := ⟨3, ![80, 441, 64]⟩
abbrev S80x441 : Shape := ⟨2, ![80, 441]⟩
abbrev S80x441x1 : Shape := ⟨3, ![80, 441, 1]⟩

abbrev nBuf : Space → Nat
  | .hbm => 305
  | .vmem => 0
  | .smem => 0
  | _ => 0

abbrev hbmTy0_0 (i : Nat) : BufTy := match i % 128 with
  | 0 => ⟨S2x15x3x84x84, .f32⟩
  | 1 => ⟨S2x5x5x3x84x84, .f32⟩
  | 2 => ⟨S64x3x3x3, .f32⟩
  | 3 => ⟨S64, .f32⟩
  | 4 => ⟨S64, .f32⟩
  | 5 => ⟨S64, .f32⟩
  | 6 => ⟨S64x64x3x3, .f32⟩
  | 7 => ⟨S64, .f32⟩
  | 8 => ⟨S64, .f32⟩
  | 9 => ⟨S64, .f32⟩
  | 10 => ⟨S64x64x3x3, .f32⟩
  | 11 => ⟨S64, .f32⟩
  | 12 => ⟨S64, .f32⟩
  | 13 => ⟨S64, .f32⟩
  | 14 => ⟨S64x64x3x3, .f32⟩
  | 15 => ⟨S64, .f32⟩
  | 16 => ⟨S64, .f32⟩
  | 17 => ⟨S64, .f32⟩
  | 18 => ⟨S30x3x84x84, .f32⟩
  | 19 => ⟨S50x3x84x84, .f32⟩
  | 20 => ⟨S80x3x84x84, .f32⟩
  | 21 => ⟨S_, .i32⟩
  | 22 => ⟨S_, .f32⟩
  | 23 => ⟨S80x3x86x86, .f32⟩
  | 24 => ⟨S64x3x1x1, .f32⟩
  | 25 => ⟨S64x3, .f32⟩
  | 26 => ⟨S80x3x84x84, .f32⟩
  | 27 => ⟨S64x80x84x84, .f32⟩
  | 28 => ⟨S64x3x1x1, .f32⟩
  | 29 => ⟨S64x3, .f32⟩
  | 30 => ⟨S80x3x84x84, .f32⟩
  | 31 => ⟨S64x80x84x84, .f32⟩
  | 32 => ⟨S64x80x84x84, .f32⟩
  | 33 => ⟨S64x3x1x1, .f32⟩
  | 34 => ⟨S64x3, .f32⟩
  | 35 => ⟨S80x3x84x84, .f32⟩
  | 36 => ⟨S64x80x84x84, .f32⟩
  | 37 => ⟨S64x80x84x84, .f32⟩
  | 38 => ⟨S64x3x1x1, .f32⟩
  | 39 => ⟨S64x3, .f32⟩
  | 40 => ⟨S80x3x84x84, .f32⟩
  | 41 => ⟨S64x80x84x84, .f32⟩
  | 42 => ⟨S64x80x84x84, .f32⟩
  | 43 => ⟨S64x3x1x1, .f32⟩
  | 44 => ⟨S64x3, .f32⟩
  | 45 => ⟨S80x3x84x84, .f32⟩
  | 46 => ⟨S64x80x84x84, .f32⟩
  | 47 => ⟨S64x80x84x84, .f32⟩
  | 48 => ⟨S64x3x1x1, .f32⟩
  | 49 => ⟨S64x3, .f32⟩
  | 50 => ⟨S80x3x84x84, .f32⟩
  | 51 => ⟨S64x80x84x84, .f32⟩
  | 52 => ⟨S64x80x84x84, .f32⟩
  | 53 => ⟨S64x3x1x1, .f32⟩
  | 54 => ⟨S64x3, .f32⟩
  | 55 => ⟨S80x3x84x84, .f32⟩
  | 56 => ⟨S64x80x84x84, .f32⟩
  | 57 => ⟨S64x80x84x84, .f32⟩
  | 58 => ⟨S64x3x1x1, .f32⟩
  | 59 => ⟨S64x3, .f32⟩
  | 60 => ⟨S80x3x84x84, .f32⟩
  | 61 => ⟨S64x80x84x84, .f32⟩
  | 62 => ⟨S64x80x84x84, .f32⟩
  | 63 => ⟨S64x3x1x1, .f32⟩
  | 64 => ⟨S64x3, .f32⟩
  | 65 => ⟨S80x3x84x84, .f32⟩
  | 66 => ⟨S64x80x84x84, .f32⟩
  | 67 => ⟨S64x80x84x84, .f32⟩
  | 68 => ⟨S80x64x84x84, .f32⟩
  | 69 => ⟨S1x64x1x1, .f32⟩
  | 70 => ⟨S80x64x84x84, .f32⟩
  | 71 => ⟨S80x64x84x84, .f32⟩
  | 72 => ⟨S1x64x1x1, .f32⟩
  | 73 => ⟨S80x64x84x84, .f32⟩
  | 74 => ⟨S80x64x84x84, .f32⟩
  | 75 => ⟨S1x64x1x1, .f32⟩
  | 76 => ⟨S80x64x84x84, .f32⟩
  | 77 => ⟨S80x64x84x84, .f32⟩
  | 78 => ⟨S_, .f32⟩
  | 79 => ⟨S80x64x84x84, .f32⟩
  | 80 => ⟨S80x64x84x84, .i1⟩
  | 81 => ⟨S_, .f32⟩
  | 82 => ⟨S80x64x84x84, .f32⟩
  | 83 => ⟨S80x64x84x84, .f32⟩
  | 84 => ⟨S80x64x84x84, .f32⟩
  | 85 => ⟨S80x64x42x42, .f32⟩
  | 86 => ⟨S80x64x42x42, .f32⟩
  | 87 => ⟨S80x64x42x42, .f32⟩
  | 88 => ⟨S80x64x42x42, .f32⟩
  | 89 => ⟨S80x64x42x42, .f32⟩
  | 90 => ⟨S80x64x42x42, .f32⟩
  | 91 => ⟨S80x64x42x42, .f32⟩
  | 92 => ⟨S_, .i32⟩
  | 93 => ⟨S_, .f32⟩
  | 94 => ⟨S80x64x44x44, .f32⟩
  | 95 => ⟨S64x64x1x1, .f32⟩
  | 96 => ⟨S64x64, .f32⟩
  | 97 => ⟨S80x64x42x42, .f32⟩
  | 98 => ⟨S64x80x42x42, .f32⟩
  | 99 => ⟨S64x64x1x1, .f32⟩
  | 100 => ⟨S64x64, .f32⟩
  | 101 => ⟨S80x64x42x42, .f32⟩
  | 102 => ⟨S64x80x42x42, .f32⟩
  | 103 => ⟨S64x80x42x42, .f32⟩
  | 104 => ⟨S64x64x1x1, .f32⟩
  | 105 => ⟨S64x64, .f32⟩
  | 106 => ⟨S80x64x42x42, .f32⟩
  | 107 => ⟨S64x80x42x42, .f32⟩
  | 108 => ⟨S64x80x42x42, .f32⟩
  | 109 => ⟨S64x64x1x1, .f32⟩
  | 110 => ⟨S64x64, .f32⟩
  | 111 => ⟨S80x64x42x42, .f32⟩
  | 112 => ⟨S64x80x42x42, .f32⟩
  | 113 => ⟨S64x80x42x42, .f32⟩
  | 114 => ⟨S64x64x1x1, .f32⟩
  | 115 => ⟨S64x64, .f32⟩
  | 116 => ⟨S80x64x42x42, .f32⟩
  | 117 => ⟨S64x80x42x42, .f32⟩
  | 118 => ⟨S64x80x42x42, .f32⟩
  | 119 => ⟨S64x64x1x1, .f32⟩
  | 120 => ⟨S64x64, .f32⟩
  | 121 => ⟨S80x64x42x42, .f32⟩
  | 122 => ⟨S64x80x42x42, .f32⟩
  | 123 => ⟨S64x80x42x42, .f32⟩
  | 124 => ⟨S64x64x1x1, .f32⟩
  | 125 => ⟨S64x64, .f32⟩
  | 126 => ⟨S80x64x42x42, .f32⟩
  | 127 => ⟨S64x80x42x42, .f32⟩
  | _ => ⟨S2x15x3x84x84, .f32⟩

abbrev hbmTy0_1 (i : Nat) : BufTy := match i % 128 with
  | 0 => ⟨S64x80x42x42, .f32⟩
  | 1 => ⟨S64x64x1x1, .f32⟩
  | 2 => ⟨S64x64, .f32⟩
  | 3 => ⟨S80x64x42x42, .f32⟩
  | 4 => ⟨S64x80x42x42, .f32⟩
  | 5 => ⟨S64x80x42x42, .f32⟩
  | 6 => ⟨S64x64x1x1, .f32⟩
  | 7 => ⟨S64x64, .f32⟩
  | 8 => ⟨S80x64x42x42, .f32⟩
  | 9 => ⟨S64x80x42x42, .f32⟩
  | 10 => ⟨S64x80x42x42, .f32⟩
  | 11 => ⟨S80x64x42x42, .f32⟩
  | 12 => ⟨S1x64x1x1, .f32⟩
  | 13 => ⟨S80x64x42x42, .f32⟩
  | 14 => ⟨S80x64x42x42, .f32⟩
  | 15 => ⟨S1x64x1x1, .f32⟩
  | 16 => ⟨S80x64x42x42, .f32⟩
  | 17 => ⟨S80x64x42x42, .f32⟩
  | 18 => ⟨S1x64x1x1, .f32⟩
  | 19 => ⟨S80x64x42x42, .f32⟩
  | 20 => ⟨S80x64x42x42, .f32⟩
  | 21 => ⟨S_, .f32⟩
  | 22 => ⟨S80x64x42x42, .f32⟩
  | 23 => ⟨S80x64x42x42, .i1⟩
  | 24 => ⟨S_, .f32⟩
  | 25 => ⟨S80x64x42x42, .f32⟩
  | 26 => ⟨S80x64x42x42, .f32⟩
  | 27 => ⟨S80x64x42x42, .f32⟩
  | 28 => ⟨S80x64x21x21, .f32⟩
  | 29 => ⟨S80x64x21x21, .f32⟩
  | 30 => ⟨S80x64x21x21, .f32⟩
  | 31 => ⟨S80x64x21x21, .f32⟩
  | 32 => ⟨S80x64x21x21, .f32⟩
  | 33 => ⟨S80x64x21x21, .f32⟩
  | 34 => ⟨S80x64x21x21, .f32⟩
  | 35 => ⟨S_, .i32⟩
  | 36 => ⟨S_, .f32⟩
  | 37 => ⟨S80x64x23x23, .f32⟩
  | 38 => ⟨S64x64x1x1, .f32⟩
  | 39 => ⟨S64x64, .f32⟩
  | 40 => ⟨S80x64x21x21, .f32⟩
  | 41 => ⟨S64x80x21x21, .f32⟩
  | 42 => ⟨S64x64x1x1, .f32⟩
  | 43 => ⟨S64x64, .f32⟩
  | 44 => ⟨S80x64x21x21, .f32⟩
  | 45 => ⟨S64x80x21x21, .f32⟩
  | 46 => ⟨S64x80x21x21, .f32⟩
  | 47 => ⟨S64x64x1x1, .f32⟩
  | 48 => ⟨S64x64, .f32⟩
  | 49 => ⟨S80x64x21x21, .f32⟩
  | 50 => ⟨S64x80x21x21, .f32⟩
  | 51 => ⟨S64x80x21x21, .f32⟩
  | 52 => ⟨S64x64x1x1, .f32⟩
  | 53 => ⟨S64x64, .f32⟩
  | 54 => ⟨S80x64x21x21, .f32⟩
  | 55 => ⟨S64x80x21x21, .f32⟩
  | 56 => ⟨S64x80x21x21, .f32⟩
  | 57 => ⟨S64x64x1x1, .f32⟩
  | 58 => ⟨S64x64, .f32⟩
  | 59 => ⟨S80x64x21x21, .f32⟩
  | 60 => ⟨S64x80x21x21, .f32⟩
  | 61 => ⟨S64x80x21x21, .f32⟩
  | 62 => ⟨S64x64x1x1, .f32⟩
  | 63 => ⟨S64x64, .f32⟩
  | 64 => ⟨S80x64x21x21, .f32⟩
  | 65 => ⟨S64x80x21x21, .f32⟩
  | 66 => ⟨S64x80x21x21, .f32⟩
  | 67 => ⟨S64x64x1x1, .f32⟩
  | 68 => ⟨S64x64, .f32⟩
  | 69 => ⟨S80x64x21x21, .f32⟩
  | 70 => ⟨S64x80x21x21, .f32⟩
  | 71 => ⟨S64x80x21x21, .f32⟩
  | 72 => ⟨S64x64x1x1, .f32⟩
  | 73 => ⟨S64x64, .f32⟩
  | 74 => ⟨S80x64x21x21, .f32⟩
  | 75 => ⟨S64x80x21x21, .f32⟩
  | 76 => ⟨S64x80x21x21, .f32⟩
  | 77 => ⟨S64x64x1x1, .f32⟩
  | 78 => ⟨S64x64, .f32⟩
  | 79 => ⟨S80x64x21x21, .f32⟩
  | 80 => ⟨S64x80x21x21, .f32⟩
  | 81 => ⟨S64x80x21x21, .f32⟩
  | 82 => ⟨S80x64x21x21, .f32⟩
  | 83 => ⟨S1x64x1x1, .f32⟩
  | 84 => ⟨S80x64x21x21, .f32⟩
  | 85 => ⟨S80x64x21x21, .f32⟩
  | 86 => ⟨S1x64x1x1, .f32⟩
  | 87 => ⟨S80x64x21x21, .f32⟩
  | 88 => ⟨S80x64x21x21, .f32⟩
  | 89 => ⟨S1x64x1x1, .f32⟩
  | 90 => ⟨S80x64x21x21, .f32⟩
  | 91 => ⟨S80x64x21x21, .f32⟩
  | 92 => ⟨S_, .f32⟩
  | 93 => ⟨S80x64x21x21, .f32⟩
  | 94 => ⟨S80x64x21x21, .i1⟩
  | 95 => ⟨S_, .f32⟩
  | 96 => ⟨S80x64x21x21, .f32⟩
  | 97 => ⟨S80x64x21x21, .f32⟩
  | 98 => ⟨S80x64x21x21, .f32⟩
  | 99 => ⟨S_, .i32⟩
  | 100 => ⟨S_, .f32⟩
  | 101 => ⟨S80x64x23x23, .f32⟩
  | 102 => ⟨S64x64x1x1, .f32⟩
  | 103 => ⟨S64x64, .f32⟩
  | 104 => ⟨S80x64x21x21, .f32⟩
  | 105 => ⟨S64x80x21x21, .f32⟩
  | 106 => ⟨S64x64x1x1, .f32⟩
  | 107 => ⟨S64x64, .f32⟩
  | 108 => ⟨S80x64x21x21, .f32⟩
  | 109 => ⟨S64x80x21x21, .f32⟩
  | 110 => ⟨S64x80x21x21, .f32⟩
  | 111 => ⟨S64x64x1x1, .f32⟩
  | 112 => ⟨S64x64, .f32⟩
  | 113 => ⟨S80x64x21x21, .f32⟩
  | 114 => ⟨S64x80x21x21, .f32⟩
  | 115 => ⟨S64x80x21x21, .f32⟩
  | 116 => ⟨S64x64x1x1, .f32⟩
  | 117 => ⟨S64x64, .f32⟩
  | 118 => ⟨S80x64x21x21, .f32⟩
  | 119 => ⟨S64x80x21x21, .f32⟩
  | 120 => ⟨S64x80x21x21, .f32⟩
  | 121 => ⟨S64x64x1x1, .f32⟩
  | 122 => ⟨S64x64, .f32⟩
  | 123 => ⟨S80x64x21x21, .f32⟩
  | 124 => ⟨S64x80x21x21, .f32⟩
  | 125 => ⟨S64x80x21x21, .f32⟩
  | 126 => ⟨S64x64x1x1, .f32⟩
  | 127 => ⟨S64x64, .f32⟩
  | _ => ⟨S2x15x3x84x84, .f32⟩

abbrev hbmTy0_2 (i : Nat) : BufTy := match i % 128 with
  | 0 => ⟨S80x64x21x21, .f32⟩
  | 1 => ⟨S64x80x21x21, .f32⟩
  | 2 => ⟨S64x80x21x21, .f32⟩
  | 3 => ⟨S64x64x1x1, .f32⟩
  | 4 => ⟨S64x64, .f32⟩
  | 5 => ⟨S80x64x21x21, .f32⟩
  | 6 => ⟨S64x80x21x21, .f32⟩
  | 7 => ⟨S64x80x21x21, .f32⟩
  | 8 => ⟨S64x64x1x1, .f32⟩
  | 9 => ⟨S64x64, .f32⟩
  | 10 => ⟨S80x64x21x21, .f32⟩
  | 11 => ⟨S64x80x21x21, .f32⟩
  | 12 => ⟨S64x80x21x21, .f32⟩
  | 13 => ⟨S64x64x1x1, .f32⟩
  | 14 => ⟨S64x64, .f32⟩
  | 15 => ⟨S80x64x21x21, .f32⟩
  | 16 => ⟨S64x80x21x21, .f32⟩
  | 17 => ⟨S64x80x21x21, .f32⟩
  | 18 => ⟨S80x64x21x21, .f32⟩
  | 19 => ⟨S1x64x1x1, .f32⟩
  | 20 => ⟨S80x64x21x21, .f32⟩
  | 21 => ⟨S80x64x21x21, .f32⟩
  | 22 => ⟨S1x64x1x1, .f32⟩
  | 23 => ⟨S80x64x21x21, .f32⟩
  | 24 => ⟨S80x64x21x21, .f32⟩
  | 25 => ⟨S1x64x1x1, .f32⟩
  | 26 => ⟨S80x64x21x21, .f32⟩
  | 27 => ⟨S80x64x21x21, .f32⟩
  | 28 => ⟨S_, .f32⟩
  | 29 => ⟨S80x64x21x21, .f32⟩
  | 30 => ⟨S80x64x21x21, .i1⟩
  | 31 => ⟨S_, .f32⟩
  | 32 => ⟨S80x64x21x21, .f32⟩
  | 33 => ⟨S80x64x21x21, .f32⟩
  | 34 => ⟨S80x64x21x21, .f32⟩
  | 35 => ⟨S80x64x441, .f32⟩
  | 36 => ⟨S80x441x64, .f32⟩
  | 37 => ⟨S80x441x64, .f32⟩
  | 38 => ⟨S_, .f32⟩
  | 39 => ⟨S80x441, .f32⟩
  | 40 => ⟨S80x441x1, .f32⟩
  | 41 => ⟨S80x441x1, .f32⟩
  | 42 => ⟨S_, .f32⟩
  | 43 => ⟨S_, .f32⟩
  | 44 => ⟨S80x441x1, .f32⟩
  | 45 => ⟨S80x441x1, .f32⟩
  | 46 => ⟨S80x441x64, .f32⟩
  | 47 => ⟨S80x441x64, .f32⟩
  | 48 => ⟨S80x64x441, .f32⟩
  | _ => ⟨S2x15x3x84x84, .f32⟩

abbrev hbmTy (i : Nat) : BufTy := match i / 128 with
  | 0 => hbmTy0_0 i
  | 1 => hbmTy0_1 i
  | 2 => hbmTy0_2 i
  | _ => ⟨S2x15x3x84x84, .f32⟩

abbrev bufTy : (tb : Table) → Fin (tcTables nBuf tb) → BufTy
  | .hbm, ⟨i, _⟩ => hbmTy i
  | _, _ => ⟨S2x15x3x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst : Ref sig .tc := ⟨.hbm, 78, rfl⟩
abbrev main_v58 : Ref sig .tc := ⟨.hbm, 79, rfl⟩
abbrev main_v59 : Ref sig .tc := ⟨.hbm, 80, rfl⟩
abbrev main_cst_0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_1 : Ref sig .tc := ⟨.hbm, 92, rfl⟩
abbrev main_call2_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_cst_2 : Ref sig .tc := ⟨.hbm, 149, rfl⟩
abbrev main_v125 : Ref sig .tc := ⟨.hbm, 150, rfl⟩
abbrev main_v126 : Ref sig .tc := ⟨.hbm, 151, rfl⟩
abbrev main_cst_3 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_c_4 : Ref sig .tc := ⟨.hbm, 163, rfl⟩
abbrev main_call4_v0 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_cst_5 : Ref sig .tc := ⟨.hbm, 220, rfl⟩
abbrev main_v192 : Ref sig .tc := ⟨.hbm, 221, rfl⟩
abbrev main_v193 : Ref sig .tc := ⟨.hbm, 222, rfl⟩
abbrev main_cst_6 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_c_7 : Ref sig .tc := ⟨.hbm, 227, rfl⟩
abbrev main_call6_v0 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_cst_8 : Ref sig .tc := ⟨.hbm, 284, rfl⟩
abbrev main_v252 : Ref sig .tc := ⟨.hbm, 285, rfl⟩
abbrev main_v253 : Ref sig .tc := ⟨.hbm, 286, rfl⟩
abbrev main_cst_9 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_cst_10 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_cst_11 : Ref sig .tc := ⟨.hbm, 298, rfl⟩
abbrev main_call8_v0 : Ref sig .tc := ⟨.hbm, 299, rfl⟩
abbrev main_call8_v1 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩

abbrev nD : Nat := 1
abbrev τ : Topo := Topo.v7x

variable {F : FTy → Type} [FloatOps F]
-- ==== Proof.Score.lean ====
module

public import proofs.«01_k».proof.Proof.Gen.KernelIdeal.Frame
public import Idealize.ShloMosaic.Lib.Pointwise

@[expose] public section

/-!
# One score of the kernel, as one function of its two operands

The body computes five scores, one per class, by the same operations.  The generated payloads cut the
five texts at different places; `scoreOf` is the text written once, and each payload is that function
of the class's descriptors.
-/

namespace Proof.Score

open Cert.KernelIdeal Cert.KernelIdeal.Gen Idealize.ShloMosaic

noncomputable section

section AnyF
variable {F : FTy → Type} [FloatOps F]

/-- The similarities of every query descriptor with every descriptor of the class. -/
def simOf (q : FVec F S64x441 .f32) (s : Vec F S1x64x2205 .f32) : FVec F S441x2205 .f32 :=
  matmul dot_S64x441_S64x2205_S441x2205_0_0_1_1_n_n none q (shapeCast S64x2205 s shapeCasts_S1x64x2205_S64x2205)
    (constant S441x2205 .f32 0x00000000#32)

/-- Each row's largest entry, as a column. -/
def maxOf (x : FVec F S441x2205 .f32) : FVec F S441x1 .f32 :=
  shapeCast S441x1 (multiReduction .maximumf [1] S441 x 0xFF800000#32 reduces_S441x2205_S441 (.inl rfl) rfl)
    shapeCasts_S441_S441x1

/-- Where an entry equals its row's largest. -/
def hitOf (x : FVec F S441x2205 .f32) : IVec S441x2205 1 :=
  cmpf .oeq x (broadcastTo S441x2205 (maxOf x) broadcasts_S441x1_S441x2205)

/-- How often each row's largest entry occurs, as a column of floats. -/
def countOf (x : FVec F S441x2205 .f32) : FVec F S441x1 .f32 :=
  shapeCast S441x1 (multiReduction .add [1] S441 (sitofp .f32 (extui 32 (hitOf x) natLt_1_32)) 0x00000000#32
    reduces_S441x2205_S441 (.inl rfl) rfl) shapeCasts_S441_S441x1

/-- The array with each row's largest entries overwritten by `-∞`. -/
def restOf (x : FVec F S441x2205 .f32) : FVec F S441x2205 .f32 :=
  select (hitOf x) (broadcast S441x2205 (Scalar.ofBits .f32 0xFF800000#32)) x

/-- Each row's second value. -/
def secondOf (x : FVec F S441x2205 .f32) : FVec F S441x1 .f32 :=
  select (cmpf .oge (countOf x) (broadcast S441x1 (Scalar.ofBits .f32 0x40000000#32))) (maxOf x) (maxOf (restOf x))

/-- Each row's third value. -/
def thirdOf (x : FVec F S441x2205 .f32) : FVec F S441x1 .f32 :=
  select (cmpf .oge (countOf x) (broadcast S441x1 (Scalar.ofBits .f32 0x40400000#32))) (maxOf x)
    (select (cmpf .oge (addf (countOf x) (countOf (restOf x))) (broadcast S441x1 (Scalar.ofBits .f32 0x40400000#32)))
      (maxOf (restOf x)) (maxOf (restOf (restOf x))))

/-- The three values of each row, added. -/
def threeOf (x : FVec F S441x2205 .f32) : FVec F S441x1 .f32 := addf (addf (maxOf x) (secondOf x)) (thirdOf x)

/-- The rows' sums, added to one score. -/
def totalOf (y : FVec F S441x1 .f32) : FVec F S1x1x1x1 .f32 :=
  shapeCast S1x1x1x1 (shapeCast S1x1 (multiReduction .add [0] S1 y 0x00000000#32 reduces_S441x1_S1 (.inl rfl) rfl)
    shapeCasts_S1_S1x1) shapeCasts_S1x1_S1x1x1x1

/-- One score. -/
def scoreOf (q : FVec F S64x441 .f32) (s : Vec F S1x64x2205 .f32) : FVec F S1x1x1x1 .f32 := totalOf (threeOf (simOf q s))

theorem pay_class0 (q : Vec F S1x64x441 .f32) (s : Vec F S1x64x2205 .f32) :
    k0_pay4 (k0_pay3 q s) = scoreOf (k0_pay2 q) s := rfl

theorem pay_class1 (q : FVec F S64x441 .f32) (s : Vec F S1x64x2205 .f32) : k0_pay6 (k0_pay5 q s) = scoreOf q s := rfl

theorem pay_class2 (q : FVec F S64x441 .f32) (s : Vec F S1x64x2205 .f32) :
    k0_pay15 (k0_pay13 q s) (k0_pay14 q s) = scoreOf q s := rfl

theorem pay_class3 (q : FVec F S64x441 .f32) (s : Vec F S1x64x2205 .f32) :
    k0_pay25 (k0_pay17 q s) (k0_pay22 q s) (k0_pay23 q s) (k0_pay24 q s) = scoreOf q s := rfl

theorem pay_class4 (q : FVec F S64x441 .f32) (s : Vec F S1x64x2205 .f32) :
    k0_pay1 (k0_pay27 q s) (k0_pay31 q s) (k0_pay33 q s) (k0_pay34 q s) (k0_pay35 q s) (k0_pay36 q s) (k0_pay37 (F := F))
      = scoreOf q s := rfl

end AnyF

end

end Proof.Score
-- ==== Proof.TopThree.lean ====
module

public import Mathlib.Data.EReal.Basic
public import Mathlib.Data.Finset.Lattice.Fold
public import Mathlib.Order.BoundedOrder.Lattice
public import Mathlib.Data.Fintype.Card

@[expose] public section

/-!
# The three largest values of a row, found by counting

The kernel reads the three largest entries of a row from the largest value, how often it occurs, the
row with those entries overwritten by `-∞`, and the same twice more.  Here `f` is a row of extended
reals; this file proves that the three values so found are the first three of the row sorted downwards.
-/

namespace Proof.TopThree

noncomputable section

variable {n : ℕ}

/-- The largest value of the row. -/
def peak (f : Fin n → EReal) : EReal := Finset.univ.sup f

/-- How often `m` occurs in the row. -/
def hits (f : Fin n → EReal) (m : EReal) : ℕ := (Finset.univ.filter fun i => f i = m).card

/-- The row with every entry equal to `m` overwritten by `-∞`. -/
def strike (f : Fin n → EReal) (m : EReal) : Fin n → EReal := fun i => if f i = m then ⊥ else f i

/-- The row after its largest value has been overwritten. -/
def rest (f : Fin n → EReal) : Fin n → EReal := strike f (peak f)

/-- The second value the kernel reads. -/
def second (f : Fin n → EReal) : EReal := if 2 ≤ hits f (peak f) then peak f else peak (rest f)

/-- The third value the kernel reads. -/
def third (f : Fin n → EReal) : EReal :=
  if 3 ≤ hits f (peak f) then peak f
  else if 3 ≤ hits f (peak f) + hits (rest f) (peak (rest f)) then peak (rest f) else peak (rest (rest f))

/-! ### Reordering the row changes none of these -/

theorem peak_comp (f : Fin n → EReal) (s : Fin n ≃ Fin n) : peak (fun i => f (s i)) = peak f := by
  apply le_antisymm
  · exact Finset.sup_le fun i _ => Finset.le_sup (f := f) (Finset.mem_univ (s i))
  · refine Finset.sup_le fun i _ => ?_
    have h := Finset.le_sup (f := fun i => f (s i)) (Finset.mem_univ (s.symm i))
    simpa [peak] using h

theorem hits_comp (f : Fin n → EReal) (s : Fin n ≃ Fin n) (m : EReal) : hits (fun i => f (s i)) m = hits f m := by
  unfold hits
  refine Finset.card_bij (fun i _ => s i) ?_ ?_ ?_
  · intro i hi; simpa using hi
  · intro i _ j _ h; exact s.injective h
  · intro j hj; exact ⟨s.symm j, by simpa using hj, by simp⟩

theorem rest_comp (f : Fin n → EReal) (s : Fin n ≃ Fin n) : rest (fun i => f (s i)) = fun i => rest f (s i) := by
  funext i; simp only [rest, strike, peak_comp]

theorem second_comp (f : Fin n → EReal) (s : Fin n ≃ Fin n) : second (fun i => f (s i)) = second f := by
  simp only [second, rest_comp, peak_comp, hits_comp]

theorem third_comp (f : Fin n → EReal) (s : Fin n ≃ Fin n) : third (fun i => f (s i)) = third f := by
  simp only [third, rest_comp, peak_comp, hits_comp]

/-! ### A row already sorted downwards -/

theorem peak_eq {f : Fin n → EReal} {m : EReal} (k : Fin n) (hk : f k = m) (h : ∀ i, f i ≤ m) : peak f = m :=
  le_antisymm (Finset.sup_le fun i _ => h i) (hk ▸ Finset.le_sup (f := f) (Finset.mem_univ k))

theorem le_hits {f : Fin n → EReal} {m : EReal} (S : Finset (Fin n)) (h : ∀ i ∈ S, f i = m) : S.card ≤ hits f m :=
  Finset.card_le_card fun i hi => by simpa using h i hi

theorem hits_le {f : Fin n → EReal} {m : EReal} (S : Finset (Fin n)) (h : ∀ i, f i = m → i ∈ S) : hits f m ≤ S.card :=
  Finset.card_le_card fun i hi => h i (by simpa using hi)

variable {f : Fin (n + 3) → EReal}

/-- The first three positions. -/
def p0 : Fin (n + 3) := ⟨0, by omega⟩
def p1 : Fin (n + 3) := ⟨1, by omega⟩
def p2 : Fin (n + 3) := ⟨2, by omega⟩

theorem ne01 : (p0 : Fin (n + 3)) ≠ p1 := fun h => absurd (congrArg Fin.val h) (show ¬(0 = 1) by decide)
theorem ne02 : (p0 : Fin (n + 3)) ≠ p2 := fun h => absurd (congrArg Fin.val h) (show ¬(0 = 2) by decide)
theorem ne12 : (p1 : Fin (n + 3)) ≠ p2 := fun h => absurd (congrArg Fin.val h) (show ¬(1 = 2) by decide)

theorem p0_le (i : Fin (n + 3)) : p0 ≤ i := Fin.le_def.mpr (Nat.zero_le _)
theorem p1_le_p2 : (p1 : Fin (n + 3)) ≤ p2 := Fin.le_def.mpr (show 1 ≤ 2 by decide)

theorem p01 : ({p0, p1} : Finset (Fin (n + 3))).card = 2 := Finset.card_pair ne01
theorem p012 : ({p0, p1, p2} : Finset (Fin (n + 3))).card = 3 :=
  Finset.card_eq_three.mpr ⟨p0, p1, p2, ne01, ne02, ne12, rfl⟩
theorem p12 : ({p1, p2} : Finset (Fin (n + 3))).card = 2 := Finset.card_pair ne12

/-- Every position is the first, the second, or at least the third. -/
theorem trichotomy (i : Fin (n + 3)) : i = p0 ∨ i = p1 ∨ p2 ≤ i := by
  rcases i with ⟨i, hi⟩
  simp only [p0, p1, p2, Fin.mk.injEq, Fin.mk_le_mk]
  omega

theorem peak_sorted (hf : Antitone f) : peak f = f p0 :=
  peak_eq p0 rfl fun i => hf (p0_le i)

/-- The first three of a sorted row, the second equal to the first. -/
theorem tie_sorted (hf : Antitone f) (h : f p1 = f p0) : second f = f p1 ∧ third f = f p2 := by
  have hp := peak_sorted hf
  have h2 : 2 ≤ hits f (f p0) := p01.symm.le.trans <| le_hits {p0, p1} (by simp [h])
  refine ⟨by rw [second, hp, if_pos h2, h], ?_⟩
  rw [third, hp]
  by_cases h3 : f p2 = f p0
  · rw [if_pos (p012.symm.le.trans <| le_hits {p0, p1, p2} (by simp [h, h3])), h3]
  · have hlt : ∀ i, p2 ≤ i → f i ≠ f p0 := fun i hi e =>
      h3 (le_antisymm (hf (p0_le p2)) (e ▸ hf hi))
    have hc : hits f (f p0) ≤ 2 := (hits_le {p0, p1} (by
      intro i hi
      rcases trichotomy i with rfl | rfl | h'
      · simp
      · simp
      · exact absurd hi (hlt i h'))).trans p01.le
    have hr : peak (rest f) = f p2 := by
      refine peak_eq p2 (by simp only [rest, strike, hp, if_neg h3]) fun i => ?_
      simp only [rest, strike, hp]
      rcases trichotomy i with rfl | rfl | h'
      · simp
      · simp [h]
      · rw [if_neg (hlt i h')]; exact hf h'
    have h1 : 1 ≤ hits (rest f) (f p2) := (Finset.card_singleton p2).symm.le.trans <| le_hits {p2} (by
      simp only [Finset.mem_singleton, forall_eq, rest, strike, hp, if_neg h3])
    rw [hr, if_neg (by omega), if_pos (by omega)]

/-- The first three of a sorted row, the second below the first. -/
theorem strict_sorted (hf : Antitone f) (h : f p1 ≠ f p0) : second f = f p1 ∧ third f = f p2 := by
  have hp := peak_sorted hf
  have h01 : f p1 ≤ f p0 := hf (p0_le p1)
  have h12 : f p2 ≤ f p1 := hf p1_le_p2
  have h2' : ∀ i, p2 ≤ i → f i ≤ f p1 := fun i hi => (hf hi).trans h12
  have hlt : ∀ i, p2 ≤ i → f i ≠ f p0 := fun i hi e => h (le_antisymm h01 (e ▸ h2' i hi))
  have hc : hits f (f p0) ≤ 1 := (hits_le {p0} (by
    intro i hi
    rcases trichotomy i with rfl | rfl | h'
    · simp
    · exact absurd hi h
    · exact absurd hi (hlt i h'))).trans (Finset.card_singleton _).le
  have hc1 : 1 ≤ hits f (f p0) := (Finset.card_singleton (p0 : Fin (n + 3))).symm.le.trans <| le_hits {p0} (by simp)
  have r0 : rest f p0 = ⊥ := by simp only [rest, strike, hp, if_true]
  have r1 : rest f p1 = f p1 := by simp only [rest, strike, hp, if_neg h]
  have r2 : ∀ i, p2 ≤ i → rest f i = f i := fun i hi => by simp only [rest, strike, hp, if_neg (hlt i hi)]
  have hr : peak (rest f) = f p1 := by
    refine peak_eq p1 r1 fun i => ?_
    rcases trichotomy i with rfl | rfl | h'
    · rw [r0]; exact bot_le
    · rw [r1]
    · rw [r2 i h']; exact h2' i h'
  refine ⟨by rw [second, hp, hr, if_neg (by omega)], ?_⟩
  rw [third, hp, hr, if_neg (by omega)]
  by_cases h3 : f p2 = f p1
  · have : 2 ≤ hits (rest f) (f p1) := p12.symm.le.trans <| le_hits {p1, p2} (by simp [r1, r2 p2 le_rfl, h3])
    rw [if_pos (by omega), h3]
  · have hb : f p1 ≠ ⊥ := fun e => h3 (by rw [e] at h12 ⊢; exact le_bot_iff.mp h12)
    have hlt1 : ∀ i, p2 ≤ i → f i ≠ f p1 := fun i hi e => h3 (le_antisymm h12 (e ▸ hf hi))
    have : hits (rest f) (f p1) ≤ 1 := (hits_le {p1} (by
      intro i hi
      rcases trichotomy i with rfl | rfl | h'
      · rw [r0] at hi; exact absurd hi.symm hb
      · simp
      · rw [r2 i h'] at hi; exact absurd hi (hlt1 i h'))).trans (Finset.card_singleton _).le
    rw [if_neg (by omega)]
    refine peak_eq p2 ?_ fun i => ?_
    · rw [rest, strike, hr, r2 p2 le_rfl, if_neg h3]
    · rw [rest, strike, hr]
      rcases trichotomy i with rfl | rfl | h'
      · rw [r0, ite_self]; exact bot_le
      · rw [r1, if_pos rfl]; exact bot_le
      · rw [r2 i h', if_neg (hlt1 i h')]; exact hf h'

/-- Whatever order `s` sorts the row downwards, the three values are its first three. -/
theorem three_of_sorted (f : Fin (n + 3) → EReal) (s : Fin (n + 3) ≃ Fin (n + 3)) (hs : Antitone fun i => f (s i)) :
    f (s p0) = peak f ∧ f (s p1) = second f ∧ f (s p2) = third f := by
  have h : second (fun i => f (s i)) = f (s p1) ∧ third (fun i => f (s i)) = f (s p2) := by
    by_cases h : f (s p1) = f (s p0)
    · exact tie_sorted hs h
    · exact strict_sorted hs h
  refine ⟨?_, ?_, ?_⟩
  · rw [← peak_comp f s]; exact (peak_sorted hs).symm
  · rw [← second_comp f s]; exact h.1.symm
  · rw [← third_comp f s]; exact h.2.symm

/-- The same for a row of any length that has three places, the places written as numbers. -/
theorem three_of_sorted_of_le {n : ℕ} (h : 3 ≤ n) (f : Fin n → EReal) (s : Fin n ≃ Fin n) (hs : Antitone fun i => f (s i)) :
    f (s ⟨0, by omega⟩) = peak f ∧ f (s ⟨1, by omega⟩) = second f ∧ f (s ⟨2, by omega⟩) = third f := by
  obtain ⟨m, rfl⟩ := Nat.exists_eq_add_of_le' h
  exact three_of_sorted f s hs

end

end Proof.TopThree
-- ==== Proof.ScoreRead.lean ====
module

public import proofs.«01_k».proof.Proof.Score
public import proofs.«01_k».proof.Proof.TopThree

@[expose] public section

/-!
# One score of the kernel, read on extended reals

`scoreOf` adds, over the query's descriptors, the three values of that descriptor's row of similarities.
-/

namespace Proof.Score

open Cert.KernelIdeal Cert.KernelIdeal.Gen Idealize.ShloMosaic

noncomputable section

theorem ofBits_bot : Ideal.ofBits .f32 0xFF800000#32 = ⊥ := by simp [Ideal.ofBits, Ideal.ieee]

theorem ofBits_two : Ideal.ofBits .f32 0x40000000#32 = ((2 : ℕ) : EReal) := by
  rw [show ((2 : ℕ) : EReal) = ((2 : ℝ) : EReal) by norm_cast]
  simp [Ideal.ofBits, Ideal.ieee, -EReal.coe_mul]; norm_num

theorem ofBits_three : Ideal.ofBits .f32 0x40400000#32 = ((3 : ℕ) : EReal) := by
  rw [show ((3 : ℕ) : EReal) = ((3 : ℝ) : EReal) by norm_cast]
  simp [Ideal.ofBits, Ideal.ieee, -EReal.coe_mul]; norm_num

/-- A row of an array. -/
abbrev row (x : FVec Ideal S441x2205 .f32) (i : Fin 441) : Fin 2205 → EReal := fun k => x (ix2 i k)

theorem maxOf_apply (x : FVec Ideal S441x2205 .f32) (i : Fin 441) : maxOf x (ix2 i 0) = TopThree.peak (row x i) := by
  pointwise [maxOf]
  rw [ofBits_bot]
  rfl

theorem simOf_apply (q : FVec Ideal S64x441 .f32) (s : Vec Ideal S1x64x2205 .f32) (i : Fin 441) (k : Fin 2205) :
    simOf q s (ix2 i k) = ∑ d : Fin 64, q (ix2 d i) * s (ix3 0 d k) := by
  pointwise [simOf]

theorem hitOf_apply (x : FVec Ideal S441x2205 .f32) (i : Fin 441) (k : Fin 2205) :
    hitOf x (ix2 i k) = if row x i k = TopThree.peak (row x i) then 1#1 else 0#1 := by
  have h : hitOf x (ix2 i k) = BitVec.ofBool (decide (x (ix2 i k) = maxOf x (ix2 i 0))) := by pointwise [hitOf]
  rw [h, maxOf_apply]
  by_cases e : row x i k = TopThree.peak (row x i)
  · rw [if_pos e, decide_eq_true e]; rfl
  · rw [if_neg e, decide_eq_false e]; rfl

theorem countOf_apply (x : FVec Ideal S441x2205 .f32) (i : Fin 441) :
    countOf x (ix2 i 0) = ((TopThree.hits (row x i) (TopThree.peak (row x i)) : ℕ) : EReal) := by
  have h : countOf x (ix2 i 0) = ∑ k : Fin 2205, FloatOps.sitofp (F := Ideal) .f32 ((hitOf x (ix2 i k)).setWidth 32) := by
    pointwise [countOf]
  have h1 : ∀ k : Fin 2205, FloatOps.sitofp (F := Ideal) .f32 ((hitOf x (ix2 i k)).setWidth 32)
      = if row x i k = TopThree.peak (row x i) then (1 : EReal) else 0 := fun k => by
    rw [hitOf_apply]
    split
    · simp [FloatOps.sitofp]
    · simp [FloatOps.sitofp]
  rw [h, Finset.sum_congr rfl fun k _ => h1 k, Finset.sum_boole]
  rfl

theorem restOf_apply (x : FVec Ideal S441x2205 .f32) (i : Fin 441) : row (restOf x) i = TopThree.rest (row x i) := by
  funext k
  have h : restOf x (ix2 i k) = Scalar.select (hitOf x (ix2 i k)) (Ideal.ofBits .f32 0xFF800000#32) (x (ix2 i k)) := by
    pointwise [restOf]
  show restOf x (ix2 i k) = _
  rw [h, hitOf_apply, ofBits_bot, TopThree.rest, TopThree.strike]
  split <;> rfl

/-- A count compared with a whole number, as the kernel compares them. -/
theorem select_oge_nat {n m : ℕ} (a b : EReal) :
    Scalar.select (Ideal.cmp .oge ((n : ℕ) : EReal) ((m : ℕ) : EReal)) a b = if m ≤ n then a else b := by
  by_cases h : m ≤ n
  · have h' : ((m : ℕ) : EReal) ≤ ((n : ℕ) : EReal) := by exact_mod_cast h
    simp only [Ideal.cmp, h, h', if_true, if_false, decide_true, decide_false]
    rfl
  · have h' : ¬((m : ℕ) : EReal) ≤ ((n : ℕ) : EReal) := by exact_mod_cast h
    simp only [Ideal.cmp, h, h', if_true, if_false, decide_true, decide_false]
    rfl

theorem secondOf_apply (x : FVec Ideal S441x2205 .f32) (i : Fin 441) :
    secondOf x (ix2 i 0) = TopThree.second (row x i) := by
  have h : secondOf x (ix2 i 0) = Scalar.select (Ideal.cmp .oge (countOf x (ix2 i 0)) (Ideal.ofBits .f32 0x40000000#32))
      (maxOf x (ix2 i 0)) (maxOf (restOf x) (ix2 i 0)) := by
    pointwise [secondOf]
  rw [h, countOf_apply, ofBits_two, maxOf_apply, maxOf_apply, restOf_apply]
  exact select_oge_nat _ _

theorem thirdOf_apply (x : FVec Ideal S441x2205 .f32) (i : Fin 441) :
    thirdOf x (ix2 i 0) = TopThree.third (row x i) := by
  have h : thirdOf x (ix2 i 0) = Scalar.select (Ideal.cmp .oge (countOf x (ix2 i 0)) (Ideal.ofBits .f32 0x40400000#32))
      (maxOf x (ix2 i 0)) (Scalar.select (Ideal.cmp .oge (countOf x (ix2 i 0) + countOf (restOf x) (ix2 i 0)) (Ideal.ofBits .f32 0x40400000#32))
        (maxOf (restOf x) (ix2 i 0)) (maxOf (restOf (restOf x)) (ix2 i 0))) := by
    pointwise [thirdOf]
  rw [h, countOf_apply, countOf_apply, ofBits_three, maxOf_apply, maxOf_apply, maxOf_apply, restOf_apply, restOf_apply, restOf_apply,
    ← Nat.cast_add, select_oge_nat, select_oge_nat]
  rfl

theorem threeOf_apply (x : FVec Ideal S441x2205 .f32) (i : Fin 441) :
    threeOf x (ix2 i 0) = TopThree.peak (row x i) + TopThree.second (row x i) + TopThree.third (row x i) := by
  rw [← maxOf_apply, ← secondOf_apply, ← thirdOf_apply]
  pointwise [threeOf]

theorem totalOf_apply (y : FVec Ideal S441x1 .f32) : totalOf y (ix4 0 0 0 0) = ∑ i : Fin 441, y (ix2 i 0) := by
  pointwise [totalOf]

/-- One score: over the query's descriptors, the sum of the three values of that descriptor's row. -/
theorem scoreOf_apply (q : FVec Ideal S64x441 .f32) (s : Vec Ideal S1x64x2205 .f32) :
    scoreOf q s (ix4 0 0 0 0) = ∑ i : Fin 441,
      (TopThree.peak (fun k : Fin 2205 => ∑ d : Fin 64, q (ix2 d i) * s (ix3 0 d k))
        + TopThree.second (fun k : Fin 2205 => ∑ d : Fin 64, q (ix2 d i) * s (ix3 0 d k))
        + TopThree.third (fun k : Fin 2205 => ∑ d : Fin 64, q (ix2 d i) * s (ix3 0 d k))) := by
  rw [scoreOf, totalOf_apply]
  refine Finset.sum_congr rfl fun i _ => ?_
  rw [threeOf_apply, show row (simOf q s) i = _ from funext fun k => simOf_apply q s i k]

end

end Proof.Score
-- ==== Proof.Block.lean ====
module

public import proofs.«01_k».proof.Proof.Gen.KernelIdeal.Value
public import proofs.«01_k».proof.Proof.ScoreRead
public import Idealize.ShloMosaic.Lib.Pipeline.Value

@[expose] public section

/-!
# What one grid point leaves in the result's staging buffer

Five scores, one per class: the point's query image against the class's rows of the support block.
-/

namespace Proof.Block

open Cert.KernelIdeal Cert.KernelIdeal.Gen Idealize.ShloMosaic

noncomputable section

/-- A descriptor's similarities with the descriptors of one class, from the two input blocks. -/
def blockRow (x0 : Vec Ideal S1x64x441 .f32) (x1 : Vec Ideal S1x320x2205 .f32) (cl : Fin 5) (i : Fin 441) : Fin 2205 → EReal :=
  fun k => ∑ d : Fin 64, x0 (ix3 0 d i) * x1 (ix3 0 ⟨64 * cl.val + d.val, by omega⟩ k)

/-- The score of the point's query image against one class, from the two input blocks. -/
def blockScore (x0 : Vec Ideal S1x64x441 .f32) (x1 : Vec Ideal S1x320x2205 .f32) (cl : Fin 5) : EReal :=
  ∑ i : Fin 441, (TopThree.peak (blockRow x0 x1 cl i) + TopThree.second (blockRow x0 x1 cl i)
    + TopThree.third (blockRow x0 x1 cl i))

/-- One store's payload: the score of the class whose 64 rows start at row `64 · cl`. -/
theorem score_at (x0 : Vec Ideal S1x64x441 .f32) (x1 : Vec Ideal S1x320x2205 .f32) (cl : Fin 5)
    (q : Vec Ideal S1x64x441 .f32) (hq : ∀ d i, q (ix3 0 d i) = x0 (ix3 0 d i)) (s : Vec Ideal S1x64x2205 .f32)
    (hs : ∀ (d : Fin 64) (k : Fin 2205), s (ix3 0 d k) = x1 (ix3 0 ⟨64 * cl.val + d.val, by omega⟩ k)) (x : S1x1x1x1.Idx) :
    Score.scoreOf (k0_pay2 q) s x = blockScore x0 x1 cl := by
  have hx : x = ix4 0 0 0 0 := by
    funext a; apply Fin.ext
    have h0 : (x 0).val < 1 := (x 0).isLt
    have h1 : (x 1).val < 1 := (x 1).isLt
    have h2 : (x 2).val < 1 := (x 2).isLt
    have h3 : (x 3).val < 1 := (x 3).isLt
    match a with
    | ⟨0, _⟩ => show (x 0).val = 0; omega
    | ⟨1, _⟩ => show (x 1).val = 0; omega
    | ⟨2, _⟩ => show (x 2).val = 0; omega
    | ⟨3, _⟩ => show (x 3).val = 0; omega
  have hr : ∀ i : Fin 441, (fun k : Fin 2205 => ∑ d : Fin 64, k0_pay2 q (ix2 d i) * s (ix3 0 d k)) = blockRow x0 x1 cl i := by
    intro i; funext k
    refine Finset.sum_congr rfl fun d _ => ?_
    rw [hs, ← hq]
    refine congrArg (fun u : EReal => u * _) ?_
    pointwise [k0_pay2]
  subst hx
  rw [Score.scoreOf_apply]
  refine Finset.sum_congr rfl fun i _ => ?_
  rw [hr]

/-- A load of the support block's 64 rows starting at row `o`. -/
theorem ld_rows (x1 : Vec Ideal S1x320x2205 .f32) (o : Nat) (inb : ∀ a, (![0, o, 0] : Fin 3 → Nat) a + S1x64x2205.size a ≤ S1x320x2205.size a)
    (d : Fin 64) (k : Fin 2205) (h : o + d.val < 320) :
    View.ld x1 (Rect.unit (s := S1x320x2205) ![0, o, 0] S1x64x2205.size inb) (ix3 0 d k) = x1 (ix3 0 ⟨o + d.val, h⟩ k) := by
  refine congrArg x1 (funext fun a => Fin.ext ?_)
  match a with
  | ⟨0, _⟩ => rfl
  | ⟨1, _⟩ => show o + 1 * d.val = o + d.val; omega
  | ⟨2, _⟩ => show 0 + 1 * k.val = k.val; omega

theorem ld_query (x0 : Vec Ideal S1x64x441 .f32) (d : Fin 64) (i : Fin 441) : View.ld x0 r0_0 (ix3 0 d i) = x0 (ix3 0 d i) :=
  congrFun (View.ld_unit_zero (S := S1x64x441) (funext fun a => by fin_cases a <;> rfl) _ x0) _

/-- A class's place in the result's block. -/
theorem emb_class (o : Nat) (inb : ∀ a, (![0, o, 0, 0] : Fin 4 → Nat) a + S1x1x1x1.size a ≤ S1x5x1x1.size a) (x : S1x1x1x1.Idx) (cl : Fin 5)
    (hcl : cl.val = o) : (Rect.unit (s := S1x5x1x1) ![0, o, 0, 0] S1x1x1x1.size inb).emb x 1 = cl := by
  apply Fin.ext
  show o + 1 * (x 1).val = cl.val
  have h1 : (x 1).val < 1 := (x 1).isLt
  omega

/-- The result's block after the body: at class `y 1`, that class's score. -/
theorem out_apply (x0 : Vec Ideal S1x64x441 .f32) (x1 : Vec Ideal S1x320x2205 .f32) (y : S1x5x1x1.Idx) :
    out0_2 x0 x1 y = blockScore x0 x1 (y 1) := by
  unfold out0_2
  refine View.canon_apply_of_pieces (Val := Elt Ideal) (e := .f32) (fun y : S1x5x1x1.Idx => (blockScore x0 x1 (y 1) : EReal)) _ ?_ y (cover0_2 _ _ _ _ _ y)
  intro p hp x
  simp only [List.mem_cons, List.not_mem_nil, or_false] at hp
  rcases hp with rfl | rfl | rfl | rfl | rfl
  · dsimp only
    rw [Score.pay_class4, k0_pay38]
    exact (score_at x0 x1 4 _ (ld_query x0) _ (fun d k => ld_rows x1 256 _ d k _) x).trans
      (congrArg _ (emb_class 4 _ x 4 rfl).symm)
  · dsimp only
    rw [Score.pay_class3, k0_pay38]
    exact (score_at x0 x1 3 _ (ld_query x0) _ (fun d k => ld_rows x1 192 _ d k _) x).trans
      (congrArg _ (emb_class 3 _ x 3 rfl).symm)
  · dsimp only
    rw [Score.pay_class2, k0_pay38]
    exact (score_at x0 x1 2 _ (ld_query x0) _ (fun d k => ld_rows x1 128 _ d k _) x).trans
      (congrArg _ (emb_class 2 _ x 2 rfl).symm)
  · dsimp only
    rw [Score.pay_class1, k0_pay38]
    exact (score_at x0 x1 1 _ (ld_query x0) _ (fun d k => ld_rows x1 64 _ d k _) x).trans
      (congrArg _ (emb_class 1 _ x 1 rfl).symm)
  · dsimp only
    rw [Score.pay_class0]
    exact (score_at x0 x1 0 _ (ld_query x0) _ (fun d k => ld_rows x1 0 _ d k _) x).trans
      (congrArg _ (emb_class 0 _ x 0 rfl).symm)

end

end Proof.Block
-- ==== Proof.TopK.lean ====
module

public import proofs.«01_k».proof.ReferenceIdeal
public import proofs.«01_k».proof.Proof.TopThree
public import Idealize.ShloMosaic.Lib.SortFacts
public import Idealize.ShloMosaic.Lib.Pointwise

@[expose] public section

/-!
# The reference's three largest similarities

The reference sorts each row of similarities downwards and keeps its first three.  Their sum is the sum
of the three values `TopThree` reads by counting.
-/

namespace Proof.TopK

open Cert.ReferenceIdeal Idealize.ShloMosaic

noncomputable section

/-- "`a` is greater than `b`", as the sort's comparator answers it at two positions of a row. -/
def greater {n : ℕ} (f : Fin n → EReal) (k k' : Fin n) : Bool := Ideal.cmp .ogt (f k) (f k') == 1#1

theorem greater_iff {n : ℕ} (f : Fin n → EReal) (k k' : Fin n) : greater f k k' = true ↔ f k' < f k := by
  unfold greater Ideal.cmp
  by_cases h : f k' < f k <;> simp [h]

theorem not_greater_iff {n : ℕ} (f : Fin n → EReal) (k k' : Fin n) : greater f k k' = false ↔ f k ≤ f k' := by
  rw [Bool.eq_false_iff, ne_eq, greater_iff, not_lt]

/-- The order a row is sorted in, as a bijection of its positions. -/
def order {n : ℕ} (f : Fin n → EReal) : Fin n ≃ Fin n :=
  Equiv.ofBijective (sortedFrom (greater f)) ⟨sortedFrom_injective _, sortedFrom_surjective _⟩

theorem order_antitone {n : ℕ} (f : Fin n → EReal) : Antitone fun i => f (order f i) := by
  intro i j hij
  rcases eq_or_lt_of_le hij with rfl | h
  · exact le_rfl
  · refine (not_greater_iff f _ _).mp (sortedFrom_noInversion (greater f) (greater f) (fun a b hab => ?_) (fun _ _ h => h)
      (fun a b c hab hbc => ?_) i j h)
    · rw [not_greater_iff]; exact ((greater_iff f a b).mp hab).le
    · rw [not_greater_iff] at *; exact hab.trans hbc

theorem order_place {n : ℕ} (f : Fin n → EReal) (i j : Fin n) (h : i.val = j.val) : sortedFrom (greater f) i = order f j := by
  rw [Fin.ext h]; rfl

/-- The first three values in that order, added. -/
theorem order_three {n : ℕ} (h : 3 ≤ n) (f : Fin n → EReal) :
    f (order f ⟨0, by omega⟩) + f (order f ⟨1, by omega⟩) + f (order f ⟨2, by omega⟩)
      = TopThree.peak f + TopThree.second f + TopThree.third f := by
  obtain ⟨h0, h1, h2⟩ := TopThree.three_of_sorted_of_le h f (order f) (order_antitone f)
  rw [h0, h1, h2]

/-- The reference's top-three of an array, read at an index. -/
theorem topK_apply (y : FVec Ideal S2x5x6615x2205 .f32) (h : S2x5x6615x2205.Slices (fun _ => 0) S2x5x6615x3) (b : Fin 2) (c : Fin 5)
    (q : Fin 6615) (r : Fin 3) :
    (Host.topK S2x5x6615x3 3 (FloatOps.cmpfTotal .gt) y h).1 (ix4 b c q r)
      = y (ix4 b c q (order (fun k : Fin 2205 => y (ix4 b c q k)) ⟨r.val, by omega⟩)) := by
  have hal : ∀ k : Fin 2205, Shape.Idx.along (s := S2x5x6615x2205)
      (fun a => ⟨0 + ((ix4 b c q r : S2x5x6615x3.Idx) (a.cast h.1.symm)).val,
        Nat.lt_of_lt_of_le (Nat.add_lt_add_left ((ix4 b c q r : S2x5x6615x3.Idx) _).isLt _) (h.2 a)⟩) (3 : Fin 4) k
        = (ix4 b c q k : S2x5x6615x2205.Idx) := by
    intro k
    funext a
    apply Fin.ext
    match a with
    | ⟨0, _⟩ => exact Nat.zero_add _
    | ⟨1, _⟩ => exact Nat.zero_add _
    | ⟨2, _⟩ => exact Nat.zero_add _
    | ⟨3, _⟩ => rfl
  have he : (Host.topK S2x5x6615x3 3 (FloatOps.cmpfTotal .gt) y h).1 (ix4 b c q r)
      = y (Shape.Idx.along (s := S2x5x6615x2205)
      (fun a => ⟨0 + ((ix4 b c q r : S2x5x6615x3.Idx) (a.cast h.1.symm)).val,
        Nat.lt_of_lt_of_le (Nat.add_lt_add_left ((ix4 b c q r : S2x5x6615x3.Idx) _).isLt _) (h.2 a)⟩) (3 : Fin 4)
        (sortedFrom (fun k k' : Fin 2205 => Ideal.cmp .ogt (y (Shape.Idx.along (s := S2x5x6615x2205)
      (fun a => ⟨0 + ((ix4 b c q r : S2x5x6615x3.Idx) (a.cast h.1.symm)).val,
        Nat.lt_of_lt_of_le (Nat.add_lt_add_left ((ix4 b c q r : S2x5x6615x3.Idx) _).isLt _) (h.2 a)⟩) (3 : Fin 4) k))
          (y (Shape.Idx.along (s := S2x5x6615x2205)
      (fun a => ⟨0 + ((ix4 b c q r : S2x5x6615x3.Idx) (a.cast h.1.symm)).val,
        Nat.lt_of_lt_of_le (Nat.add_lt_add_left ((ix4 b c q r : S2x5x6615x3.Idx) _).isLt _) (h.2 a)⟩) (3 : Fin 4) k')) == 1#1)
          ⟨0 + r.val, (by omega : 0 + r.val < 2205)⟩)) := rfl
  rw [he]
  simp only [hal]
  refine congrArg y ((hal _).trans (congrArg (fun k => (ix4 b c q k : S2x5x6615x2205.Idx)) ?_))
  exact order_place (fun k : Fin 2205 => y (ix4 b c q k)) _ _ (Nat.zero_add _)

/-- Their sum over the three places is the three values read by counting. -/
theorem topK_sum (y : FVec Ideal S2x5x6615x2205 .f32) (h : S2x5x6615x2205.Slices (fun _ => 0) S2x5x6615x3) (b : Fin 2) (c : Fin 5)
    (q : Fin 6615) :
    ∑ r : Fin 3, (Host.topK S2x5x6615x3 3 (FloatOps.cmpfTotal .gt) y h).1 (ix4 b c q r)
      = TopThree.peak (fun k : Fin 2205 => y (ix4 b c q k)) + TopThree.second (fun k : Fin 2205 => y (ix4 b c q k))
        + TopThree.third (fun k : Fin 2205 => y (ix4 b c q k)) := by
  rw [Fin.sum_univ_three, topK_apply, topK_apply, topK_apply]
  exact order_three (by omega : 3 ≤ 2205) (fun k : Fin 2205 => y (ix4 b c q k))

end

end Proof.TopK
-- ==== Proof.Ref.lean ====
module

public import proofs.«01_k».proof.Proof.Gen.ReferenceIdeal.Read
public import proofs.«01_k».proof.Proof.TopK

@[expose] public section

/-!
# The reference read at an index

The score of query image `q` against class `c` is the sum, over the query's 441 descriptors, of the three
largest similarities with the class's 2205 descriptors.
-/

namespace Proof.Ref

open Cert.ReferenceIdeal Cert.ReferenceIdeal.Read Idealize.ShloMosaic

noncomputable section

/-- The image that holds descriptor `k` of class `c`, for a query image `q`. -/
def support (q : Fin 30) (c : Fin 5) (k : Fin 2205) : Fin 80 :=
  ⟨30 + (q.val / 15 * 5 + c.val) * 5 + k.val / 441, by have := q.isLt; have := c.isLt; have := k.isLt; omega⟩

/-- The similarities of descriptor `i` of query image `q` with the descriptors of class `c`. -/
def simRow (x : S80x64x441.Idx → EReal) (q : Fin 30) (c : Fin 5) (i : Fin 441) : Fin 2205 → EReal := fun k =>
  ∑ d : Fin 64, x (ix3 (q.castLE (by omega)) d i) * x (ix3 (support q c k) d ⟨k.val % 441, by omega⟩)

/-- The score of query image `q` against class `c`. -/
def score (x : S80x64x441.Idx → EReal) (q : Fin 30) (c : Fin 5) : EReal :=
  ∑ i : Fin 441, (TopThree.peak (simRow x q c i) + TopThree.second (simRow x q c i) + TopThree.third (simRow x q c i))

abbrev Arg := (⟨S80x64x441, .f32⟩ : BufTy).Contents (Elt Ideal)

theorem v3_at (x : Arg) (b : Fin 2) (n : Fin 15) (i : Fin 441) (d : Fin 64) :
    val_main_v3 (F := Ideal) x (ix3 b ⟨n.val * 441 + i.val, by omega⟩ d) = val_main_v2 (F := Ideal) x (ix4 b n i d) := by
  have hb := b.isLt; have hn := n.isLt; have hi := i.isLt; have hd := d.isLt
  rw [val_main_v3_apply]
  refine congrArg (val_main_v2 (F := Ideal) x) (funext fun a => Fin.ext ?_)
  match a with
  | ⟨0, _⟩ => show ((b.val * 6615 + (n.val * 441 + i.val)) * 64 + d.val) / 423360 = b.val; omega
  | ⟨1, _⟩ => show ((b.val * 6615 + (n.val * 441 + i.val)) * 64 + d.val) / 28224 % 15 = n.val; omega
  | ⟨2, _⟩ => show ((b.val * 6615 + (n.val * 441 + i.val)) * 64 + d.val) / 64 % 441 = i.val; omega
  | ⟨3, _⟩ => show ((b.val * 6615 + (n.val * 441 + i.val)) * 64 + d.val) % 64 = d.val; omega

theorem v2_at (x : Arg) (b : Fin 2) (n : Fin 15) (i : Fin 441) (d : Fin 64) :
    val_main_v2 (F := Ideal) x (ix4 b n i d) = x (ix3 ⟨b.val * 15 + n.val, by omega⟩ d i) := by
  have hb := b.isLt; have hn := n.isLt; have hi := i.isLt; have hd := d.isLt
  rw [val_main_v2_apply, val_main_v1_apply, val_main_v0_apply]
  refine congrArg x (funext fun a => Fin.ext ?_)
  match a with
  | ⟨0, _⟩ => show (((b.val * 15 + n.val) * 64 + d.val) * 441 + i.val) / 28224 = b.val * 15 + n.val; omega
  | ⟨1, _⟩ => show (((b.val * 15 + n.val) * 64 + d.val) * 441 + i.val) / 441 % 64 = d.val; omega
  | ⟨2, _⟩ => show (((b.val * 15 + n.val) * 64 + d.val) * 441 + i.val) % 441 = i.val; omega

theorem v7_at (x : Arg) (b : Fin 2) (c : Fin 5) (k : Fin 2205) (d : Fin 64) :
    val_main_v7 (F := Ideal) x (ix4 b c k d)
      = val_main_v6 (F := Ideal) x (ix5 b c ⟨k.val / 441, by omega⟩ ⟨k.val % 441, by omega⟩ d) := by
  have hb := b.isLt; have hc := c.isLt; have hk := k.isLt; have hd := d.isLt
  rw [val_main_v7_apply]
  refine congrArg (val_main_v6 (F := Ideal) x) (funext fun a => Fin.ext ?_)
  match a with
  | ⟨0, _⟩ => show (((b.val * 5 + c.val) * 2205 + k.val) * 64 + d.val) / 705600 = b.val; omega
  | ⟨1, _⟩ => show (((b.val * 5 + c.val) * 2205 + k.val) * 64 + d.val) / 141120 % 5 = c.val; omega
  | ⟨2, _⟩ => show (((b.val * 5 + c.val) * 2205 + k.val) * 64 + d.val) / 28224 % 5 = k.val / 441; omega
  | ⟨3, _⟩ => show (((b.val * 5 + c.val) * 2205 + k.val) * 64 + d.val) / 64 % 441 = k.val % 441; omega
  | ⟨4, _⟩ => show (((b.val * 5 + c.val) * 2205 + k.val) * 64 + d.val) % 64 = d.val; omega

theorem v6_at (x : Arg) (b : Fin 2) (c : Fin 5) (s : Fin 5) (i : Fin 441) (d : Fin 64) :
    val_main_v6 (F := Ideal) x (ix5 b c s i d) = x (ix3 ⟨30 + ((b.val * 5 + c.val) * 5 + s.val), by omega⟩ d i) := by
  have hb := b.isLt; have hc := c.isLt; have hs := s.isLt; have hi := i.isLt; have hd := d.isLt
  rw [val_main_v6_apply, val_main_v5_apply, val_main_v4_apply]
  refine congrArg x (funext fun a => Fin.ext ?_)
  match a with
  | ⟨0, _⟩ => show 30 + ((((b.val * 5 + c.val) * 5 + s.val) * 64 + d.val) * 441 + i.val) / 28224 = 30 + ((b.val * 5 + c.val) * 5 + s.val); omega
  | ⟨1, _⟩ => show ((((b.val * 5 + c.val) * 5 + s.val) * 64 + d.val) * 441 + i.val) / 441 % 64 = d.val; omega
  | ⟨2, _⟩ => show ((((b.val * 5 + c.val) * 5 + s.val) * 64 + d.val) * 441 + i.val) % 441 = i.val; omega

/-- The reference's similarities at an index. -/
theorem v9_at (x : Arg) (b : Fin 2) (n : Fin 15) (c : Fin 5) (i : Fin 441) (k : Fin 2205) :
    val_main_v9 (F := Ideal) x (ix4 b c ⟨n.val * 441 + i.val, by omega⟩ k)
      = simRow x ⟨b.val * 15 + n.val, by omega⟩ c i k := by
  have hb := b.isLt; have hn := n.isLt; have hc := c.isLt; have hk := k.isLt
  rw [val_main_v9_apply, val_main_v8_apply]
  refine Finset.sum_congr rfl fun d _ => ?_
  have hl : lidx_main_v8 (idx_main_v9 (ix4 b c ⟨n.val * 441 + i.val, by omega⟩ k)) d = ix4 b c k d := by
    funext a
    match a with
    | ⟨0, _⟩ => rfl
    | ⟨1, _⟩ => rfl
    | ⟨2, _⟩ => rfl
    | ⟨3, _⟩ => rfl
  have hr : ridx_main_v8 (idx_main_v9 (ix4 b c ⟨n.val * 441 + i.val, by omega⟩ k)) d
      = ix3 b ⟨n.val * 441 + i.val, by omega⟩ d := by
    funext a
    match a with
    | ⟨0, _⟩ => rfl
    | ⟨1, _⟩ => rfl
    | ⟨2, _⟩ => rfl
  rw [hl, hr, v7_at, v6_at, v3_at, v2_at]
  refine (mul_comm (G := EReal) _ _).trans (congrArg₂ (fun u v : EReal => u * v) rfl (congrArg x ?_))
  refine congrArg (fun a : Fin 80 => ix3 a d (⟨k.val % 441, by omega⟩ : Fin 441)) (Fin.ext ?_)
  show 30 + ((b.val * 5 + c.val) * 5 + k.val / 441) = 30 + ((b.val * 15 + n.val) / 15 * 5 + c.val) * 5 + k.val / 441
  omega

/-- A sum over 1323 places read as 441 groups of three. -/
theorem sum_groups (f : Fin 1323 → EReal) :
    ∑ p : Fin 1323, f p = ∑ i : Fin 441, ∑ r : Fin 3, f ⟨i.val * 3 + r.val, by omega⟩ := by
  rw [← Fintype.sum_prod_type' (f := fun (i : Fin 441) (r : Fin 3) => f ⟨i.val * 3 + r.val, by omega⟩)]
  refine Fintype.sum_equiv (finProdFinEquiv (m := 441) (n := 3)).symm _ _ fun p => congrArg f (Fin.ext ?_)
  show p.val = p.val / 3 * 3 + p.val % 3
  omega

theorem v10_at (x : Arg) (b : Fin 2) (c : Fin 5) (n : Fin 15) (i : Fin 441) (r : Fin 3) :
    val_main_v10 (F := Ideal) x (ix4 b c n ⟨i.val * 3 + r.val, by omega⟩)
      = val_main_values (F := Ideal) x (ix4 b c ⟨n.val * 441 + i.val, by omega⟩ r) := by
  have hb := b.isLt; have hn := n.isLt; have hc := c.isLt; have hi := i.isLt; have hr := r.isLt
  rw [val_main_v10_apply]
  refine congrArg (val_main_values (F := Ideal) x) (funext fun a => Fin.ext ?_)
  match a with
  | ⟨0, _⟩ => show (((b.val * 5 + c.val) * 15 + n.val) * 1323 + (i.val * 3 + r.val)) / 99225 = b.val; omega
  | ⟨1, _⟩ => show (((b.val * 5 + c.val) * 15 + n.val) * 1323 + (i.val * 3 + r.val)) / 19845 % 5 = c.val; omega
  | ⟨2, _⟩ => show (((b.val * 5 + c.val) * 15 + n.val) * 1323 + (i.val * 3 + r.val)) / 3 % 6615 = n.val * 441 + i.val; omega
  | ⟨3, _⟩ => show (((b.val * 5 + c.val) * 15 + n.val) * 1323 + (i.val * 3 + r.val)) % 3 = r.val; omega

/-- The reference's scores, before their last transpose. -/
theorem v11_at (x : Arg) (b : Fin 2) (c : Fin 5) (n : Fin 15) :
    val_main_v11 (F := Ideal) x (ix3 b c n) = score x ⟨b.val * 15 + n.val, by omega⟩ c := by
  rw [val_main_v11_apply, sum_groups]
  have h0 : val_main_cst (F := Ideal) (Shape.Idx.first Cert.ReferenceIdeal.Gen.h_S_) = (0 : EReal) := by
    show Ideal.ofBits .f32 0x00000000#32 = 0
    simp [Ideal.ofBits, Ideal.ieee]
  rw [h0, zero_add]
  refine Finset.sum_congr rfl fun i _ => ?_
  have h1 : ∀ r : Fin 3, val_main_v10 (F := Ideal) x (idx_main_v11 (ix3 b c n) ⟨i.val * 3 + r.val, by omega⟩)
      = val_main_values (F := Ideal) x (ix4 b c ⟨n.val * 441 + i.val, by omega⟩ r) := fun r => by
    rw [← v10_at]
    refine congrArg (val_main_v10 (F := Ideal) x) (funext fun a => ?_)
    match a with
    | ⟨0, _⟩ => rfl
    | ⟨1, _⟩ => rfl
    | ⟨2, _⟩ => rfl
    | ⟨3, _⟩ => rfl
  rw [Finset.sum_congr rfl fun r _ => h1 r]
  unfold val_main_values
  rw [TopK.topK_sum, show (fun k : Fin 2205 => val_main_v9 (F := Ideal) x (ix4 b c ⟨n.val * 441 + i.val, by omega⟩ k))
    = simRow x ⟨b.val * 15 + n.val, by omega⟩ c i from funext fun k => v9_at x b n c i k]

/-- The reference's result at an index. -/
theorem v13_at (x : Arg) (q : Fin 30) (c : Fin 5) : val_main_v13 (F := Ideal) x (ix4 q c 0 0) = score x q c := by
  have hq := q.isLt; have hc := c.isLt
  rw [val_main_v13_apply, val_main_v12_apply]
  have h : idx_main_v12 (idx_main_v13 (ix4 q c 0 0)) = ix3 (⟨q.val / 15, by omega⟩ : Fin 2) c (⟨q.val % 15, by omega⟩ : Fin 15) := by
    refine funext fun a => Fin.ext ?_
    match a with
    | ⟨0, _⟩ => show (((q.val * 5 + c.val) * 1 + 0) * 1 + 0) / 75 = q.val / 15; omega
    | ⟨1, _⟩ => show (((q.val * 5 + c.val) * 1 + 0) * 1 + 0) % 5 = c.val; omega
    | ⟨2, _⟩ => show (((q.val * 5 + c.val) * 1 + 0) * 1 + 0) / 5 % 15 = q.val % 15; omega
  rw [h, v11_at]
  refine congrArg (fun q => score x q c) (Fin.ext ?_)
  show q.val / 15 * 15 + q.val % 15 = q.val
  omega

end

end Proof.Ref
-- ==== Proof.Array.lean ====
module

public import proofs.«01_k».proof.Proof.Block
public import proofs.«01_k».proof.Proof.Ref
public import Idealize.ShloMosaic.Lib.StableHlo.ReadAt

@[expose] public section

/-!
# The kernel's result array

The host operations cut the features into query images and class-major support blocks. Each grid point
scores one query image; the 30 blocks tile the result.
-/

namespace Proof.Array

open Cert.KernelIdeal Cert.KernelIdeal.Gen Cert.KernelIdeal.Value Idealize.ShloMosaic Idealize.SL.Sem

noncomputable section

variable (m : (b : Loc nD τ sig) → Buf (Elt Ideal) b) (c : Dev nD)

/-- The feature maps that the kernel is given. -/
abbrev feats : S80x64x441.Idx → EReal := m ((c.tc : Thread nD τ).loc main_arg0)

/-- The query images are the first 30 feature maps. -/
theorem query_at (q : Fin 30) (d : Fin 64) (i : Fin 441) :
    (V m c main_v0 : S30x64x441.Idx → EReal) (ix3 q d i) = feats m c (ix3 (q.castLE (by omega)) d i) := by
  have e : (V m c main_v0 : S30x64x441.Idx → EReal)
      = extractStridedSlice S30x64x441 ![0, 0, 0] (feats m c) slices_S80x64x441_S30x64x441_0_0_0 := by
    rfl
  rw [e]
  refine congrArg (feats m c) (funext fun a => Fin.ext ?_)
  match a with
  | ⟨0, _⟩ => show 0 + q.val = q.val; omega
  | ⟨1, _⟩ => show 0 + d.val = d.val; omega
  | ⟨2, _⟩ => show 0 + i.val = i.val; omega

/-- The support block: row `64 · cl + d` of episode `b` holds channel `d` of class `cl`'s descriptors. -/
theorem support_at (b : Fin 2) (cl : Fin 5) (d : Fin 64) (k : Fin 2205) :
    (V m c main_v4 : S2x320x2205.Idx → EReal) (ix3 b ⟨64 * cl.val + d.val, by omega⟩ k)
      = feats m c (ix3 ⟨30 + (b.val * 5 + cl.val) * 5 + k.val / 441, by omega⟩ d ⟨k.val % 441, by omega⟩) := by
  have e : (V m c main_v4 : S2x320x2205.Idx → EReal)
      = shapeCast S2x320x2205 (transpose S2x5x64x5x441 [0, 1, 3, 2, 4]
          (shapeCast S2x5x5x64x441 (extractStridedSlice S50x64x441 ![30, 0, 0] (feats m c) slices_S80x64x441_S50x64x441_30_0_0)
            shapeCasts_S50x64x441_S2x5x5x64x441) transposes_S2x5x5x64x441_S2x5x64x5x441_0_1_3_2_4)
          shapeCasts_S2x5x64x5x441_S2x320x2205 := by
    after_results <;> rfl
  rw [e]
  pointwise
  exact congrArg (fun n : Fin 80 => feats m c (ix3 n d ⟨k.val % 441, by omega⟩)) (Fin.ext (by
    show 30 + (b.val * 25 + cl.val * 5 + k.val / 441) = 30 + (b.val * 5 + cl.val) * 5 + k.val / 441
    omega))

/-- Point `t` takes query image `t` … -/
theorem index0 (t : Fin cfg0.N) : win0_0.index t (0 : Fin 3) = t.val ∧ win0_0.index t (1 : Fin 3) = 0 ∧ win0_0.index t (2 : Fin 3) = 0 := by
  revert t; decide +kernel

/-- … and the support block of its episode … -/
theorem index1 (t : Fin cfg0.N) : win0_1.index t (0 : Fin 3) = t.val / 15 ∧ win0_1.index t (1 : Fin 3) = 0 ∧ win0_1.index t (2 : Fin 3) = 0 := by
  revert t; decide +kernel

/-- … and writes row `t` of the result. -/
theorem index2 (t : Fin cfg0.N) : win0_2.index t (0 : Fin 4) = t.val ∧ win0_2.index t (1 : Fin 4) = 0 ∧ win0_2.index t (2 : Fin 4) = 0
    ∧ win0_2.index t (3 : Fin 4) = 0 := by
  revert t; decide +kernel

theorem points (t : Fin cfg0.N) : t.val < 30 := t.isLt

/-- The query block of point `t`. -/
theorem block_query (t : Fin cfg0.N) (d : Fin 64) (i : Fin 441) :
    (iblk m c 0 t : S1x64x441.Idx → EReal) (ix3 0 d i) = feats m c (ix3 ⟨t.val, by have := points t; omega⟩ d i) := by
  obtain ⟨e0, e1, e2⟩ := index0 t
  refine Eq.trans ?_ (query_at m c ⟨t.val, points t⟩ d i)
  refine congrArg (V m c main_v0 : S30x64x441.Idx → EReal) (funext fun a => Fin.ext ?_)
  match a with
  | ⟨0, _⟩ => show win0_0.index t (0 : Fin 3) * 1 + 1 * 0 = t.val; omega
  | ⟨1, _⟩ => show win0_0.index t (1 : Fin 3) * 64 + 1 * d.val = d.val; omega
  | ⟨2, _⟩ => show win0_0.index t (2 : Fin 3) * 441 + 1 * i.val = i.val; omega

/-- The support block of point `t`. -/
theorem block_support (t : Fin cfg0.N) (cl : Fin 5) (d : Fin 64) (k : Fin 2205) :
    (iblk m c 1 t : S1x320x2205.Idx → EReal) (ix3 0 ⟨64 * cl.val + d.val, by omega⟩ k)
      = feats m c (ix3 (Ref.support ⟨t.val, points t⟩ cl k) d ⟨k.val % 441, by omega⟩) := by
  obtain ⟨e0, e1, e2⟩ := index1 t
  have ht := points t
  refine Eq.trans ?_ (support_at m c ⟨t.val / 15, by omega⟩ cl d k)
  refine congrArg (V m c main_v4 : S2x320x2205.Idx → EReal) (funext fun a => Fin.ext ?_)
  match a with
  | ⟨0, _⟩ => show win0_1.index t (0 : Fin 3) * 1 + 1 * 0 = t.val / 15; omega
  | ⟨1, _⟩ => show win0_1.index t (1 : Fin 3) * 320 + 1 * (64 * cl.val + d.val) = 64 * cl.val + d.val; omega
  | ⟨2, _⟩ => show win0_1.index t (2 : Fin 3) * 2205 + 1 * k.val = k.val; omega

/-- The result: at row `q` and class `cl`, the score of query image `q` against class `cl`. -/
def G : S30x5x1x1.Idx → EReal := fun i => Ref.score (feats m c) (i 0) (i 1)

/-- A point's five scores are its row of the result. -/
theorem block_score (t : Fin cfg0.N) (cl : Fin 5) :
    Block.blockScore (iblk m c 0 t) (iblk m c 1 t) cl = Ref.score (feats m c) ⟨t.val, points t⟩ cl := by
  have hr : ∀ i, Block.blockRow (iblk m c 0 t) (iblk m c 1 t) cl i = Ref.simRow (feats m c) ⟨t.val, points t⟩ cl i := by
    intro i; funext k
    exact Finset.sum_congr rfl fun d _ => congrArg₂ (fun u v : EReal => u * v) (block_query m c t d i) (block_support m c t cl d k)
  exact Finset.sum_congr rfl fun i _ => by rw [hr]

/-- What point `t` writes back is its block of the result. -/
theorem flushed_eq (t : Fin cfg0.N) : (dats m 0 c).flushed 2 t = ((cfg0.win 2).blk t).view.read (Elt Ideal) (G m c) := by
  rw [flushed2]
  obtain ⟨e0, e1, e2, e3⟩ := index2 t
  funext j
  have h0 : (j (0 : Fin 4)).val < 1 := (j (0 : Fin 4)).isLt
  have hG : (((cfg0.win 2).blk t).view.read (Elt Ideal) (G m c) j : EReal) = Ref.score (feats m c) ⟨t.val, points t⟩ (j (1 : Fin 4)) := by
    show Ref.score (feats m c) _ _ = _
    refine congrArg₂ (Ref.score (feats m c)) (Fin.ext ?_) (Fin.ext ?_)
    · show win0_2.index t (0 : Fin 4) * 1 + 1 * (j (0 : Fin 4)).val = t.val; omega
    · show win0_2.index t (1 : Fin 4) * 5 + 1 * (j (1 : Fin 4)).val = (j (1 : Fin 4)).val; omega
  refine Eq.trans ?_ hG.symm
  exact (Block.out_apply (iblk m c 0 t) (iblk m c 1 t) j).trans (block_score m c t _)

/-- Every index of the result is in the block of the point of its row. -/
theorem covered (i : S30x5x1x1.Idx) : ∃ t : Fin cfg0.N, (cfg0.win 2).flush t = true ∧ i ∈ ((cfg0.win 2).blk t).view.set := by
  have h0 : (i 0).val < 30 := (i 0).isLt
  have h1 : (i 1).val < 5 := (i 1).isLt
  have h2 : (i 2).val < 1 := (i 2).isLt
  have h3 : (i 3).val < 1 := (i 3).isLt
  refine ⟨⟨(i 0).val, h0⟩, flush0_2 _, ?_⟩
  obtain ⟨e0, e1, e2, e3⟩ := index2 ⟨(i 0).val, h0⟩
  show i ∈ ((View.whole main_v5).slice (win0_2.rect ⟨(i 0).val, h0⟩)).set
  rw [View.set_slice_whole, Rect.mem_set_unit]
  intro a
  match a with
  | ⟨0, _⟩ => show win0_2.index ⟨(i 0).val, h0⟩ (0 : Fin 4) * 1 ≤ (i 0).val ∧ (i 0).val < win0_2.index ⟨(i 0).val, h0⟩ (0 : Fin 4) * 1 + 1; rw [e0]; show (i 0).val * 1 ≤ _ ∧ _ < (i 0).val * 1 + 1; omega
  | ⟨1, _⟩ => show win0_2.index ⟨(i 0).val, h0⟩ (1 : Fin 4) * 5 ≤ (i 1).val ∧ (i 1).val < win0_2.index ⟨(i 0).val, h0⟩ (1 : Fin 4) * 5 + 5; omega
  | ⟨2, _⟩ => show win0_2.index ⟨(i 0).val, h0⟩ (2 : Fin 4) * 1 ≤ (i 2).val ∧ (i 2).val < win0_2.index ⟨(i 0).val, h0⟩ (2 : Fin 4) * 1 + 1; omega
  | ⟨3, _⟩ => show win0_2.index ⟨(i 0).val, h0⟩ (3 : Fin 4) * 1 ≤ (i 3).val ∧ (i 3).val < win0_2.index ⟨(i 0).val, h0⟩ (3 : Fin 4) * 1 + 1; omega

/-- The result array when the launch has ended. -/
theorem final : (dats m 0 c).arrAt 2 cfg0.N = G m c :=
  (dats m 0 c).arrAt_eq_of_cover 2 (G m c) (fun t _ => flushed_eq m c t) (covered)

end

end Proof.Array
-- ==== Proof.Algebraic.lean ====
module

public import proofs.«01_k».proof.Defs
public import proofs.«01_k».proof.Proof.Array
public import proofs.«01_k».proof.Proof.Gen.Kernel
public import proofs.«01_k».proof.Proof.Gen.ReferenceIdeal.Run

@[expose] public section

/-!
# The kernel's result is the reference's

Both result arrays hold, at query image `q` and class `c`, the same score of the same features.
-/

namespace Proof

open Idealize.ShloMosaic Idealize.SL.Sem

/-- An index of a result is its row and its class: the two last axes have one position. -/
theorem index_eq (i : Cert.KernelIdeal.S30x5x1x1.Idx) : i = ix4 (i 0) (i 1) 0 0 := by
  have h2 : (i 2).val < 1 := (i 2).isLt
  have h3 : (i 3).val < 1 := (i 3).isLt
  funext a
  match a with
  | ⟨0, _⟩ => rfl
  | ⟨1, _⟩ => rfl
  | ⟨2, _⟩ => apply Fin.ext; show (i 2).val = 0; omega
  | ⟨3, _⟩ => apply Fin.ext; show (i 3).val = 0; omega

theorem reference_eq (x : Ref.Arg) :
    (Cert.ReferenceIdeal.Read.val_main_v13 (F := Ideal) x : Cert.ReferenceIdeal.S30x5x1x1.Idx → EReal) = fun i => Ref.score x (i 0) (i 1) := by
  funext i
  refine (congrArg (Cert.ReferenceIdeal.Read.val_main_v13 (F := Ideal) x) (index_eq i)).trans ?_
  exact Ref.v13_at x (i 0) (i 1)

theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Array.G m c, ?_, ?_⟩
  · exact (θ_run _ _ _).mono (fun r h c => ⟨(h c).1.trans (Array.final m c), (h c).2⟩) (Cert.KernelIdeal.Value.run_blocks m g)
  · refine (θ_run _ _ _).mono (fun r h c => ⟨?_, (h c).2⟩) (Cert.ReferenceIdeal.Value.run m' g')
    refine (h c).1.trans ((Cert.ReferenceIdeal.Read.val_main_v13_eq _).trans ((reference_eq _).trans ?_))
    show (fun i : Cert.ReferenceIdeal.S30x5x1x1.Idx => Ref.score _ (i 0) (i 1)) = fun i => Ref.score _ (i 0) (i 1)
    rw [hag c]

end Proof
-- ==== Proof.EncModel.lean ====
module

public import proofs.«01_k».proof.Proof.Gen.EncodeIdeal
public import proofs.«01_k».proof.Proof.Gen.EncodeIdeal.Skeleton
public import Idealize.ShloMosaic.Lib.Pipeline.Value
public import Idealize.ShloMosaic.Lib.Pointwise

@[expose] public section

/-!
# The steps of the encoder's body, written once

The body treats four pairs of images one after the other with the same steps. Each step is a function of the
values that it loads; the stores of a row loop are a list by recursion on the number of rows.
-/

namespace Proof.Enc

open Cert.EncodeIdeal Cert.EncodeIdeal.Gen Idealize.ShloMosaic

noncomputable section

/-- The stores made into a buffer, the last one first. -/
abbrev Pieces (s : Shape) := List (View.Piece (Elt Ideal) s .f32)

/-- The leaky rectifier of a vector. -/
def leakyV {s : Shape} (z : FVec Ideal s .f32) : FVec Ideal s .f32 :=
  select (cmpf .oge z (broadcast s (Scalar.ofBits .f32 0x00000000#32))) z
    (mulf (broadcast s (Scalar.ofBits .f32 0x3E4CCCCD#32)) z)

/-- A row of biases as the body reshapes it. -/
def biasV (b : Vec Ideal S1x128 .f32) : FVec Ideal S1x128 .f32 :=
  shapeCast S1x128 (shapeCast S128 b shapeCasts_S1x128_S128) shapeCasts_S128_S1x128

/-- The two images of a pair stored in the first scratch buffer. -/
def images (xa xb : Vec Ideal S1x3x7392 .f32) (L : Pieces S16x7648) : Pieces S16x7648 :=
  ⟨Rect.unit (s := S16x7648) ![8, 128] S3x7392.size inb_S16x7648_S3x7392_8_128, k0_pay8 xb⟩ ::
    ⟨Rect.unit (s := S16x7648) ![0, 128] S3x7392.size inb_S16x7648_S3x7392_0_128, k0_pay8 xa⟩ :: L

section first

variable {κ : Kind} {sp : Space} (v : View sig κ sp S16x7648 .f32) (L : Pieces S16x7648)

/-- The load of the first scratch buffer for one place of the window. -/
def tap1 (o : ℕ) (h : ∀ a, (![0, o] : Fin 2 → ℕ) a + S16x7392.size a ≤ S16x7648.size a) : Vec Ideal S16x7392 .f32 :=
  v.readCov L (Rect.unit (s := S16x7648) ![0, o] S16x7392.size h).toLoadRect

theorem inbTap1 (t : Fin 9) : ∀ a, (![0, 39 + 88 * (t.val / 3) + t.val % 3] : Fin 2 → ℕ) a + S16x7392.size a ≤ S16x7648.size a := fun a =>
  match a with
  | ⟨0, _⟩ => Nat.le_refl 16
  | ⟨1, _⟩ => by
    have := t.isLt
    show 39 + 88 * (t.val / 3) + t.val % 3 + 7392 ≤ 7648
    omega

/-- The nine loads for the nine places of the window, one under the other. -/
def taps1 : FVec Ideal S144x7392 .f32 :=
  concatenate S144x7392 0 (List.ofFn fun t : Fin 9 => (⟨S16x7392, tap1 v L (39 + 88 * (t.val / 3) + t.val % 3) (inbTap1 t)⟩ : (s : Shape) × (s.Idx → EReal)))
    concatenates_S16x7392_S16x7392_S16x7392_S16x7392_S16x7392_S16x7392_S16x7392_S16x7392_S16x7392_S144x7392_d0

/-- The first convolution. -/
def conv1 (w : Vec Ideal S144x128 .f32) : FVec Ideal S7392x128 .f32 :=
  shapeCast S7392x128 (matmul (φ₁ := .f32) (φ₂ := .f32) dot_S144x7392_S144x128_S7392x128_0_0_1_1_n_n none (taps1 v L)
    (shapeCast S144x128 w shapeCasts_S144x128_S144x128) (constant S7392x128 .f32 0x00000000#32)) shapeCasts_S7392x128_S7392x128

end first

/-- The first convolution stored whole. -/
def whole1 (y : FVec Ideal S7392x128 .f32) (T : Pieces S7392x128) : Pieces S7392x128 :=
  ⟨Rect.unit (s := S7392x128) ![0, 0] S7392x128.size inb_S7392x128_S7392x128_0_0, y⟩ :: T

/-- The larger of neighbours along a row, from the first convolution. -/
def across1 {κ : Kind} {sp : Space} (v : View sig κ sp S7392x128 .f32) (T : Pieces S7392x128) : FVec Ideal S3696x128 .f32 :=
  maximumf
    (v.readCov T { off := ![0, 0], size := S3696x128.size, stride := ![2, 1], inb := inb_S7392x128_S3696x128_0_0_s_2_1 } : Vec Ideal S3696x128 .f32)
    (v.readCov T { off := ![1, 0], size := S3696x128.size, stride := ![2, 1], inb := inb_S7392x128_S3696x128_1_0_s_2_1 } : Vec Ideal S3696x128 .f32)

theorem slices1 {o : ℕ} (h : o + 44 ≤ 3696) : S3696x128.Slices ![o, 0] S44x128 :=
  ⟨rfl, fun a => match a with
    | ⟨0, _⟩ => h
    | ⟨1, _⟩ => Nat.le_refl 128⟩

theorem inb1 {o : ℕ} (h : o + 42 ≤ 2128) : ∀ a, (![o, 0] : Fin 2 → ℕ) a + S42x128.size a ≤ S2128x128.size a := fun a =>
  match a with
  | ⟨0, _⟩ => h
  | ⟨1, _⟩ => Nat.le_refl 128

/-- Row `n` of the first layer's result. -/
def row1 (a : FVec Ideal S3696x128 .f32) (b : Vec Ideal S1x128 .f32) (n : ℕ) (h : n < 42) : FVec Ideal S42x128 .f32 :=
  shapeCast S42x128 (leakyV (addf
    (extractStridedSlice S42x128 ![1, 0]
      (maximumf (extractStridedSlice S44x128 ![88 * n, 0] a (slices1 (by omega)))
        (extractStridedSlice S44x128 ![88 * n + 44, 0] a (slices1 (by omega)))) slices_S44x128_o1_0_S42x128)
    (broadcastTo S42x128 (biasV b) broadcasts_S1x128_S42x128))) shapeCasts_S42x128_S42x128

/-- The stores of the first `n` rows of the first layer's result. -/
def rows1 (a : FVec Ideal S3696x128 .f32) (b : Vec Ideal S1x128 .f32) (L : Pieces S2128x128) : (n : ℕ) → n ≤ 42 → Pieces S2128x128
  | 0, _ => L
  | n + 1, h => ⟨Rect.unit (s := S2128x128) ![58 + 48 * n, 0] S42x128.size (inb1 (by omega)), row1 a b n (by omega)⟩ ::
      rows1 a b L n (by omega)

/-- One product of the second convolution. -/
def mm2 (x : Vec Ideal S2016x128 .f32) (w : Vec Ideal S1x1x128x128 .f32) : FVec Ideal S2016x128 .f32 :=
  matmul (φ₁ := .f32) (φ₂ := .f32) dot_S2016x128_S128x128_S2016x128_1_0_0_1_n_n none x (shapeCast S128x128 w shapeCasts_S1x1x128x128_S128x128)
    (constant S2016x128 .f32 0x00000000#32)

/-- The load of the second scratch buffer for one place of the window. -/
def tap2 {κ : Kind} {sp : Space} (v : View sig κ sp S2128x128 .f32) (L : Pieces S2128x128) (o : ℕ)
    (h : ∀ a, (![o, 0] : Fin 2 → ℕ) a + S2016x128.size a ≤ S2128x128.size a) : Vec Ideal S2016x128 .f32 :=
  v.readCov L (Rect.unit (s := S2128x128) ![o, 0] S2016x128.size h).toLoadRect

/-- The second convolution. -/
def conv2 {κ : Kind} {sp : Space} (v : View sig κ sp S2128x128 .f32) (L : Pieces S2128x128)
    (w : Fin 9 → Vec Ideal S1x1x128x128 .f32) : FVec Ideal S2016x128 .f32 :=
  addf (addf (addf (addf (addf (addf (addf (addf
    (mm2 (tap2 v L 7 inb_S2128x128_S2016x128_7_0) (w 0))
    (mm2 (tap2 v L 8 inb_S2128x128_S2016x128_8_0) (w 1)))
    (mm2 (tap2 v L 9 inb_S2128x128_S2016x128_9_0) (w 2)))
    (mm2 (tap2 v L 55 inb_S2128x128_S2016x128_55_0) (w 3)))
    (mm2 (tap2 v L 56 inb_S2128x128_S2016x128_56_0) (w 4)))
    (mm2 (tap2 v L 57 inb_S2128x128_S2016x128_57_0) (w 5)))
    (mm2 (tap2 v L 103 inb_S2128x128_S2016x128_103_0) (w 6)))
    (mm2 (tap2 v L 104 inb_S2128x128_S2016x128_104_0) (w 7)))
    (mm2 (tap2 v L 105 inb_S2128x128_S2016x128_105_0) (w 8))

/-- The second convolution stored whole. -/
def whole2 (y : FVec Ideal S2016x128 .f32) (T : Pieces S2016x128) : Pieces S2016x128 :=
  ⟨Rect.unit (s := S2016x128) ![0, 0] S2016x128.size inb_S2016x128_S2016x128_0_0,
    shapeCast S2016x128 y shapeCasts_S2016x128_S2016x128⟩ :: T

/-- The larger of neighbours along a row, from the second convolution. -/
def across2 {κ : Kind} {sp : Space} (v : View sig κ sp S2016x128 .f32) (T : Pieces S2016x128) : FVec Ideal S1008x128 .f32 :=
  maximumf
    (v.readCov T { off := ![0, 0], size := S1008x128.size, stride := ![2, 1], inb := inb_S2016x128_S1008x128_0_0_s_2_1 } : Vec Ideal S1008x128 .f32)
    (v.readCov T { off := ![1, 0], size := S1008x128.size, stride := ![2, 1], inb := inb_S2016x128_S1008x128_1_0_s_2_1 } : Vec Ideal S1008x128 .f32)

theorem slices2 {o : ℕ} (h : o + 24 ≤ 1008) : S1008x128.Slices ![o, 0] S24x128 :=
  ⟨rfl, fun a => match a with
    | ⟨0, _⟩ => h
    | ⟨1, _⟩ => Nat.le_refl 128⟩

theorem inb2 {o : ℕ} (h : o + 21 ≤ 589) : ∀ a, (![o, 0] : Fin 2 → ℕ) a + S21x128.size a ≤ S589x128.size a := fun a =>
  match a with
  | ⟨0, _⟩ => h
  | ⟨1, _⟩ => Nat.le_refl 128

/-- Row `n` of the second layer's result. -/
def row2 (a : FVec Ideal S1008x128 .f32) (b : Vec Ideal S1x128 .f32) (n : ℕ) (h : n < 21) : FVec Ideal S21x128 .f32 :=
  shapeCast S21x128 (leakyV (addf
    (extractStridedSlice S21x128 ![1, 0]
      (maximumf (extractStridedSlice S24x128 ![48 * n, 0] a (slices2 (by omega)))
        (extractStridedSlice S24x128 ![48 * n + 24, 0] a (slices2 (by omega)))) slices_S24x128_o1_0_S21x128)
    (broadcastTo S21x128 (biasV b) broadcasts_S1x128_S21x128))) shapeCasts_S21x128_S21x128

/-- The stores of the first `n` rows of the second layer's result. -/
def rows2 (a : FVec Ideal S1008x128 .f32) (b : Vec Ideal S1x128 .f32) (L : Pieces S589x128) : (n : ℕ) → n ≤ 21 → Pieces S589x128
  | 0, _ => L
  | n + 1, h => ⟨Rect.unit (s := S589x128) ![34 + 25 * n, 0] S21x128.size (inb2 (by omega)), row2 a b n (by omega)⟩ ::
      rows2 a b L n (by omega)

/-- One product of the third and fourth convolutions. -/
def mm3 (x : Vec Ideal S525x128 .f32) (w : Vec Ideal S1x1x128x128 .f32) : FVec Ideal S525x128 .f32 :=
  matmul (φ₁ := .f32) (φ₂ := .f32) dot_S525x128_S128x128_S525x128_1_0_0_1_n_n none x (shapeCast S128x128 w shapeCasts_S1x1x128x128_S128x128)
    (constant S525x128 .f32 0x00000000#32)

/-- The load of the third or fourth scratch buffer for one place of the window. -/
def tap3 {κ : Kind} {sp : Space} (v : View sig κ sp S589x128 .f32) (L : Pieces S589x128) (o : ℕ)
    (h : ∀ a, (![o, 0] : Fin 2 → ℕ) a + S525x128.size a ≤ S589x128.size a) : Vec Ideal S525x128 .f32 :=
  v.readCov L (Rect.unit (s := S589x128) ![o, 0] S525x128.size h).toLoadRect

/-- The third and the fourth layer: convolution, bias and rectifier. -/
def conv3 {κ : Kind} {sp : Space} (v : View sig κ sp S589x128 .f32) (L : Pieces S589x128)
    (w : Fin 9 → Vec Ideal S1x1x128x128 .f32) (b : Vec Ideal S1x128 .f32) : FVec Ideal S525x128 .f32 :=
  leakyV (addf (addf (addf (addf (addf (addf (addf (addf (addf
    (mm3 (tap3 v L 6 inb_S589x128_S525x128_6_0) (w 0))
    (mm3 (tap3 v L 7 inb_S589x128_S525x128_7_0) (w 1)))
    (mm3 (tap3 v L 8 inb_S589x128_S525x128_8_0) (w 2)))
    (mm3 (tap3 v L 31 inb_S589x128_S525x128_31_0) (w 3)))
    (mm3 (tap3 v L 32 inb_S589x128_S525x128_32_0) (w 4)))
    (mm3 (tap3 v L 33 inb_S589x128_S525x128_33_0) (w 5)))
    (mm3 (tap3 v L 56 inb_S589x128_S525x128_56_0) (w 6)))
    (mm3 (tap3 v L 57 inb_S589x128_S525x128_57_0) (w 7)))
    (mm3 (tap3 v L 58 inb_S589x128_S525x128_58_0) (w 8)))
    (broadcastTo S525x128 (biasV b) broadcasts_S1x128_S525x128))

theorem slices3 {o : ℕ} (h : o + 21 ≤ 525) : S525x128.Slices ![o, 0] S21x128 :=
  ⟨rfl, fun a => match a with
    | ⟨0, _⟩ => h
    | ⟨1, _⟩ => Nat.le_refl 128⟩

/-- Row `n` of a picture of 21 rows held with 25 places to a row. -/
def row3 (y : FVec Ideal S525x128 .f32) (n : ℕ) (h : n < 21) : FVec Ideal S21x128 .f32 :=
  extractStridedSlice S21x128 ![25 * n + 2, 0] y (slices3 (by omega))

/-- The stores of the first `n` rows of the third layer's result. -/
def rows3 (y : FVec Ideal S525x128 .f32) (L : Pieces S589x128) : (n : ℕ) → n ≤ 21 → Pieces S589x128
  | 0, _ => L
  | n + 1, h => ⟨Rect.unit (s := S589x128) ![34 + 25 * n, 0] S21x128.size (inb2 (by omega)),
      shapeCast S21x128 (row3 y n (by omega)) shapeCasts_S21x128_S21x128⟩ :: rows3 y L n (by omega)

/-- The rows of a picture one under the other. -/
def gather (y : FVec Ideal S525x128 .f32) : FVec Ideal S441x128 .f32 :=
  concatenate S441x128 0 (List.ofFn fun n : Fin 21 => (⟨S21x128, row3 y n.val n.isLt⟩ : (s : Shape) × (s.Idx → EReal)))
    concatenates_S21x128_S21x128_S21x128_S21x128_S21x128_S21x128_S21x128_S21x128_S21x128_S21x128_S21x128_S21x128_S21x128_S21x128_S21x128_S21x128_S21x128_S21x128_S21x128_S21x128_S21x128_S441x128_d0

/-- One over the length of each descriptor of the two images. -/
def inverse (z : FVec Ideal S441x128 .f32) (nm : Vec Ideal S128x2 .f32) : FVec Ideal S441x2 .f32 :=
  divf (broadcast S441x2 (Scalar.ofBits .f32 0x3F800000#32))
    (maximumf (broadcast S441x2 (Scalar.ofBits .f32 0x2B8CBCCC#32))
      (sqrt (matmul (φ₁ := .f32) (φ₂ := .f32) dot_S441x128_S128x2_S441x2_1_0_0_1_n_n none (mulf z z) (shapeCast S128x2 nm shapeCasts_S128x2_S128x2)
        (constant S441x2 .f32 0x00000000#32))))

/-- The normalised descriptors of the first image of a pair. -/
def outA (z : FVec Ideal S441x128 .f32) (nm : Vec Ideal S128x2 .f32) : FVec Ideal S1x64x441 .f32 :=
  k0_pay135 z (inverse z nm) (extractStridedSlice S441x1 ![0, 0] (inverse z nm) slices_S441x2_o0_0_S441x1)

/-- The normalised descriptors of the second image of a pair. -/
def outB (z : FVec Ideal S441x128 .f32) (nm : Vec Ideal S128x2 .f32) : FVec Ideal S1x64x441 .f32 :=
  k0_pay136 z (inverse z nm) (extractStridedSlice S441x1 ![0, 0] (inverse z nm) slices_S441x2_o0_0_S441x1)

end

end Proof.Enc
-- ==== Proof.EncRun.lean ====
module

public import proofs.«01_k».proof.Proof.Gen.EncodeIdeal.Frame.RunA
public import proofs.«01_k».proof.Proof.EncModel

@[expose] public section

/-!
# The body's stores are the steps of the model

For each of the four pairs of images, the stores that the run finds in each scratch buffer are those of the model's
step, made over the stores of the pair before.
-/

namespace Proof.Enc

open Cert.EncodeIdeal Cert.EncodeIdeal.Gen Idealize.ShloMosaic Idealize.ShloMosaic.Tactic

noncomputable section

variable (c : Dev nD) (i : grid0.Coords) (arg1 : Memref sig .tc .vmem S8x3x7392 .f32) (harg1 : arg1.IsWhole)
  (arg2 : Memref sig .tc .vmem S144x128 .f32) (harg2 : arg2.IsWhole) (arg3 : Memref sig .tc .vmem S3x9x128x128 .f32) (harg3 : arg3.IsWhole)
  (arg4 : Memref sig .tc .vmem S4x128 .f32) (harg4 : arg4.IsWhole) (arg5 : Memref sig .tc .vmem S128x2 .f32) (harg5 : arg5.IsWhole)
  (arg6 : Memref sig .tc .vmem S8x64x441 .f32) (harg6 : arg6.IsWhole) (arg7 : Memref sig .tc .vmem S16x7648 .f32) (harg7 : arg7.IsWhole)
  (arg8 : Memref sig .tc .vmem S2128x128 .f32) (harg8 : arg8.IsWhole) (arg9 : Memref sig .tc .vmem S589x128 .f32) (harg9 : arg9.IsWhole)
  (arg10 : Memref sig .tc .vmem S589x128 .f32) (harg10 : arg10.IsWhole) (arg11 : Memref sig .tc .vmem S7392x128 .f32) (harg11 : arg11.IsWhole)
  (arg12 : Memref sig .tc .vmem S2016x128 .f32) (harg12 : arg12.IsWhole)
  (x0 : Vec Ideal S8x3x7392 .f32) (x1 : Vec Ideal S144x128 .f32) (x2 : Vec Ideal S3x9x128x128 .f32) (x3 : Vec Ideal S4x128 .f32)
  (x4 : Vec Ideal S128x2 .f32)

theorem inbImage {k : ℕ} (h : k < 8) : ∀ a, (![k, 0, 0] : Fin 3 → ℕ) a + S1x3x7392.size a ≤ S8x3x7392.size a := fun a =>
  match a with
  | ⟨0, _⟩ => h
  | ⟨1, _⟩ => Nat.le_refl 3
  | ⟨2, _⟩ => Nat.le_refl 7392

theorem inbWeight {l t : ℕ} (hl : l < 3) (ht : t < 9) :
    ∀ a, (![l, t, 0, 0] : Fin 4 → ℕ) a + S1x1x128x128.size a ≤ S3x9x128x128.size a := fun a =>
  match a with
  | ⟨0, _⟩ => hl
  | ⟨1, _⟩ => ht
  | ⟨2, _⟩ => Nat.le_refl 128
  | ⟨3, _⟩ => Nat.le_refl 128

theorem inbBias {k : ℕ} (h : k < 4) : ∀ a, (![k, 0] : Fin 2 → ℕ) a + S1x128.size a ≤ S4x128.size a := fun a =>
  match a with
  | ⟨0, _⟩ => h
  | ⟨1, _⟩ => Nat.le_refl 128

/-- The load of image `k` of the block. -/
def ldImage (k : ℕ) (h : k < 8) : Vec Ideal S1x3x7392 .f32 :=
  View.readAt (Elt Ideal) arg1.view (Rect.unit (s := S8x3x7392) ![k, 0, 0] S1x3x7392.size (inbImage h)).toLoadRect (harg1.unread x0)

/-- The load of the first layer's weights. -/
def ldFirst : Vec Ideal S144x128 .f32 :=
  View.readAt (Elt Ideal) arg2.view (Rect.unit (s := S144x128) ![0, 0] S144x128.size inb_S144x128_S144x128_0_0).toLoadRect (harg2.unread x1)

/-- The loads of a later layer's weights. -/
def ldWeight (l : ℕ) (h : l < 3) (t : Fin 9) : Vec Ideal S1x1x128x128 .f32 :=
  View.readAt (Elt Ideal) arg3.view (Rect.unit (s := S3x9x128x128) ![l, t.val, 0, 0] S1x1x128x128.size (inbWeight h t.isLt)).toLoadRect
    (harg3.unread x2)

/-- The load of a layer's biases. -/
def ldBias (k : ℕ) (h : k < 4) : Vec Ideal S1x128 .f32 :=
  View.readAt (Elt Ideal) arg4.view (Rect.unit (s := S4x128) ![k, 0] S1x128.size (inbBias h)).toLoadRect (harg4.unread x3)

/-- The load of the matrix that sums over each image's lanes. -/
def ldMask : Vec Ideal S128x2 .f32 :=
  View.readAt (Elt Ideal) arg5.view (Rect.unit (s := S128x2) ![0, 0] S128x2.size inb_S128x2_S128x2_0_0).toLoadRect (harg5.unread x4)

/-! Pair 0. -/

theorem images_0 : (kernelRun0_A.sl.HS0_3 (F := Ideal) c arg1 harg1 x0) = images (ldImage arg1 harg1 x0 0 (by omega)) (ldImage arg1 harg1 x0 1 (by omega)) [⟨Rect.unit (s := S16x7648) ![0, 0] S16x7648.size inb_S16x7648_S16x7648_0_0, k0_pay4 (F := Ideal)⟩] := by
  sl_kernel_rfl

theorem first_0 : (kernelRun0_A.sl.HS4_1 (F := Ideal) c arg1 harg1 arg2 harg2 arg7 x0 x1) = whole1 (conv1 arg7.view (kernelRun0_A.sl.HS0_3 (F := Ideal) c arg1 harg1 x0) (ldFirst arg2 harg2 x1)) [] := by
  sl_kernel_rfl

theorem pooled1_0 : (kernelRun0_A.sl.HS1_43 (F := Ideal) c arg1 harg1 arg2 harg2 arg4 harg4 arg7 arg11 x0 x1 x3) = rows1 (across1 arg11.view (kernelRun0_A.sl.HS4_1 (F := Ideal) c arg1 harg1 arg2 harg2 arg7 x0 x1)) (ldBias arg4 harg4 x3 0 (by omega))
    [⟨Rect.unit (s := S2128x128) ![0, 0] S2128x128.size inb_S2128x128_S2128x128_0_0, k0_pay5 (F := Ideal)⟩] 42 (Nat.le_refl 42) := by
  sl_kernel_rfl

theorem second_0 : (kernelRun0_A.sl.HS5_1 (F := Ideal) c arg1 harg1 arg2 harg2 arg3 harg3 arg4 harg4 arg7 arg8 arg11 x0 x1 x2 x3) = whole2 (conv2 arg8.view (kernelRun0_A.sl.HS1_43 (F := Ideal) c arg1 harg1 arg2 harg2 arg4 harg4 arg7 arg11 x0 x1 x3) (ldWeight arg3 harg3 x2 0 (by omega))) [] := by
  sl_kernel_rfl

theorem pooled2_0 : (kernelRun0_A.sl.HS2_22 (F := Ideal) c arg1 harg1 arg2 harg2 arg3 harg3 arg4 harg4 arg7 arg8 arg11 arg12 x0 x1 x2 x3) = rows2 (across2 arg12.view (kernelRun0_A.sl.HS5_1 (F := Ideal) c arg1 harg1 arg2 harg2 arg3 harg3 arg4 harg4 arg7 arg8 arg11 x0 x1 x2 x3)) (ldBias arg4 harg4 x3 1 (by omega))
    [⟨Rect.unit (s := S589x128) ![0, 0] S589x128.size inb_S589x128_S589x128_0_0, k0_pay6 (F := Ideal)⟩] 21 (Nat.le_refl 21) := by
  sl_kernel_rfl

theorem third_0 : (kernelRun0_A.sl.HS3_22 (F := Ideal) c arg1 harg1 arg2 harg2 arg3 harg3 arg4 harg4 arg7 arg8 arg9 arg11 arg12 x0 x1 x2 x3) = rows3 (conv3 arg9.view (kernelRun0_A.sl.HS2_22 (F := Ideal) c arg1 harg1 arg2 harg2 arg3 harg3 arg4 harg4 arg7 arg8 arg11 arg12 x0 x1 x2 x3) (ldWeight arg3 harg3 x2 1 (by omega)) (ldBias arg4 harg4 x3 2 (by omega)))
    [⟨Rect.unit (s := S589x128) ![0, 0] S589x128.size inb_S589x128_S589x128_0_0, k0_pay7 (F := Ideal)⟩] 21 (Nat.le_refl 21) := by
  sl_kernel_rfl

/-! Pair 1. -/

theorem images_1 : (kernelRun0_A.sl.HS0_5 (F := Ideal) c arg1 harg1 x0) = images (ldImage arg1 harg1 x0 2 (by omega)) (ldImage arg1 harg1 x0 3 (by omega)) (kernelRun0_A.sl.HS0_3 (F := Ideal) c arg1 harg1 x0) := by
  sl_kernel_rfl

theorem first_1 : (kernelRun0_A.sl.HS4_2 (F := Ideal) c arg1 harg1 arg2 harg2 arg7 x0 x1) = whole1 (conv1 arg7.view (kernelRun0_A.sl.HS0_5 (F := Ideal) c arg1 harg1 x0) (ldFirst arg2 harg2 x1)) (kernelRun0_A.sl.HS4_1 (F := Ideal) c arg1 harg1 arg2 harg2 arg7 x0 x1) := by
  sl_kernel_rfl

theorem pooled1_1 : (kernelRun0_A.sl.HS1_85 (F := Ideal) c arg1 harg1 arg2 harg2 arg4 harg4 arg7 arg11 x0 x1 x3) = rows1 (across1 arg11.view (kernelRun0_A.sl.HS4_2 (F := Ideal) c arg1 harg1 arg2 harg2 arg7 x0 x1)) (ldBias arg4 harg4 x3 0 (by omega))
    (kernelRun0_A.sl.HS1_43 (F := Ideal) c arg1 harg1 arg2 harg2 arg4 harg4 arg7 arg11 x0 x1 x3) 42 (Nat.le_refl 42) := by
  sl_kernel_rfl

theorem second_1 : (kernelRun0_A.sl.HS5_2 (F := Ideal) c arg1 harg1 arg2 harg2 arg3 harg3 arg4 harg4 arg7 arg8 arg11 x0 x1 x2 x3) = whole2 (conv2 arg8.view (kernelRun0_A.sl.HS1_85 (F := Ideal) c arg1 harg1 arg2 harg2 arg4 harg4 arg7 arg11 x0 x1 x3) (ldWeight arg3 harg3 x2 0 (by omega))) (kernelRun0_A.sl.HS5_1 (F := Ideal) c arg1 harg1 arg2 harg2 arg3 harg3 arg4 harg4 arg7 arg8 arg11 x0 x1 x2 x3) := by
  sl_kernel_rfl

theorem pooled2_1 : (kernelRun0_A.sl.HS2_43 (F := Ideal) c arg1 harg1 arg2 harg2 arg3 harg3 arg4 harg4 arg7 arg8 arg11 arg12 x0 x1 x2 x3) = rows2 (across2 arg12.view (kernelRun0_A.sl.HS5_2 (F := Ideal) c arg1 harg1 arg2 harg2 arg3 harg3 arg4 harg4 arg7 arg8 arg11 x0 x1 x2 x3)) (ldBias arg4 harg4 x3 1 (by omega))
    (kernelRun0_A.sl.HS2_22 (F := Ideal) c arg1 harg1 arg2 harg2 arg3 harg3 arg4 harg4 arg7 arg8 arg11 arg12 x0 x1 x2 x3) 21 (Nat.le_refl 21) := by
  sl_kernel_rfl

theorem third_1 : (kernelRun0_A.sl.HS3_43 (F := Ideal) c arg1 harg1 arg2 harg2 arg3 harg3 arg4 harg4 arg7 arg8 arg9 arg11 arg12 x0 x1 x2 x3) = rows3 (conv3 arg9.view (kernelRun0_A.sl.HS2_43 (F := Ideal) c arg1 harg1 arg2 harg2 arg3 harg3 arg4 harg4 arg7 arg8 arg11 arg12 x0 x1 x2 x3) (ldWeight arg3 harg3 x2 1 (by omega)) (ldBias arg4 harg4 x3 2 (by omega)))
    (kernelRun0_A.sl.HS3_22 (F := Ideal) c arg1 harg1 arg2 harg2 arg3 harg3 arg4 harg4 arg7 arg8 arg9 arg11 arg12 x0 x1 x2 x3) 21 (Nat.le_refl 21) := by
  sl_kernel_rfl

/-! Pair 2. -/

theorem images_2 : (kernelRun0_A.sl.HS0_7 (F := Ideal) c arg1 harg1 x0) = images (ldImage arg1 harg1 x0 4 (by omega)) (ldImage arg1 harg1 x0 5 (by omega)) (kernelRun0_A.sl.HS0_5 (F := Ideal) c arg1 harg1 x0) := by
  sl_kernel_rfl

theorem first_2 : (kernelRun0_A.sl.HS4_3 (F := Ideal) c arg1 harg1 arg2 harg2 arg7 x0 x1) = whole1 (conv1 arg7.view (kernelRun0_A.sl.HS0_7 (F := Ideal) c arg1 harg1 x0) (ldFirst arg2 harg2 x1)) (kernelRun0_A.sl.HS4_2 (F := Ideal) c arg1 harg1 arg2 harg2 arg7 x0 x1) := by
  sl_kernel_rfl

theorem pooled1_2 : (kernelRun0_A.sl.HS1_127 (F := Ideal) c arg1 harg1 arg2 harg2 arg4 harg4 arg7 arg11 x0 x1 x3) = rows1 (across1 arg11.view (kernelRun0_A.sl.HS4_3 (F := Ideal) c arg1 harg1 arg2 harg2 arg7 x0 x1)) (ldBias arg4 harg4 x3 0 (by omega))
    (kernelRun0_A.sl.HS1_85 (F := Ideal) c arg1 harg1 arg2 harg2 arg4 harg4 arg7 arg11 x0 x1 x3) 42 (Nat.le_refl 42) := by
  sl_kernel_rfl

theorem second_2 : (kernelRun0_A.sl.HS5_3 (F := Ideal) c arg1 harg1 arg2 harg2 arg3 harg3 arg4 harg4 arg7 arg8 arg11 x0 x1 x2 x3) = whole2 (conv2 arg8.view (kernelRun0_A.sl.HS1_127 (F := Ideal) c arg1 harg1 arg2 harg2 arg4 harg4 arg7 arg11 x0 x1 x3) (ldWeight arg3 harg3 x2 0 (by omega))) (kernelRun0_A.sl.HS5_2 (F := Ideal) c arg1 harg1 arg2 harg2 arg3 harg3 arg4 harg4 arg7 arg8 arg11 x0 x1 x2 x3) := by
  sl_kernel_rfl

theorem pooled2_2 : (kernelRun0_A.sl.HS2_64 (F := Ideal) c arg1 harg1 arg2 harg2 arg3 harg3 arg4 harg4 arg7 arg8 arg11 arg12 x0 x1 x2 x3) = rows2 (across2 arg12.view (kernelRun0_A.sl.HS5_3 (F := Ideal) c arg1 harg1 arg2 harg2 arg3 harg3 arg4 harg4 arg7 arg8 arg11 x0 x1 x2 x3)) (ldBias arg4 harg4 x3 1 (by omega))
    (kernelRun0_A.sl.HS2_43 (F := Ideal) c arg1 harg1 arg2 harg2 arg3 harg3 arg4 harg4 arg7 arg8 arg11 arg12 x0 x1 x2 x3) 21 (Nat.le_refl 21) := by
  sl_kernel_rfl

theorem third_2 : (kernelRun0_A.sl.HS3_64 (F := Ideal) c arg1 harg1 arg2 harg2 arg3 harg3 arg4 harg4 arg7 arg8 arg9 arg11 arg12 x0 x1 x2 x3) = rows3 (conv3 arg9.view (kernelRun0_A.sl.HS2_64 (F := Ideal) c arg1 harg1 arg2 harg2 arg3 harg3 arg4 harg4 arg7 arg8 arg11 arg12 x0 x1 x2 x3) (ldWeight arg3 harg3 x2 1 (by omega)) (ldBias arg4 harg4 x3 2 (by omega)))
    (kernelRun0_A.sl.HS3_43 (F := Ideal) c arg1 harg1 arg2 harg2 arg3 harg3 arg4 harg4 arg7 arg8 arg9 arg11 arg12 x0 x1 x2 x3) 21 (Nat.le_refl 21) := by
  sl_kernel_rfl

/-! Pair 3. -/

theorem images_3 : (kernelRun0_A.sl.HS0_9 (F := Ideal) c arg1 harg1 x0) = images (ldImage arg1 harg1 x0 6 (by omega)) (ldImage arg1 harg1 x0 7 (by omega)) (kernelRun0_A.sl.HS0_7 (F := Ideal) c arg1 harg1 x0) := by
  sl_kernel_rfl

theorem first_3 : (kernelRun0_A.sl.HS4_4 (F := Ideal) c arg1 harg1 arg2 harg2 arg7 x0 x1) = whole1 (conv1 arg7.view (kernelRun0_A.sl.HS0_9 (F := Ideal) c arg1 harg1 x0) (ldFirst arg2 harg2 x1)) (kernelRun0_A.sl.HS4_3 (F := Ideal) c arg1 harg1 arg2 harg2 arg7 x0 x1) := by
  sl_kernel_rfl

theorem pooled1_3 : (kernelRun0_A.sl.HS1_169 (F := Ideal) c arg1 harg1 arg2 harg2 arg4 harg4 arg7 arg11 x0 x1 x3) = rows1 (across1 arg11.view (kernelRun0_A.sl.HS4_4 (F := Ideal) c arg1 harg1 arg2 harg2 arg7 x0 x1)) (ldBias arg4 harg4 x3 0 (by omega))
    (kernelRun0_A.sl.HS1_127 (F := Ideal) c arg1 harg1 arg2 harg2 arg4 harg4 arg7 arg11 x0 x1 x3) 42 (Nat.le_refl 42) := by
  sl_kernel_rfl

theorem second_3 : (kernelRun0_A.sl.HS5_4 (F := Ideal) c arg1 harg1 arg2 harg2 arg3 harg3 arg4 harg4 arg7 arg8 arg11 x0 x1 x2 x3) = whole2 (conv2 arg8.view (kernelRun0_A.sl.HS1_169 (F := Ideal) c arg1 harg1 arg2 harg2 arg4 harg4 arg7 arg11 x0 x1 x3) (ldWeight arg3 harg3 x2 0 (by omega))) (kernelRun0_A.sl.HS5_3 (F := Ideal) c arg1 harg1 arg2 harg2 arg3 harg3 arg4 harg4 arg7 arg8 arg11 x0 x1 x2 x3) := by
  sl_kernel_rfl

theorem pooled2_3 : (kernelRun0_A.sl.HS2_85 (F := Ideal) c arg1 harg1 arg2 harg2 arg3 harg3 arg4 harg4 arg7 arg8 arg11 arg12 x0 x1 x2 x3) = rows2 (across2 arg12.view (kernelRun0_A.sl.HS5_4 (F := Ideal) c arg1 harg1 arg2 harg2 arg3 harg3 arg4 harg4 arg7 arg8 arg11 x0 x1 x2 x3)) (ldBias arg4 harg4 x3 1 (by omega))
    (kernelRun0_A.sl.HS2_64 (F := Ideal) c arg1 harg1 arg2 harg2 arg3 harg3 arg4 harg4 arg7 arg8 arg11 arg12 x0 x1 x2 x3) 21 (Nat.le_refl 21) := by
  sl_kernel_rfl

theorem third_3 : (kernelRun0_A.sl.HS3_85 (F := Ideal) c arg1 harg1 arg2 harg2 arg3 harg3 arg4 harg4 arg7 arg8 arg9 arg11 arg12 x0 x1 x2 x3) = rows3 (conv3 arg9.view (kernelRun0_A.sl.HS2_85 (F := Ideal) c arg1 harg1 arg2 harg2 arg3 harg3 arg4 harg4 arg7 arg8 arg11 arg12 x0 x1 x2 x3) (ldWeight arg3 harg3 x2 1 (by omega)) (ldBias arg4 harg4 x3 2 (by omega)))
    (kernelRun0_A.sl.HS3_64 (F := Ideal) c arg1 harg1 arg2 harg2 arg3 harg3 arg4 harg4 arg7 arg8 arg9 arg11 arg12 x0 x1 x2 x3) 21 (Nat.le_refl 21) := by
  sl_kernel_rfl

theorem inbOut {k : ℕ} (h : k < 8) : ∀ a, (![k, 0, 0] : Fin 3 → ℕ) a + S1x64x441.size a ≤ S8x64x441.size a := fun a =>
  match a with
  | ⟨0, _⟩ => h
  | ⟨1, _⟩ => Nat.le_refl 64
  | ⟨2, _⟩ => Nat.le_refl 441

/-- The store of image `k`'s descriptors. -/
def stOut (k : ℕ) (h : k < 8) (y : FVec Ideal S1x64x441 .f32) : View.Piece (Elt Ideal) S8x64x441 .f32 :=
  ⟨Rect.unit (s := S8x64x441) ![k, 0, 0] S1x64x441.size (inbOut h), y⟩

/-- The stores into the result's block. -/
theorem result_eq :
    (kernelRun0_A (F := Ideal) c i arg1 harg1 arg2 harg2 arg3 harg3 arg4 harg4 arg5 harg5 arg6 harg6 arg7 harg7 arg8 harg8 arg9 harg9
      arg10 harg10 arg11 harg11 arg12 harg12 x0 x1 x2 x3 x4).1 = [
      stOut 7 (by omega) (outB (gather (conv3 arg10.view (kernelRun0_A.sl.HS3_85 (F := Ideal) c arg1 harg1 arg2 harg2 arg3 harg3 arg4 harg4 arg7 arg8 arg9 arg11 arg12 x0 x1 x2 x3) (ldWeight arg3 harg3 x2 2 (by omega)) (ldBias arg4 harg4 x3 3 (by omega)))) (ldMask arg5 harg5 x4)),
      stOut 6 (by omega) (outA (gather (conv3 arg10.view (kernelRun0_A.sl.HS3_85 (F := Ideal) c arg1 harg1 arg2 harg2 arg3 harg3 arg4 harg4 arg7 arg8 arg9 arg11 arg12 x0 x1 x2 x3) (ldWeight arg3 harg3 x2 2 (by omega)) (ldBias arg4 harg4 x3 3 (by omega)))) (ldMask arg5 harg5 x4)),
      stOut 5 (by omega) (outB (gather (conv3 arg10.view (kernelRun0_A.sl.HS3_64 (F := Ideal) c arg1 harg1 arg2 harg2 arg3 harg3 arg4 harg4 arg7 arg8 arg9 arg11 arg12 x0 x1 x2 x3) (ldWeight arg3 harg3 x2 2 (by omega)) (ldBias arg4 harg4 x3 3 (by omega)))) (ldMask arg5 harg5 x4)),
      stOut 4 (by omega) (outA (gather (conv3 arg10.view (kernelRun0_A.sl.HS3_64 (F := Ideal) c arg1 harg1 arg2 harg2 arg3 harg3 arg4 harg4 arg7 arg8 arg9 arg11 arg12 x0 x1 x2 x3) (ldWeight arg3 harg3 x2 2 (by omega)) (ldBias arg4 harg4 x3 3 (by omega)))) (ldMask arg5 harg5 x4)),
      stOut 3 (by omega) (outB (gather (conv3 arg10.view (kernelRun0_A.sl.HS3_43 (F := Ideal) c arg1 harg1 arg2 harg2 arg3 harg3 arg4 harg4 arg7 arg8 arg9 arg11 arg12 x0 x1 x2 x3) (ldWeight arg3 harg3 x2 2 (by omega)) (ldBias arg4 harg4 x3 3 (by omega)))) (ldMask arg5 harg5 x4)),
      stOut 2 (by omega) (outA (gather (conv3 arg10.view (kernelRun0_A.sl.HS3_43 (F := Ideal) c arg1 harg1 arg2 harg2 arg3 harg3 arg4 harg4 arg7 arg8 arg9 arg11 arg12 x0 x1 x2 x3) (ldWeight arg3 harg3 x2 2 (by omega)) (ldBias arg4 harg4 x3 3 (by omega)))) (ldMask arg5 harg5 x4)),
      stOut 1 (by omega) (outB (gather (conv3 arg10.view (kernelRun0_A.sl.HS3_22 (F := Ideal) c arg1 harg1 arg2 harg2 arg3 harg3 arg4 harg4 arg7 arg8 arg9 arg11 arg12 x0 x1 x2 x3) (ldWeight arg3 harg3 x2 2 (by omega)) (ldBias arg4 harg4 x3 3 (by omega)))) (ldMask arg5 harg5 x4)),
      stOut 0 (by omega) (outA (gather (conv3 arg10.view (kernelRun0_A.sl.HS3_22 (F := Ideal) c arg1 harg1 arg2 harg2 arg3 harg3 arg4 harg4 arg7 arg8 arg9 arg11 arg12 x0 x1 x2 x3) (ldWeight arg3 harg3 x2 2 (by omega)) (ldBias arg4 harg4 x3 3 (by omega)))) (ldMask arg5 harg5 x4))] := by
  sl_kernel_rfl

end

end Proof.Enc
-- ==== Proof.EncCanon.lean ====
module

public import proofs.«01_k».proof.Proof.EncModel

@[expose] public section

/-!
# What the stores of a row loop leave at an index
-/

namespace Proof.Enc

open Cert.EncodeIdeal Cert.EncodeIdeal.Gen Idealize.ShloMosaic

noncomputable section

/-- What a list of stores leaves at a row and a column. -/
abbrev at2 {R C : ℕ} (L : Pieces ⟨2, ![R, C]⟩) (r : Fin R) (l : Fin C) : EReal :=
  View.canon (Val := Elt Ideal) (e := .f32) L (ix2 r l)

/-- A store of a rectangle over earlier stores, read inside it and off it. -/
theorem at2_cons {R C n m o p : ℕ} (inb : ∀ a, (![o, p] : Fin 2 → ℕ) a + (⟨2, ![n, m]⟩ : Shape).size a ≤ (⟨2, ![R, C]⟩ : Shape).size a)
    (w : Vec Ideal ⟨2, ![n, m]⟩ .f32) (L : Pieces ⟨2, ![R, C]⟩) (r : Fin R) (l : Fin C) :
    at2 (⟨Rect.unit (s := ⟨2, ![R, C]⟩) ![o, p] (⟨2, ![n, m]⟩ : Shape).size inb, w⟩ :: L) r l
      = if h : (o ≤ r.val ∧ r.val < o + n) ∧ (p ≤ l.val ∧ l.val < p + m) then
          w (ix2 ⟨r.val - o, by omega⟩ ⟨l.val - p, by omega⟩) else at2 L r l := by
  by_cases h : (o ≤ r.val ∧ r.val < o + n) ∧ (p ≤ l.val ∧ l.val < p + m)
  · rw [dif_pos h]
    have e : (ix2 r l : (⟨2, ![R, C]⟩ : Shape).Idx)
        = (Rect.unit (s := ⟨2, ![R, C]⟩) ![o, p] (⟨2, ![n, m]⟩ : Shape).size inb).emb
            (ix2 (n0 := n) (n1 := m) ⟨r.val - o, by omega⟩ ⟨l.val - p, by omega⟩) := by
      funext a; apply Fin.ext
      match a with
      | ⟨0, _⟩ => show r.val = o + 1 * (r.val - o); omega
      | ⟨1, _⟩ => show l.val = p + 1 * (l.val - p); omega
    show View.canon (Val := Elt Ideal) (e := .f32) _ (ix2 r l) = _
    rw [e]
    exact View.canon_cons_emb (Val := Elt Ideal) (e := .f32)
      (Rect.unit (s := ⟨2, ![R, C]⟩) ![o, p] (⟨2, ![n, m]⟩ : Shape).size inb) w L _
  · rw [dif_neg h]
    refine View.canon_cons_of_not_mem (Val := Elt Ideal) (e := .f32) _ L fun hm => h ?_
    have hm := (Rect.mem_set_unit (inb := inb)).mp hm
    exact ⟨hm 0, hm 1⟩

/-- A load of a rectangle of what a list of stores leaves. -/
theorem readCov_at2 {κ : Kind} {sp : Space} {R C n m : ℕ} (v : View sig κ sp ⟨2, ![R, C]⟩ .f32) (L : Pieces ⟨2, ![R, C]⟩)
    (off stride : Fin 2 → ℕ) (inb) (a : Fin n) (b : Fin m) (ha : off 0 + stride 0 * a.val < R) (hb : off 1 + stride 1 * b.val < C) :
    (v.readCov L { off := off, size := ![n, m], stride := stride, inb := inb } : Vec Ideal ⟨2, ![n, m]⟩ .f32) (ix2 a b)
      = at2 L ⟨off 0 + stride 0 * a.val, ha⟩ ⟨off 1 + stride 1 * b.val, hb⟩ := by
  rw [View.readCov_eq_canon']
  refine congrArg (View.canon (Val := Elt Ideal) (e := .f32) L) (funext fun d => Fin.ext ?_)
  match d with
  | ⟨0, _⟩ => rfl
  | ⟨1, _⟩ => rfl

/-- The rows of the first layer's result over earlier stores. -/
theorem at2_rows1 (a : FVec Ideal S3696x128 .f32) (b : Vec Ideal S1x128 .f32) (L : Pieces S2128x128) (r : Fin 2128) (l : Fin 128) :
    ∀ (n : ℕ) (h : n ≤ 42), at2 (rows1 a b L n h) r l
      = if g : 58 ≤ r.val ∧ (r.val - 58) / 48 < n ∧ (r.val - 58) % 48 < 42 then
          row1 a b ((r.val - 58) / 48) (by omega) (ix2 ⟨(r.val - 58) % 48, g.2.2⟩ l) else at2 L r l
  | 0, h => by rw [dif_neg (by omega)]; rfl
  | n + 1, h => by
    unfold rows1
    refine (at2_cons (R := 2128) (C := 128) (n := 42) (m := 128) _ _ _ r l).trans ?_
    by_cases hr : 58 + 48 * n ≤ r.val ∧ r.val < 58 + 48 * n + 42
    · have hn : n = (r.val - 58) / 48 := by omega
      rw [dif_pos ⟨hr, by omega⟩, dif_pos (by omega)]
      subst hn
      refine congrArg (row1 a b ((r.val - 58) / 48) _) ?_
      refine congrArg₂ (fun (u : Fin 42) (v : Fin 128) => ix2 u v) (Fin.ext ?_) (Fin.ext ?_)
      · show r.val - (58 + 48 * ((r.val - 58) / 48)) = (r.val - 58) % 48; omega
      · show l.val - 0 = l.val; omega
    · rw [dif_neg (fun q => hr q.1), at2_rows1 a b L r l n (by omega)]
      by_cases g : 58 ≤ r.val ∧ (r.val - 58) / 48 < n ∧ (r.val - 58) % 48 < 42
      · rw [dif_pos g, dif_pos (by omega)]
      · rw [dif_neg g, dif_neg (by omega)]

/-- The rows of the second layer's result over earlier stores. -/
theorem at2_rows2 (a : FVec Ideal S1008x128 .f32) (b : Vec Ideal S1x128 .f32) (L : Pieces S589x128) (r : Fin 589) (l : Fin 128) :
    ∀ (n : ℕ) (h : n ≤ 21), at2 (rows2 a b L n h) r l
      = if g : 34 ≤ r.val ∧ (r.val - 34) / 25 < n ∧ (r.val - 34) % 25 < 21 then
          row2 a b ((r.val - 34) / 25) (by omega) (ix2 ⟨(r.val - 34) % 25, g.2.2⟩ l) else at2 L r l
  | 0, h => by rw [dif_neg (by omega)]; rfl
  | n + 1, h => by
    unfold rows2
    refine (at2_cons (R := 589) (C := 128) (n := 21) (m := 128) _ _ _ r l).trans ?_
    by_cases hr : 34 + 25 * n ≤ r.val ∧ r.val < 34 + 25 * n + 21
    · have hn : n = (r.val - 34) / 25 := by omega
      rw [dif_pos ⟨hr, by omega⟩, dif_pos (by omega)]
      subst hn
      refine congrArg (row2 a b ((r.val - 34) / 25) _) ?_
      refine congrArg₂ (fun (u : Fin 21) (v : Fin 128) => ix2 u v) (Fin.ext ?_) (Fin.ext ?_)
      · show r.val - (34 + 25 * ((r.val - 34) / 25)) = (r.val - 34) % 25; omega
      · show l.val - 0 = l.val; omega
    · rw [dif_neg (fun q => hr q.1), at2_rows2 a b L r l n (by omega)]
      by_cases g : 34 ≤ r.val ∧ (r.val - 34) / 25 < n ∧ (r.val - 34) % 25 < 21
      · rw [dif_pos g, dif_pos (by omega)]
      · rw [dif_neg g, dif_neg (by omega)]

/-- The rows of the third layer's result over earlier stores. -/
theorem at2_rows3 (y : FVec Ideal S525x128 .f32) (L : Pieces S589x128) (r : Fin 589) (l : Fin 128) :
    ∀ (n : ℕ) (h : n ≤ 21), at2 (rows3 y L n h) r l
      = if g : 34 ≤ r.val ∧ (r.val - 34) / 25 < n ∧ (r.val - 34) % 25 < 21 then
          y (ix2 ⟨r.val - 32, by omega⟩ l) else at2 L r l
  | 0, h => by rw [dif_neg (by omega)]; rfl
  | n + 1, h => by
    unfold rows3
    refine (at2_cons (R := 589) (C := 128) (n := 21) (m := 128) _ _ _ r l).trans ?_
    by_cases hr : 34 + 25 * n ≤ r.val ∧ r.val < 34 + 25 * n + 21
    · have hn : n = (r.val - 34) / 25 := by omega
      rw [dif_pos ⟨hr, by omega⟩, dif_pos (by omega)]
      pointwise [row3]
      refine congrArg y ?_
      refine congrArg₂ (fun (u : Fin 525) (v : Fin 128) => ix2 u v) (Fin.ext ?_) (Fin.ext ?_)
      · show 25 * n + 2 + (r.val - (34 + 25 * n)) = r.val - 32; omega
      · show l.val - 0 = l.val; omega
    · rw [dif_neg (fun q => hr q.1), at2_rows3 y L r l n (by omega)]
      by_cases g : 34 ≤ r.val ∧ (r.val - 34) / 25 < n ∧ (r.val - 34) % 25 < 21
      · rw [dif_pos g, dif_pos (by omega)]
      · rw [dif_neg g, dif_neg (by omega)]

end

end Proof.Enc
-- ==== Proof.EncSpec.lean ====
module

public import Idealize.ShloMosaic.Lib.Pointwise

@[expose] public section

/-!
# The layers of the encoder as functions of a channel, a row and a column

A picture is a function of a channel, a row and a column; rows and columns are natural numbers, and only the
values inside the picture matter.
-/

namespace Proof.Enc

open Idealize.ShloMosaic

noncomputable section

/-- A picture with `C` channels. -/
abbrev Pic (C : ℕ) := Fin C → ℕ → ℕ → EReal

/-- The picture `f` of `H` rows and `H` columns with a border of zeros one wide. -/
def pad (H : ℕ) {C : ℕ} (f : Pic C) : Pic C := fun ch r c =>
  if 1 ≤ r ∧ r ≤ H ∧ 1 ≤ c ∧ c ≤ H then f ch (r - 1) (c - 1) else 0

/-- One output channel of a convolution with a three by three window, of a bordered picture. -/
def conv {C : ℕ} (x : Pic C) (w : Fin C → Fin 3 → Fin 3 → EReal) (r c : ℕ) : EReal :=
  ∑ i : Fin 3, ∑ j : Fin 3, ∑ ch : Fin C, w ch i j * x ch (r + i.val) (c + j.val)

/-- The slope of the leaky rectifier below zero: the number nearest to a fifth. -/
abbrev slope : EReal := Ideal.ofBits .f32 0x3E4CCCCD#32

/-- The leaky rectifier. -/
def leaky (v : EReal) : EReal := if 0 ≤ v then v else slope * v

/-- The largest of four neighbours, at every second row and column. -/
def pool (f : ℕ → ℕ → EReal) (r c : ℕ) : EReal :=
  max (max (f (2 * r) (2 * c)) (f (2 * r) (2 * c + 1))) (max (f (2 * r + 1) (2 * c)) (f (2 * r + 1) (2 * c + 1)))

/-- A layer that keeps the size `H` of the picture. -/
def layer (H : ℕ) {C O : ℕ} (x : Pic C) (w : Fin O → Fin C → Fin 3 → Fin 3 → EReal) (b : Fin O → EReal) : Pic O :=
  fun o r c => leaky (conv (pad H x) (w o) r c + b o)

/-- A layer that halves the size `H` of the picture. -/
def layerPool (H : ℕ) {C O : ℕ} (x : Pic C) (w : Fin O → Fin C → Fin 3 → Fin 3 → EReal) (b : Fin O → EReal) : Pic O :=
  fun o => pool (layer H x w b o)

/-- A feature over the length of the vector of features it belongs to, the length at least a small number. -/
def normed (x : Pic 64) (d : Fin 64) (r c : ℕ) : EReal :=
  Ideal.div (x d r c) (max (Ideal.ofBits .f32 0x2B8CBCCC#32) (Ideal.sqrt (∑ k : Fin 64, x k r c * x k r c)))

end

end Proof.Enc
-- ==== Proof.EncRead.lean ====
module

public import proofs.«01_k».proof.Proof.EncCanon
public import proofs.«01_k».proof.Proof.EncSpec

@[expose] public section

/-!
# The model's steps read at an index
-/

namespace Proof.Enc

open Cert.EncodeIdeal Cert.EncodeIdeal.Gen Idealize.ShloMosaic

noncomputable section

theorem leakyV_at {s : Shape} (z : FVec Ideal s .f32) (i : s.Idx) : leakyV z i = leaky (z i) := by
  pointwise [leakyV]
  rfl

theorem row1_at (a : FVec Ideal S3696x128 .f32) (b : Vec Ideal S1x128 .f32) (n : ℕ) (h : n < 42) (j : Fin 42) (l : Fin 128) :
    row1 a b n h (ix2 j l) = leaky (max (a (ix2 ⟨88 * n + (1 + j.val), by omega⟩ l)) (a (ix2 ⟨88 * n + 44 + (1 + j.val), by omega⟩ l))
      + b (ix2 0 l)) := by
  have e : row1 a b n h (ix2 j l) = leakyV (addf
    (extractStridedSlice S42x128 ![1, 0]
      (maximumf (extractStridedSlice S44x128 ![88 * n, 0] a (slices1 (by omega)))
        (extractStridedSlice S44x128 ![88 * n + 44, 0] a (slices1 (by omega)))) slices_S44x128_o1_0_S42x128)
    (broadcastTo S42x128 (biasV b) broadcasts_S1x128_S42x128)) (ix2 j l) := by
    unfold row1
    pointwise []
  rw [e, leakyV_at]
  refine congrArg leaky ?_
  pointwise [biasV]

theorem row2_at (a : FVec Ideal S1008x128 .f32) (b : Vec Ideal S1x128 .f32) (n : ℕ) (h : n < 21) (j : Fin 21) (l : Fin 128) :
    row2 a b n h (ix2 j l) = leaky (max (a (ix2 ⟨48 * n + (1 + j.val), by omega⟩ l)) (a (ix2 ⟨48 * n + 24 + (1 + j.val), by omega⟩ l))
      + b (ix2 0 l)) := by
  have e : row2 a b n h (ix2 j l) = leakyV (addf
    (extractStridedSlice S21x128 ![1, 0]
      (maximumf (extractStridedSlice S24x128 ![48 * n, 0] a (slices2 (by omega)))
        (extractStridedSlice S24x128 ![48 * n + 24, 0] a (slices2 (by omega)))) slices_S24x128_o1_0_S21x128)
    (broadcastTo S21x128 (biasV b) broadcasts_S1x128_S21x128)) (ix2 j l) := by
    unfold row2
    pointwise []
  rw [e, leakyV_at]
  refine congrArg leaky ?_
  pointwise [biasV]

/-- A load of a rectangle of unit strides. -/
theorem readCov_unit_at2 {κ : Kind} {sp : Space} {R C n m : ℕ} (v : View sig κ sp ⟨2, ![R, C]⟩ .f32) (L : Pieces ⟨2, ![R, C]⟩)
    (o p : ℕ) (inb) (a : Fin n) (b : Fin m) (ha : o + a.val < R) (hb : p + b.val < C) :
    (v.readCov L (Rect.unit (s := ⟨2, ![R, C]⟩) ![o, p] ![n, m] inb).toLoadRect : Vec Ideal ⟨2, ![n, m]⟩ .f32) (ix2 a b)
      = at2 L ⟨o + a.val, ha⟩ ⟨p + b.val, hb⟩ := by
  rw [View.readCov_eq_canon']
  refine congrArg (View.canon (Val := Elt Ideal) (e := .f32) L) (funext fun d => Fin.ext ?_)
  match d with
  | ⟨0, _⟩ => show o + 1 * a.val = o + a.val; omega
  | ⟨1, _⟩ => show p + 1 * b.val = p + b.val; omega

theorem tap1_at {κ : Kind} {sp : Space} (v : View sig κ sp S16x7648 .f32) (L : Pieces S16x7648) (o : ℕ) (h) (k : Fin 16) (p : Fin 7392)
    (ho : o + p.val < 7648) : tap1 v L o h (ix2 k p) = at2 L k ⟨o + p.val, ho⟩ := by
  unfold tap1
  refine (readCov_unit_at2 (R := 16) (C := 7648) v L 0 o _ k p (by omega) ho).trans ?_
  refine congrArg (fun a => at2 L a _) (Fin.ext ?_)
  show 0 + k.val = k.val; omega

theorem tap2_at {κ : Kind} {sp : Space} (v : View sig κ sp S2128x128 .f32) (L : Pieces S2128x128) (o : ℕ) (h) (p : Fin 2016) (k : Fin 128)
    (ho : o + p.val < 2128) : tap2 v L o h (ix2 p k) = at2 L ⟨o + p.val, ho⟩ k := by
  unfold tap2
  refine (readCov_unit_at2 (R := 2128) (C := 128) v L o 0 _ p k ho (by omega)).trans ?_
  refine congrArg (fun a => at2 L _ a) (Fin.ext ?_)
  show 0 + k.val = k.val; omega

theorem tap3_at {κ : Kind} {sp : Space} (v : View sig κ sp S589x128 .f32) (L : Pieces S589x128) (o : ℕ) (h) (p : Fin 525) (k : Fin 128)
    (ho : o + p.val < 589) : tap3 v L o h (ix2 p k) = at2 L ⟨o + p.val, ho⟩ k := by
  unfold tap3
  refine (readCov_unit_at2 (R := 589) (C := 128) v L o 0 _ p k ho (by omega)).trans ?_
  refine congrArg (fun a => at2 L _ a) (Fin.ext ?_)
  show 0 + k.val = k.val; omega

theorem taps1_at {κ : Kind} {sp : Space} (v : View sig κ sp S16x7648 .f32) (L : Pieces S16x7648) (k : Fin 144) (p : Fin 7392) :
    taps1 v L (ix2 k p) = at2 L ⟨k.val % 16, by omega⟩ ⟨39 + 88 * (k.val / 16 / 3) + k.val / 16 % 3 + p.val, by omega⟩ := by
  unfold taps1
  refine (concatenate_ofFn_apply (t := S144x7392) (s₁ := S16x7392) 0
    (fun t : Fin 9 => tap1 v L (39 + 88 * (t.val / 3) + t.val % 3) (inbTap1 t)) _ rfl 16 rfl (ix2 k p) ⟨k.val / 16, by omega⟩ rfl
    (ix2 ⟨k.val % 16, by omega⟩ p) rfl ?_).trans (tap1_at v L _ _ _ _ _)
  intro b hb
  match b with
  | ⟨0, _⟩ => exact absurd rfl hb
  | ⟨1, _⟩ => rfl

theorem conv1_at {κ : Kind} {sp : Space} (v : View sig κ sp S16x7648 .f32) (L : Pieces S16x7648) (w : Vec Ideal S144x128 .f32)
    (p : Fin 7392) (o : Fin 128) : conv1 v L w (ix2 p o) = ∑ k : Fin 144, taps1 v L (ix2 k p) * w (ix2 k o) := by
  unfold conv1
  pointwise []

theorem mm2_at (x : Vec Ideal S2016x128 .f32) (w : Vec Ideal S1x1x128x128 .f32) (p : Fin 2016) (o : Fin 128) :
    mm2 x w (ix2 p o) = ∑ k : Fin 128, x (ix2 p k) * w (ix4 0 0 k o) := by
  pointwise [mm2]

theorem mm3_at (x : Vec Ideal S525x128 .f32) (w : Vec Ideal S1x1x128x128 .f32) (p : Fin 525) (o : Fin 128) :
    mm3 x w (ix2 p o) = ∑ k : Fin 128, x (ix2 p k) * w (ix4 0 0 k o) := by
  pointwise [mm3]

theorem gather_at (y : FVec Ideal S525x128 .f32) (i : Fin 441) (l : Fin 128) :
    gather y (ix2 i l) = y (ix2 ⟨25 * (i.val / 21) + 2 + i.val % 21, by omega⟩ l) := by
  unfold gather
  refine (concatenate_ofFn_apply (t := S441x128) (s₁ := S21x128) 0
    (fun n : Fin 21 => row3 y n.val n.isLt) _ rfl 21 rfl (ix2 i l) ⟨i.val / 21, by omega⟩ rfl
    (ix2 ⟨i.val % 21, by omega⟩ l) rfl ?_).trans ?_
  · intro b hb
    match b with
    | ⟨0, _⟩ => exact absurd rfl hb
    | ⟨1, _⟩ => rfl
  · pointwise [row3]

theorem inverse_at (z : FVec Ideal S441x128 .f32) (nm : Vec Ideal S128x2 .f32) (i : Fin 441) (h : Fin 2) :
    inverse z nm (ix2 i h) = Ideal.div 1 (max (Ideal.ofBits .f32 0x2B8CBCCC#32)
      (Ideal.sqrt (∑ k : Fin 128, z (ix2 i k) * z (ix2 i k) * nm (ix2 k h)))) := by
  pointwise [inverse]

theorem outA_at (z : FVec Ideal S441x128 .f32) (nm : Vec Ideal S128x2 .f32) (d : Fin 64) (i : Fin 441) :
    outA z nm (ix3 0 d i) = z (ix2 i ⟨d.val, by omega⟩) * inverse z nm (ix2 i 0) := by
  pointwise [outA, k0_pay135, k0_pay134]

theorem outB_at (z : FVec Ideal S441x128 .f32) (nm : Vec Ideal S128x2 .f32) (d : Fin 64) (i : Fin 441) :
    outB z nm (ix3 0 d i) = z (ix2 i ⟨64 + d.val, by omega⟩) * inverse z nm (ix2 i 1) := by
  pointwise [outB, k0_pay136, k0_pay134]

end

end Proof.Enc
-- ==== Proof.EncSums.lean ====
module

public import proofs.«01_k».proof.Proof.EncSpec
public import Idealize.ShloMosaic.Lib.IdealHost

@[expose] public section

/-!
# Sums over grouped places, and facts of the rectifier
-/

namespace Proof.Enc

open Idealize.ShloMosaic

noncomputable section

/-- A sum over `a · b` places read as `a` groups of `b`. -/
theorem sum_grouped {n : ℕ} (a b : ℕ) (hn : n = a * b) (f : Fin n → EReal) :
    ∑ p : Fin n, f p = ∑ i : Fin a, ∑ j : Fin b, f ⟨i.val * b + j.val, by
      subst hn
      have hi := i.isLt; have hj := j.isLt
      calc i.val * b + j.val < i.val * b + b := by omega
        _ = (i.val + 1) * b := by rw [Nat.add_mul, Nat.one_mul]
        _ ≤ a * b := Nat.mul_le_mul_right b hi⟩ := by
  subst hn
  rw [← Fintype.sum_prod_type' (f := fun (i : Fin a) (j : Fin b) => f ⟨i.val * b + j.val, _⟩)]
  refine Fintype.sum_equiv (finProdFinEquiv (m := a) (n := b)).symm _ _ fun p => congrArg f (Fin.ext ?_)
  show p.val = p.val / b * b + p.val % b
  exact (Nat.div_add_mod' p.val b).symm

/-- A sum of nine places read as three rows of three. -/
theorem sum_nine (f : Fin 9 → EReal) :
    ∑ t : Fin 9, f t = ∑ i : Fin 3, ∑ j : Fin 3, f ⟨i.val * 3 + j.val, by omega⟩ :=
  sum_grouped 3 3 rfl f

/-- Nine terms added in a row. -/
theorem add_nine (f : Fin 9 → EReal) :
    f 0 + f 1 + f 2 + f 3 + f 4 + f 5 + f 6 + f 7 + f 8 = ∑ t : Fin 9, f t := by
  simp only [Fin.sum_univ_succ, Fin.sum_univ_zero, add_zero, ← add_assoc]
  rfl

/-- Of sixteen rows, three belong to each of two images and the others are zero. -/
theorem sum_sixteen (h : Fin 2) (g : Fin 3 → EReal) :
    ∑ m : Fin 16, (if q : m.val / 8 = h.val ∧ m.val % 8 < 3 then g ⟨m.val % 8, q.2⟩ else 0) = ∑ ch : Fin 3, g ch := by
  rw [sum_grouped 2 8 rfl]
  have e : ∀ i : Fin 2, (∑ j : Fin 8, (if q : (⟨i.val * 8 + j.val, by omega⟩ : Fin 16).val / 8 = h.val ∧
      (⟨i.val * 8 + j.val, by omega⟩ : Fin 16).val % 8 < 3 then g ⟨(⟨i.val * 8 + j.val, by omega⟩ : Fin 16).val % 8, q.2⟩ else 0))
      = if i = h then ∑ ch : Fin 3, g ch else 0 := by
    intro i
    by_cases hi : i = h
    · subst hi
      rw [if_pos rfl]
      have e2 : ∀ j : Fin 8, (if q : (⟨i.val * 8 + j.val, by omega⟩ : Fin 16).val / 8 = i.val ∧
          (⟨i.val * 8 + j.val, by omega⟩ : Fin 16).val % 8 < 3 then g ⟨(⟨i.val * 8 + j.val, by omega⟩ : Fin 16).val % 8, q.2⟩ else 0)
          = if q : j.val < 3 then g ⟨j.val, q⟩ else 0 := by
        intro j
        by_cases q : j.val < 3
        · rw [dif_pos q, dif_pos ⟨by show (i.val * 8 + j.val) / 8 = _; omega, by show (i.val * 8 + j.val) % 8 < 3; omega⟩]
          refine congrArg g (Fin.ext ?_)
          show (i.val * 8 + j.val) % 8 = j.val; omega
        · rw [dif_neg q, dif_neg (fun r => q (by have := r.2; change (i.val * 8 + j.val) % 8 < 3 at this; omega))]
      rw [Finset.sum_congr rfl fun j _ => e2 j]
      simp [Fin.sum_univ_succ]
    · rw [if_neg hi]
      refine Finset.sum_eq_zero fun j _ => dif_neg fun q => hi (Fin.ext ?_)
      have := q.1; change (i.val * 8 + j.val) / 8 = h.val at this; omega
  rw [Finset.sum_congr rfl fun i _ => e i]
  simp

/-- Of 128 lanes, 64 belong to each of two images. -/
theorem sum_lanes (h : Fin 2) (g : Fin 64 → EReal) :
    ∑ k : Fin 128, (if k.val / 64 = h.val then g ⟨k.val % 64, Nat.mod_lt _ (by omega)⟩ else 0) = ∑ ch : Fin 64, g ch := by
  rw [sum_grouped 2 64 rfl]
  have e : ∀ i : Fin 2, (∑ j : Fin 64, (if (⟨i.val * 64 + j.val, by omega⟩ : Fin 128).val / 64 = h.val
      then g ⟨(⟨i.val * 64 + j.val, by omega⟩ : Fin 128).val % 64, Nat.mod_lt _ (by omega)⟩ else 0))
      = if i = h then ∑ ch : Fin 64, g ch else 0 := by
    intro i
    by_cases hi : i = h
    · subst hi
      rw [if_pos rfl]
      refine Finset.sum_congr rfl fun j _ => ?_
      rw [if_pos (by show (i.val * 64 + j.val) / 64 = i.val; omega)]
      refine congrArg g (Fin.ext ?_)
      show (i.val * 64 + j.val) % 64 = j.val; omega
    · rw [if_neg hi]
      refine Finset.sum_eq_zero fun j _ => if_neg fun q => hi (Fin.ext ?_)
      change (i.val * 64 + j.val) / 64 = h.val at q; omega
  rw [Finset.sum_congr rfl fun i _ => e i]
  simp

theorem slope_eq : slope = ((Ideal.ofBits .f32 0x3E4CCCCD#32).toReal : EReal) ∧ 0 ≤ slope := by
  constructor
  · unfold slope
    simp [Ideal.ofBits, Ideal.ieee, -EReal.coe_mul]
  · unfold slope
    simp [Ideal.ofBits, Ideal.ieee, -EReal.coe_mul]
    try positivity

/-- The rectifier keeps the order. -/
theorem leaky_mono : Monotone leaky := by
  intro u v huv
  unfold leaky
  have hs := slope_eq.2
  by_cases hu : 0 ≤ u
  · rw [if_pos hu, if_pos (hu.trans huv)]; exact huv
  · rw [if_neg hu]
    have hu' : u ≤ 0 := le_of_lt (not_le.mp hu)
    by_cases hv : 0 ≤ v
    · rw [if_pos hv]
      exact (mul_nonpos_of_nonneg_of_nonpos hs hu').trans hv
    · rw [if_neg hv]
      exact mul_le_mul_of_nonneg_left huv hs

/-- Adding a bias and rectifying after the largest of four is the same as before it. -/
theorem leaky_max_add (a b c d t : EReal) :
    leaky (max (max a b) (max c d) + t) = max (max (leaky (a + t)) (leaky (b + t))) (max (leaky (c + t)) (leaky (d + t))) := by
  have hm : Monotone fun x : EReal => leaky (x + t) := fun x y h => leaky_mono (add_le_add_left h t)
  have e : leaky (max (max a b) (max c d) + t) = max (leaky (max a b + t)) (leaky (max c d + t)) := hm.map_max
  have e1 : leaky (max a b + t) = max (leaky (a + t)) (leaky (b + t)) := hm.map_max
  have e2 : leaky (max c d + t) = max (leaky (c + t)) (leaky (d + t)) := hm.map_max
  rw [e, e1, e2]

end

end Proof.Enc
-- ==== Proof.EncLayers.lean ====
module

public import proofs.«01_k».proof.Proof.EncRead
public import proofs.«01_k».proof.Proof.EncSums

@[expose] public section

/-!
# The layers of a pair of images, as the scratch buffers hold them

A buffer holds two pictures side by side: in its rows (the images) or in its lanes (the later layers). Off the
pictures it holds zero, and so a load that is off by a row or a column meets the border of zeros.
-/

namespace Proof.Enc

open Cert.EncodeIdeal Cert.EncodeIdeal.Gen Idealize.ShloMosaic

noncomputable section

/-- The image of the pair that a lane belongs to. -/
abbrev laneImage (o : Fin 128) : Fin 2 := ⟨o.val / 64, by omega⟩

/-- The channel that a lane holds. -/
abbrev laneChannel (o : Fin 128) : Fin 64 := ⟨o.val % 64, Nat.mod_lt _ (by omega)⟩

/-- The first scratch buffer, holding two images. -/
def held1 (X : Fin 2 → Pic 3) (m : Fin 16) (l : Fin 7648) : EReal :=
  if g : 128 ≤ l.val ∧ l.val < 7520 ∧ m.val % 8 < 3 ∧ 2 ≤ (l.val - 128) % 88 ∧ (l.val - 128) % 88 < 86 then
    X ⟨m.val / 8, by omega⟩ ⟨m.val % 8, g.2.2.1⟩ ((l.val - 128) / 88) ((l.val - 128) % 88 - 2) else 0

/-- The second scratch buffer, holding two pictures of 42 rows. -/
def held2 (X : Fin 2 → Pic 64) (r : Fin 2128) (l : Fin 128) : EReal :=
  if 58 ≤ r.val ∧ (r.val - 58) / 48 < 42 ∧ (r.val - 58) % 48 < 42 then
    X (laneImage l) (laneChannel l) ((r.val - 58) / 48) ((r.val - 58) % 48) else 0

/-- The third or fourth scratch buffer, holding two pictures of 21 rows. -/
def held3 (X : Fin 2 → Pic 64) (r : Fin 589) (l : Fin 128) : EReal :=
  if 34 ≤ r.val ∧ (r.val - 34) / 25 < 21 ∧ (r.val - 34) % 25 < 21 then
    X (laneImage l) (laneChannel l) ((r.val - 34) / 25) ((r.val - 34) % 25) else 0

theorem pic_congr {C : ℕ} (X : Fin 2 → Pic C) {h h' : Fin 2} {k k' : Fin C} {r r' c c' : ℕ} (e1 : h.val = h'.val) (e2 : k.val = k'.val)
    (e3 : r = r') (e4 : c = c') : X h k r c = X h' k' r' c' := by
  obtain rfl := Fin.ext e1; obtain rfl := Fin.ext e2; subst e3; subst e4; rfl

theorem held1_window (X : Fin 2 → Pic 3) (h : Fin 2) (ch i j : Fin 3) {r c : ℕ} (hr : r < 84) (hc : c < 84) (m : Fin 16)
    (hm : m.val = 8 * h.val + ch.val) (l : Fin 7648) (hl : l.val = 41 + 88 * (r + i.val) + (c + j.val)) :
    held1 X m l = pad 84 (X h) ch (r + i.val) (c + j.val) := by
  have hi := i.isLt; have hj := j.isLt; have hh := h.isLt; have hk := ch.isLt
  unfold held1 pad
  by_cases g : 1 ≤ r + i.val ∧ r + i.val ≤ 84 ∧ 1 ≤ c + j.val ∧ c + j.val ≤ 84
  · rw [if_pos g, dif_pos (by omega)]
    exact pic_congr X (by show m.val / 8 = h.val; omega) (by show m.val % 8 = ch.val; omega) (by omega) (by omega)
  · rw [if_neg g, dif_neg (by omega)]

theorem held2_window (X : Fin 2 → Pic 64) (i j : Fin 3) {r c : ℕ} (hr : r < 42) (hc : c < 42) (p : Fin 2128)
    (hp : p.val = 9 + 48 * (r + i.val) + (c + j.val)) (l : Fin 128) :
    held2 X p l = pad 42 (X (laneImage l)) (laneChannel l) (r + i.val) (c + j.val) := by
  have hi := i.isLt; have hj := j.isLt
  unfold held2 pad
  by_cases g : 1 ≤ r + i.val ∧ r + i.val ≤ 42 ∧ 1 ≤ c + j.val ∧ c + j.val ≤ 42
  · rw [if_pos g, if_pos (by omega)]
    exact pic_congr X rfl rfl (by omega) (by omega)
  · rw [if_neg g, if_neg (by omega)]

theorem held3_window (X : Fin 2 → Pic 64) (i j : Fin 3) {r c : ℕ} (hr : r < 21) (hc : c < 21) (p : Fin 589)
    (hp : p.val = 8 + 25 * (r + i.val) + (c + j.val)) (l : Fin 128) :
    held3 X p l = pad 21 (X (laneImage l)) (laneChannel l) (r + i.val) (c + j.val) := by
  have hi := i.isLt; have hj := j.isLt
  unfold held3 pad
  by_cases g : 1 ≤ r + i.val ∧ r + i.val ≤ 21 ∧ 1 ≤ c + j.val ∧ c + j.val ≤ 21
  · rw [if_pos g, if_pos (by omega)]
    exact pic_congr X rfl rfl (by omega) (by omega)
  · rw [if_neg g, if_neg (by omega)]

/-! ## The convolutions -/

/-- The weights of a layer. -/
abbrev Wts (C : ℕ) := Fin 64 → Fin C → Fin 3 → Fin 3 → EReal

theorem wts_congr {C : ℕ} (w : Fin C → Fin 3 → Fin 3 → EReal) {k k' : Fin C} {i i' j j' : Fin 3} (e1 : k.val = k'.val) (e2 : i.val = i'.val)
    (e3 : j.val = j'.val) : w k i j = w k' i' j' := by
  obtain rfl := Fin.ext e1; obtain rfl := Fin.ext e2; obtain rfl := Fin.ext e3; rfl

/-- The first layer's weights as the body's matrix holds them. -/
def IsFirst (w : Vec Ideal S144x128 .f32) (W : Wts 3) : Prop :=
  ∀ (k : Fin 144) (o : Fin 128), w (ix2 k o) = if q : k.val % 16 / 8 = (laneImage o).val ∧ k.val % 16 % 8 < 3 then
    W (laneChannel o) ⟨k.val % 16 % 8, q.2⟩ ⟨k.val / 16 / 3, by omega⟩ ⟨k.val / 16 % 3, by omega⟩ else 0

/-- A later layer's weights as the body's matrices hold them. -/
def IsLater (w : Fin 9 → Vec Ideal S1x1x128x128 .f32) (W : Wts 64) : Prop :=
  ∀ (t : Fin 9) (k o : Fin 128), w t (ix4 0 0 k o) = if (laneImage k).val = (laneImage o).val then
    W (laneChannel o) (laneChannel k) ⟨t.val / 3, by omega⟩ ⟨t.val % 3, by omega⟩ else 0

/-- A layer's biases as the body's row holds them. -/
def IsBias (b : Vec Ideal S1x128 .f32) (B : Fin 64 → EReal) : Prop := ∀ o : Fin 128, b (ix2 0 o) = B (laneChannel o)

theorem conv1_held {κ : Kind} {sp : Space} (v : View sig κ sp S16x7648 .f32) (L : Pieces S16x7648) (w : Vec Ideal S144x128 .f32)
    (X : Fin 2 → Pic 3) (W : Wts 3) (hL : ∀ m l, at2 L m l = held1 X m l) (hw : IsFirst w W) {r c : ℕ} (hr : r < 84) (hc : c < 84)
    (o : Fin 128) (p : Fin 7392) (hp : p.val = 88 * r + c + 2) :
    conv1 v L w (ix2 p o) = conv (pad 84 (X (laneImage o))) (W (laneChannel o)) r c := by
  rw [conv1_at, sum_grouped 9 16 rfl, sum_nine]
  unfold conv
  refine Finset.sum_congr rfl fun i _ => Finset.sum_congr rfl fun j _ => ?_
  rw [← sum_sixteen (laneImage o)]
  refine Finset.sum_congr rfl fun m _ => ?_
  have hi := i.isLt; have hj := j.isLt; have hm := m.isLt
  rw [taps1_at, hL, hw]
  by_cases q : m.val / 8 = (laneImage o).val ∧ m.val % 8 < 3
  · rw [dif_pos q, dif_pos ⟨by show ((i.val * 3 + j.val) * 16 + m.val) % 16 / 8 = _; rw [← q.1]; omega, by
      show ((i.val * 3 + j.val) * 16 + m.val) % 16 % 8 < 3; omega⟩]
    rw [mul_comm (G := EReal)]
    refine congrArg₂ (fun u v : EReal => u * v) ?_ ?_
    · refine wts_congr (W (laneChannel o)) ?_ ?_ ?_
      · show ((i.val * 3 + j.val) * 16 + m.val) % 16 % 8 = m.val % 8; omega
      · show ((i.val * 3 + j.val) * 16 + m.val) / 16 / 3 = i.val; omega
      · show ((i.val * 3 + j.val) * 16 + m.val) / 16 % 3 = j.val; omega
    · refine held1_window X (laneImage o) ⟨m.val % 8, q.2⟩ i j hr hc _ ?_ _ ?_
      · show ((i.val * 3 + j.val) * 16 + m.val) % 16 = 8 * (laneImage o).val + m.val % 8; rw [← q.1]; omega
      · show 39 + 88 * (((i.val * 3 + j.val) * 16 + m.val) / 16 / 3) + ((i.val * 3 + j.val) * 16 + m.val) / 16 % 3 + p.val = _
        omega
  · rw [dif_neg q, dif_neg (fun r => q ⟨by
      rw [← r.1]; show m.val / 8 = ((i.val * 3 + j.val) * 16 + m.val) % 16 / 8; omega, by
      have := r.2; change ((i.val * 3 + j.val) * 16 + m.val) % 16 % 8 < 3 at this; omega⟩), mul_zero]

/-- One place of the window of a later layer. -/
theorem place_later (x : Pic 64) (w : Fin 9 → Vec Ideal S1x1x128x128 .f32) (W : Wts 64) (hw : IsLater w W) (o : Fin 128) (i j : Fin 3)
    (f : Fin 128 → EReal) (r c : ℕ) (hf : ∀ k : Fin 128, (laneImage k).val = (laneImage o).val → f k = x (laneChannel k) r c) :
    ∑ k : Fin 128, f k * w ⟨i.val * 3 + j.val, by omega⟩ (ix4 0 0 k o) = ∑ ch : Fin 64, W (laneChannel o) ch i j * x ch r c := by
  rw [← sum_lanes (laneImage o)]
  refine Finset.sum_congr rfl fun k _ => ?_
  have hi := i.isLt; have hj := j.isLt
  rw [hw]
  by_cases q : k.val / 64 = (laneImage o).val
  · rw [if_pos q, if_pos q, hf k q, mul_comm (G := EReal)]
    refine congrArg (fun u : EReal => u * _) ?_
    refine wts_congr (W (laneChannel o)) rfl ?_ ?_
    · show (i.val * 3 + j.val) / 3 = i.val; omega
    · show (i.val * 3 + j.val) % 3 = j.val; omega
  · rw [if_neg q, if_neg q, mul_zero]

theorem conv2_at {κ : Kind} {sp : Space} (v : View sig κ sp S2128x128 .f32) (L : Pieces S2128x128)
    (w : Fin 9 → Vec Ideal S1x1x128x128 .f32) (p : Fin 2016) (o : Fin 128) :
    conv2 v L w (ix2 p o) = ∑ t : Fin 9, ∑ k : Fin 128, at2 L ⟨7 + 48 * (t.val / 3) + t.val % 3 + p.val, by omega⟩ k * w t (ix4 0 0 k o) := by
  rw [← add_nine]
  have e : ∀ (n : ℕ) (h) (t : Fin 9) (hn : n = 7 + 48 * (t.val / 3) + t.val % 3), mm2 (tap2 v L n h) (w t) (ix2 p o)
      = ∑ k : Fin 128, at2 L ⟨7 + 48 * (t.val / 3) + t.val % 3 + p.val, by omega⟩ k * w t (ix4 0 0 k o) := by
    intro n h t hn
    subst hn
    rw [mm2_at]
    exact Finset.sum_congr rfl fun k _ => congrArg (fun u : EReal => u * _) (tap2_at v L _ h p k (by omega))
  rw [← e 7 inb_S2128x128_S2016x128_7_0 0 rfl, ← e 8 inb_S2128x128_S2016x128_8_0 1 rfl, ← e 9 inb_S2128x128_S2016x128_9_0 2 rfl,
    ← e 55 inb_S2128x128_S2016x128_55_0 3 rfl, ← e 56 inb_S2128x128_S2016x128_56_0 4 rfl, ← e 57 inb_S2128x128_S2016x128_57_0 5 rfl,
    ← e 103 inb_S2128x128_S2016x128_103_0 6 rfl, ← e 104 inb_S2128x128_S2016x128_104_0 7 rfl, ← e 105 inb_S2128x128_S2016x128_105_0 8 rfl]
  rfl

theorem conv2_held {κ : Kind} {sp : Space} (v : View sig κ sp S2128x128 .f32) (L : Pieces S2128x128)
    (w : Fin 9 → Vec Ideal S1x1x128x128 .f32) (X : Fin 2 → Pic 64) (W : Wts 64) (hL : ∀ r l, at2 L r l = held2 X r l) (hw : IsLater w W)
    {r c : ℕ} (hr : r < 42) (hc : c < 42) (o : Fin 128) (p : Fin 2016) (hp : p.val = 48 * r + c + 2) :
    conv2 v L w (ix2 p o) = conv (pad 42 (X (laneImage o))) (W (laneChannel o)) r c := by
  rw [conv2_at, sum_nine]
  unfold conv
  refine Finset.sum_congr rfl fun i _ => Finset.sum_congr rfl fun j _ => ?_
  refine place_later (pad 42 (X (laneImage o))) w W hw o i j _ _ _ fun k hk => ?_
  have hi := i.isLt; have hj := j.isLt
  rw [hL, held2_window X i j hr hc _ (by
    show 7 + 48 * ((i.val * 3 + j.val) / 3) + (i.val * 3 + j.val) % 3 + p.val = _; omega)]
  rw [show laneImage k = laneImage o from Fin.ext hk]

theorem conv3_at {κ : Kind} {sp : Space} (v : View sig κ sp S589x128 .f32) (L : Pieces S589x128)
    (w : Fin 9 → Vec Ideal S1x1x128x128 .f32) (b : Vec Ideal S1x128 .f32) (p : Fin 525) (o : Fin 128) :
    conv3 v L w b (ix2 p o) = leaky ((∑ t : Fin 9, ∑ k : Fin 128,
      at2 L ⟨6 + 25 * (t.val / 3) + t.val % 3 + p.val, by omega⟩ k * w t (ix4 0 0 k o)) + b (ix2 0 o)) := by
  rw [← add_nine]
  have e : ∀ (n : ℕ) (h) (t : Fin 9) (hn : n = 6 + 25 * (t.val / 3) + t.val % 3), mm3 (tap3 v L n h) (w t) (ix2 p o)
      = ∑ k : Fin 128, at2 L ⟨6 + 25 * (t.val / 3) + t.val % 3 + p.val, by omega⟩ k * w t (ix4 0 0 k o) := by
    intro n h t hn
    subst hn
    rw [mm3_at]
    exact Finset.sum_congr rfl fun k _ => congrArg (fun u : EReal => u * _) (tap3_at v L _ h p k (by omega))
  have eb : (broadcastTo S525x128 (biasV b) broadcasts_S1x128_S525x128 : FVec Ideal S525x128 .f32) (ix2 p o) = b (ix2 0 o) := by
    pointwise [biasV]
  rw [← e 6 inb_S589x128_S525x128_6_0 0 rfl, ← e 7 inb_S589x128_S525x128_7_0 1 rfl, ← e 8 inb_S589x128_S525x128_8_0 2 rfl,
    ← e 31 inb_S589x128_S525x128_31_0 3 rfl, ← e 32 inb_S589x128_S525x128_32_0 4 rfl, ← e 33 inb_S589x128_S525x128_33_0 5 rfl,
    ← e 56 inb_S589x128_S525x128_56_0 6 rfl, ← e 57 inb_S589x128_S525x128_57_0 7 rfl, ← e 58 inb_S589x128_S525x128_58_0 8 rfl, ← eb]
  unfold conv3
  rw [leakyV_at]
  rfl

theorem conv3_held {κ : Kind} {sp : Space} (v : View sig κ sp S589x128 .f32) (L : Pieces S589x128)
    (w : Fin 9 → Vec Ideal S1x1x128x128 .f32) (b : Vec Ideal S1x128 .f32) (X : Fin 2 → Pic 64) (W : Wts 64) (B : Fin 64 → EReal)
    (hL : ∀ r l, at2 L r l = held3 X r l) (hw : IsLater w W) (hb : IsBias b B)
    {r c : ℕ} (hr : r < 21) (hc : c < 21) (o : Fin 128) (p : Fin 525) (hp : p.val = 25 * r + c + 2) :
    conv3 v L w b (ix2 p o) = layer 21 (X (laneImage o)) W B (laneChannel o) r c := by
  rw [conv3_at, sum_nine, hb]
  unfold layer conv
  refine congrArg (fun u : EReal => leaky (u + B (laneChannel o))) ?_
  refine Finset.sum_congr rfl fun i _ => Finset.sum_congr rfl fun j _ => ?_
  refine place_later (pad 21 (X (laneImage o))) w W hw o i j _ _ _ fun k hk => ?_
  have hi := i.isLt; have hj := j.isLt
  rw [hL, held3_window X i j hr hc _ (by
    show 6 + 25 * ((i.val * 3 + j.val) / 3) + (i.val * 3 + j.val) % 3 + p.val = _; omega)]
  rw [show laneImage k = laneImage o from Fin.ext hk]

end

end Proof.Enc
-- ==== Proof.EncPair.lean ====
module

public import proofs.«01_k».proof.Proof.EncLayers
public import Idealize.ShloMosaic.Lib.IdealHost

@[expose] public section

/-!
# A pair of images through the body

From scratch buffers that are zero off the pictures, the steps of the body compute the normalised features of both
images of the pair, and leave the buffers zero off the pictures.
-/

namespace Proof.Enc

open Cert.EncodeIdeal Cert.EncodeIdeal.Gen Idealize.ShloMosaic

noncomputable section

/-- The four layers. -/
def features (x : Pic 3) (W1 : Wts 3) (W2 W3 W4 : Wts 64) (B : Fin 4 → Fin 64 → EReal) : Pic 64 :=
  layer 21 (layer 21 (layerPool 42 (layerPool 84 x W1 (B 0)) W2 (B 1)) W3 (B 2)) W4 (B 3)

/-- The first scratch buffer is zero off the images. -/
def Quiet1 (L : Pieces S16x7648) : Prop :=
  ∀ m l, ¬ (128 ≤ l.val ∧ l.val < 7520 ∧ m.val % 8 < 3) → at2 L m l = 0

/-- The second scratch buffer is zero off the pictures. -/
def Quiet2 (L : Pieces S2128x128) : Prop :=
  ∀ r l, ¬ (58 ≤ r.val ∧ (r.val - 58) / 48 < 42 ∧ (r.val - 58) % 48 < 42) → at2 L r l = 0

/-- The third or fourth scratch buffer is zero off the pictures. -/
def Quiet3 (L : Pieces S589x128) : Prop :=
  ∀ r l, ¬ (34 ≤ r.val ∧ (r.val - 34) / 25 < 21 ∧ (r.val - 34) % 25 < 21) → at2 L r l = 0

/-- An image as the block of images holds it, with two columns of zeros at each side. -/
def IsImage (x : Vec Ideal S1x3x7392 .f32) (X : Pic 3) : Prop :=
  ∀ (ch : Fin 3) (p : Fin 7392), x (ix3 0 ch p)
    = if 2 ≤ p.val % 88 ∧ p.val % 88 < 86 then X ch (p.val / 88) (p.val % 88 - 2) else 0

/-- The matrix that sums over each image's lanes. -/
def IsMask (nm : Vec Ideal S128x2 .f32) : Prop :=
  ∀ (k : Fin 128) (h : Fin 2), nm (ix2 k h) = if k.val / 64 = h.val then 1 else 0

theorem pay8_at (x : Vec Ideal S1x3x7392 .f32) (ch : Fin 3) (p : Fin 7392) : k0_pay8 x (ix2 ch p) = x (ix3 0 ch p) := by
  pointwise [k0_pay8]

theorem images_held (xa xb : Vec Ideal S1x3x7392 .f32) (L : Pieces S16x7648) (X : Fin 2 → Pic 3) (ha : IsImage xa (X 0))
    (hb : IsImage xb (X 1)) (hL : Quiet1 L) (m : Fin 16) (l : Fin 7648) : at2 (images xa xb L) m l = held1 X m l := by
  unfold images held1
  refine (at2_cons (R := 16) (C := 7648) (n := 3) (m := 7392) _ _ _ m l).trans ?_
  by_cases h1 : (8 ≤ m.val ∧ m.val < 8 + 3) ∧ (128 ≤ l.val ∧ l.val < 128 + 7392)
  · rw [dif_pos h1, pay8_at, hb]
    by_cases g : 2 ≤ (l.val - 128) % 88 ∧ (l.val - 128) % 88 < 86
    · rw [if_pos g, dif_pos (by omega)]
      exact pic_congr X (by show 1 = m.val / 8; omega) (by show m.val - 8 = m.val % 8; omega) rfl rfl
    · rw [if_neg g, dif_neg (by omega)]
  rw [dif_neg h1]
  refine (at2_cons (R := 16) (C := 7648) (n := 3) (m := 7392) _ _ _ m l).trans ?_
  by_cases h0 : (0 ≤ m.val ∧ m.val < 0 + 3) ∧ (128 ≤ l.val ∧ l.val < 128 + 7392)
  · rw [dif_pos h0, pay8_at, ha]
    by_cases g : 2 ≤ (l.val - 128) % 88 ∧ (l.val - 128) % 88 < 86
    · rw [if_pos g, dif_pos (by omega)]
      exact pic_congr X (by show 0 = m.val / 8; omega) (by show m.val - 0 = m.val % 8; omega) rfl rfl
    · rw [if_neg g, dif_neg (by omega)]
  rw [dif_neg h0, hL m l (by omega), dif_neg (by omega)]

theorem whole1_at (y : FVec Ideal S7392x128 .f32) (T : Pieces S7392x128) (r : Fin 7392) (l : Fin 128) :
    at2 (whole1 y T) r l = y (ix2 r l) := by
  unfold whole1
  refine (at2_cons (R := 7392) (C := 128) (n := 7392) (m := 128) _ _ _ r l).trans ?_
  rw [dif_pos (by omega)]
  rfl

theorem whole2_at (y : FVec Ideal S2016x128 .f32) (T : Pieces S2016x128) (r : Fin 2016) (l : Fin 128) :
    at2 (whole2 y T) r l = y (ix2 r l) := by
  unfold whole2
  refine (at2_cons (R := 2016) (C := 128) (n := 2016) (m := 128) _ _ _ r l).trans ?_
  rw [dif_pos (by omega)]
  pointwise []

theorem across1_at {κ : Kind} {sp : Space} (v : View sig κ sp S7392x128 .f32) (T : Pieces S7392x128) (q : Fin 3696) (l : Fin 128) :
    across1 v T (ix2 q l) = max (at2 T ⟨2 * q.val, by omega⟩ l) (at2 T ⟨2 * q.val + 1, by omega⟩ l) := by
  refine congrArg₂ (fun a b : EReal => max a b) ?_ ?_
  · refine (readCov_at2 (R := 7392) (C := 128) v T ![0, 0] ![2, 1] _ q l (by show 0 + 2 * q.val < 7392; omega)
      (by show 0 + 1 * l.val < 128; omega)).trans ?_
    exact congrArg₂ (at2 T) (Fin.ext (by show 0 + 2 * q.val = 2 * q.val; omega)) (Fin.ext (by show 0 + 1 * l.val = _; omega))
  · refine (readCov_at2 (R := 7392) (C := 128) v T ![1, 0] ![2, 1] _ q l (by show 1 + 2 * q.val < 7392; omega)
      (by show 0 + 1 * l.val < 128; omega)).trans ?_
    exact congrArg₂ (at2 T) (Fin.ext (by show 1 + 2 * q.val = 2 * q.val + 1; omega)) (Fin.ext (by show 0 + 1 * l.val = _; omega))

theorem across2_at {κ : Kind} {sp : Space} (v : View sig κ sp S2016x128 .f32) (T : Pieces S2016x128) (q : Fin 1008) (l : Fin 128) :
    across2 v T (ix2 q l) = max (at2 T ⟨2 * q.val, by omega⟩ l) (at2 T ⟨2 * q.val + 1, by omega⟩ l) := by
  refine congrArg₂ (fun a b : EReal => max a b) ?_ ?_
  · refine (readCov_at2 (R := 2016) (C := 128) v T ![0, 0] ![2, 1] _ q l (by show 0 + 2 * q.val < 2016; omega)
      (by show 0 + 1 * l.val < 128; omega)).trans ?_
    exact congrArg₂ (at2 T) (Fin.ext (by show 0 + 2 * q.val = 2 * q.val; omega)) (Fin.ext (by show 0 + 1 * l.val = _; omega))
  · refine (readCov_at2 (R := 2016) (C := 128) v T ![1, 0] ![2, 1] _ q l (by show 1 + 2 * q.val < 2016; omega)
      (by show 0 + 1 * l.val < 128; omega)).trans ?_
    exact congrArg₂ (at2 T) (Fin.ext (by show 1 + 2 * q.val = 2 * q.val + 1; omega)) (Fin.ext (by show 0 + 1 * l.val = _; omega))

theorem pooled1_held {κ κ' : Kind} {sp sp' : Space} (v : View sig κ sp S16x7648 .f32) (v' : View sig κ' sp' S7392x128 .f32)
    (L1 : Pieces S16x7648) (T : Pieces S7392x128) (L2 : Pieces S2128x128)
    (w : Vec Ideal S144x128 .f32) (b : Vec Ideal S1x128 .f32) (X : Fin 2 → Pic 3) (W : Wts 3) (B : Fin 64 → EReal)
    (hL : ∀ m l, at2 L1 m l = held1 X m l) (hw : IsFirst w W) (hb : IsBias b B) (hz : Quiet2 L2) (r : Fin 2128) (l : Fin 128) :
    at2 (rows1 (across1 v' (whole1 (conv1 v L1 w) T)) b L2 42 (Nat.le_refl 42)) r l
      = held2 (fun h => layerPool 84 (X h) W B) r l := by
  rw [at2_rows1]
  unfold held2
  by_cases g : 58 ≤ r.val ∧ (r.val - 58) / 48 < 42 ∧ (r.val - 58) % 48 < 42
  · rw [dif_pos g, if_pos g, row1_at, across1_at, across1_at, hb, whole1_at, whole1_at, whole1_at, whole1_at]
    have hi := g.2.1; have hj := g.2.2
    rw [conv1_held v L1 w X W hL hw (r := 2 * ((r.val - 58) / 48)) (c := 2 * ((r.val - 58) % 48)) (by omega) (by omega) l _ (by
        show 2 * (88 * ((r.val - 58) / 48) + (1 + (r.val - 58) % 48)) = _; omega),
      conv1_held v L1 w X W hL hw (r := 2 * ((r.val - 58) / 48)) (c := 2 * ((r.val - 58) % 48) + 1) (by omega) (by omega) l _ (by
        show 2 * (88 * ((r.val - 58) / 48) + (1 + (r.val - 58) % 48)) + 1 = _; omega),
      conv1_held v L1 w X W hL hw (r := 2 * ((r.val - 58) / 48) + 1) (c := 2 * ((r.val - 58) % 48)) (by omega) (by omega) l _ (by
        show 2 * (88 * ((r.val - 58) / 48) + 44 + (1 + (r.val - 58) % 48)) = _; omega),
      conv1_held v L1 w X W hL hw (r := 2 * ((r.val - 58) / 48) + 1) (c := 2 * ((r.val - 58) % 48) + 1) (by omega) (by omega) l _ (by
        show 2 * (88 * ((r.val - 58) / 48) + 44 + (1 + (r.val - 58) % 48)) + 1 = _; omega), leaky_max_add]
    rfl
  · rw [dif_neg g, if_neg g, hz r l g]

theorem pooled2_held {κ κ' : Kind} {sp sp' : Space} (v : View sig κ sp S2128x128 .f32) (v' : View sig κ' sp' S2016x128 .f32)
    (L2 : Pieces S2128x128) (T : Pieces S2016x128) (L3 : Pieces S589x128)
    (w : Fin 9 → Vec Ideal S1x1x128x128 .f32) (b : Vec Ideal S1x128 .f32) (X : Fin 2 → Pic 64) (W : Wts 64) (B : Fin 64 → EReal)
    (hL : ∀ m l, at2 L2 m l = held2 X m l) (hw : IsLater w W) (hb : IsBias b B) (hz : Quiet3 L3) (r : Fin 589) (l : Fin 128) :
    at2 (rows2 (across2 v' (whole2 (conv2 v L2 w) T)) b L3 21 (Nat.le_refl 21)) r l
      = held3 (fun h => layerPool 42 (X h) W B) r l := by
  rw [at2_rows2]
  unfold held3
  by_cases g : 34 ≤ r.val ∧ (r.val - 34) / 25 < 21 ∧ (r.val - 34) % 25 < 21
  · rw [dif_pos g, if_pos g, row2_at, across2_at, across2_at, hb, whole2_at, whole2_at, whole2_at, whole2_at]
    have hi := g.2.1; have hj := g.2.2
    rw [conv2_held v L2 w X W hL hw (r := 2 * ((r.val - 34) / 25)) (c := 2 * ((r.val - 34) % 25)) (by omega) (by omega) l _ (by
        show 2 * (48 * ((r.val - 34) / 25) + (1 + (r.val - 34) % 25)) = _; omega),
      conv2_held v L2 w X W hL hw (r := 2 * ((r.val - 34) / 25)) (c := 2 * ((r.val - 34) % 25) + 1) (by omega) (by omega) l _ (by
        show 2 * (48 * ((r.val - 34) / 25) + (1 + (r.val - 34) % 25)) + 1 = _; omega),
      conv2_held v L2 w X W hL hw (r := 2 * ((r.val - 34) / 25) + 1) (c := 2 * ((r.val - 34) % 25)) (by omega) (by omega) l _ (by
        show 2 * (48 * ((r.val - 34) / 25) + 24 + (1 + (r.val - 34) % 25)) = _; omega),
      conv2_held v L2 w X W hL hw (r := 2 * ((r.val - 34) / 25) + 1) (c := 2 * ((r.val - 34) % 25) + 1) (by omega) (by omega) l _ (by
        show 2 * (48 * ((r.val - 34) / 25) + 24 + (1 + (r.val - 34) % 25)) + 1 = _; omega), leaky_max_add]
    rfl
  · rw [dif_neg g, if_neg g, hz r l g]

theorem third_held {κ : Kind} {sp : Space} (v : View sig κ sp S589x128 .f32) (L3 L4 : Pieces S589x128)
    (w : Fin 9 → Vec Ideal S1x1x128x128 .f32) (b : Vec Ideal S1x128 .f32) (X : Fin 2 → Pic 64) (W : Wts 64) (B : Fin 64 → EReal)
    (hL : ∀ m l, at2 L3 m l = held3 X m l) (hw : IsLater w W) (hb : IsBias b B) (hz : Quiet3 L4) (r : Fin 589) (l : Fin 128) :
    at2 (rows3 (conv3 v L3 w b) L4 21 (Nat.le_refl 21)) r l = held3 (fun h => layer 21 (X h) W B) r l := by
  rw [at2_rows3]
  unfold held3
  by_cases g : 34 ≤ r.val ∧ (r.val - 34) / 25 < 21 ∧ (r.val - 34) % 25 < 21
  · rw [dif_pos g, if_pos g, conv3_held v L3 w b X W B hL hw hb (r := (r.val - 34) / 25) (c := (r.val - 34) % 25) g.2.1 g.2.2 l _ (by
      show r.val - 32 = _; omega)]
  · rw [dif_neg g, if_neg g, hz r l g]

/-- The four scratch buffers are zero off the pictures. -/
structure Quiet (L1 : Pieces S16x7648) (L2 : Pieces S2128x128) (L3 L4 : Pieces S589x128) : Prop where
  one : Quiet1 L1
  two : Quiet2 L2
  three : Quiet3 L3
  four : Quiet3 L4

theorem quiet_held1 {L : Pieces S16x7648} {X : Fin 2 → Pic 3} (h : ∀ m l, at2 L m l = held1 X m l) : Quiet1 L := by
  intro m l g
  rw [h]; unfold held1
  rw [dif_neg (by omega)]

theorem quiet_held2 {L : Pieces S2128x128} {X : Fin 2 → Pic 64} (h : ∀ m l, at2 L m l = held2 X m l) : Quiet2 L := by
  intro m l g
  rw [h]; unfold held2
  rw [if_neg g]

theorem quiet_held3 {L : Pieces S589x128} {X : Fin 2 → Pic 64} (h : ∀ m l, at2 L m l = held3 X m l) : Quiet3 L := by
  intro m l g
  rw [h]; unfold held3
  rw [if_neg g]

section pair

variable {κ7 κ8 κ9 κ10 κ11 κ12 : Kind} {s7 s8 s9 s10 s11 s12 : Space} (v7 : View sig κ7 s7 S16x7648 .f32) (v8 : View sig κ8 s8 S2128x128 .f32)
  (v9 : View sig κ9 s9 S589x128 .f32) (v10 : View sig κ10 s10 S589x128 .f32) (v11 : View sig κ11 s11 S7392x128 .f32)
  (v12 : View sig κ12 s12 S2016x128 .f32)
  {xa xb : Vec Ideal S1x3x7392 .f32} {w1 : Vec Ideal S144x128 .f32} {w2 w3 w4 : Fin 9 → Vec Ideal S1x1x128x128 .f32}
  {b1 b2 b3 b4 : Vec Ideal S1x128 .f32} {X : Fin 2 → Pic 3} {W1 : Wts 3} {W2 W3 W4 : Wts 64} {B : Fin 4 → Fin 64 → EReal}
  (ha : IsImage xa (X 0)) (hb : IsImage xb (X 1)) (hw1 : IsFirst w1 W1) (hw2 : IsLater w2 W2) (hw3 : IsLater w3 W3) (hw4 : IsLater w4 W4)
  (hb1 : IsBias b1 (B 0)) (hb2 : IsBias b2 (B 1)) (hb3 : IsBias b3 (B 2)) (hb4 : IsBias b4 (B 3))

include ha hb hw1 hw2 hw3 hw4 hb1 hb2 hb3 hb4

/-- A pair's buffers and features. -/
theorem pair_held {L1 L1' : Pieces S16x7648} {L2 L2' : Pieces S2128x128} {L3 L3' L4 L4' : Pieces S589x128}
    {T1 T1' : Pieces S7392x128} {T2 T2' : Pieces S2016x128} (Q : Quiet L1 L2 L3 L4) (e1 : L1' = images xa xb L1)
    (e2 : T1' = whole1 (conv1 v7 L1' w1) T1) (e3 : L2' = rows1 (across1 v11 T1') b1 L2 42 (Nat.le_refl 42))
    (e4 : T2' = whole2 (conv2 v8 L2' w2) T2) (e5 : L3' = rows2 (across2 v12 T2') b2 L3 21 (Nat.le_refl 21))
    (e6 : L4' = rows3 (conv3 v9 L3' w3 b3) L4 21 (Nat.le_refl 21)) :
    Quiet L1' L2' L3' L4' ∧ ∀ {r c : ℕ}, r < 21 → c < 21 → ∀ (o : Fin 128) (p : Fin 525), p.val = 25 * r + c + 2 →
      conv3 v10 L4' w4 b4 (ix2 p o) = features (X (laneImage o)) W1 W2 W3 W4 B (laneChannel o) r c := by
  have h1 : ∀ m l, at2 L1' m l = held1 X m l := e1 ▸ images_held xa xb L1 X ha hb Q.one
  have h2 : ∀ m l, at2 L2' m l = held2 (fun h => layerPool 84 (X h) W1 (B 0)) m l := by
    rw [e3, e2]; exact pooled1_held v7 v11 L1' T1 L2 w1 b1 X W1 (B 0) h1 hw1 hb1 Q.two
  have h3 : ∀ m l, at2 L3' m l = held3 (fun h => layerPool 42 (layerPool 84 (X h) W1 (B 0)) W2 (B 1)) m l := by
    rw [e5, e4]; exact pooled2_held v8 v12 L2' T2 L3 w2 b2 _ W2 (B 1) h2 hw2 hb2 Q.three
  have h4 : ∀ m l, at2 L4' m l = held3 (fun h => layer 21 (layerPool 42 (layerPool 84 (X h) W1 (B 0)) W2 (B 1)) W3 (B 2)) m l := by
    rw [e6]; exact third_held v9 L3' L4 w3 b3 _ W3 (B 2) h3 hw3 hb3 Q.four
  exact ⟨⟨quiet_held1 h1, quiet_held2 h2, quiet_held3 h3, quiet_held3 h4⟩, fun hr hc o p hp =>
    conv3_held v10 L4' w4 b4 _ W4 (B 3) h4 hw4 hb4 hr hc o p hp⟩

end pair

/-! ## The features over their length -/

theorem small_pos : (0 : EReal) < Ideal.ofBits .f32 0x2B8CBCCC#32 := by
  simp [Ideal.ofBits, Ideal.ieee, -EReal.coe_mul]
  try positivity

theorem inverse_held (z : FVec Ideal S441x128 .f32) (nm : Vec Ideal S128x2 .f32) (hm : IsMask nm) (x : Fin 2 → Pic 64) (i : Fin 441)
    (hz : ∀ o : Fin 128, z (ix2 i o) = x (laneImage o) (laneChannel o) (i.val / 21) (i.val % 21)) (h : Fin 2) (d : Fin 64) :
    x h d (i.val / 21) (i.val % 21) * inverse z nm (ix2 i h) = normed (x h) d (i.val / 21) (i.val % 21) := by
  have e : ∑ k : Fin 128, z (ix2 i k) * z (ix2 i k) * nm (ix2 k h)
      = ∑ k : Fin 64, x h k (i.val / 21) (i.val % 21) * x h k (i.val / 21) (i.val % 21) := by
    rw [← sum_lanes h]
    refine Finset.sum_congr rfl fun k _ => ?_
    rw [hm, hz]
    by_cases q : k.val / 64 = h.val
    · rw [if_pos q, if_pos q, mul_one, show laneImage k = h from Fin.ext q]
    · rw [if_neg q, if_neg q, mul_zero]
  rw [inverse_at, e]
  exact Ideal.mul_one_div (lt_of_lt_of_le small_pos (le_max_left _ _)).ne'

theorem outA_held (y : FVec Ideal S525x128 .f32) (nm : Vec Ideal S128x2 .f32) (hm : IsMask nm) (x : Fin 2 → Pic 64)
    (hy : ∀ {r c : ℕ}, r < 21 → c < 21 → ∀ (o : Fin 128) (p : Fin 525), p.val = 25 * r + c + 2 →
      y (ix2 p o) = x (laneImage o) (laneChannel o) r c) (d : Fin 64) (i : Fin 441) :
    outA (gather y) nm (ix3 0 d i) = normed (x 0) d (i.val / 21) (i.val % 21) := by
  have hz : ∀ o : Fin 128, gather y (ix2 i o) = x (laneImage o) (laneChannel o) (i.val / 21) (i.val % 21) := fun o => by
    rw [gather_at]
    exact hy (by omega) (by omega) o _ (by show 25 * (i.val / 21) + 2 + i.val % 21 = _; omega)
  rw [outA_at, hz, ← inverse_held (gather y) nm hm x i hz 0 d]
  refine congrArg (fun u : EReal => u * _) (pic_congr x ?_ ?_ rfl rfl)
  · show d.val / 64 = 0; omega
  · show d.val % 64 = d.val; omega

theorem outB_held (y : FVec Ideal S525x128 .f32) (nm : Vec Ideal S128x2 .f32) (hm : IsMask nm) (x : Fin 2 → Pic 64)
    (hy : ∀ {r c : ℕ}, r < 21 → c < 21 → ∀ (o : Fin 128) (p : Fin 525), p.val = 25 * r + c + 2 →
      y (ix2 p o) = x (laneImage o) (laneChannel o) r c) (d : Fin 64) (i : Fin 441) :
    outB (gather y) nm (ix3 0 d i) = normed (x 1) d (i.val / 21) (i.val % 21) := by
  have hz : ∀ o : Fin 128, gather y (ix2 i o) = x (laneImage o) (laneChannel o) (i.val / 21) (i.val % 21) := fun o => by
    rw [gather_at]
    exact hy (by omega) (by omega) o _ (by show 25 * (i.val / 21) + 2 + i.val % 21 = _; omega)
  rw [outB_at, hz, ← inverse_held (gather y) nm hm x i hz 1 d]
  refine congrArg (fun u : EReal => u * _) (pic_congr x ?_ ?_ rfl rfl)
  · show (64 + d.val) / 64 = 1; omega
  · show (64 + d.val) % 64 = d.val; omega

end

end Proof.Enc
-- ==== Proof.EncBlock.lean ====
module

public import proofs.«01_k».proof.Proof.Gen.EncodeIdeal.Frame
public import proofs.«01_k».proof.Proof.EncRun
public import proofs.«01_k».proof.Proof.EncPair
public import Idealize.ShloMosaic.Lib.WholeRead

@[expose] public section

/-!
# What one grid point leaves in the result's staging buffer

The normalised features of the block's eight images, pair by pair.
-/

namespace Proof.Enc

open Cert.EncodeIdeal Cert.EncodeIdeal.Gen Idealize.ShloMosaic

noncomputable section

/-- A block of eight images, flattened, with two columns of zeros at each side. -/
def AreImages (x0 : Vec Ideal S8x3x7392 .f32) (X : Fin 8 → Pic 3) : Prop :=
  ∀ (k : Fin 8) (ch : Fin 3) (p : Fin 7392), x0 (ix3 k ch p)
    = if 2 ≤ p.val % 88 ∧ p.val % 88 < 86 then X k ch (p.val / 88) (p.val % 88 - 2) else 0

/-- The later layers' weights. -/
def AreWeights (x2 : Vec Ideal S3x9x128x128 .f32) (W : Fin 3 → Wts 64) : Prop :=
  ∀ (l : Fin 3) (t : Fin 9) (k o : Fin 128), x2 (ix4 l t k o) = if (laneImage k).val = (laneImage o).val then
    W l (laneChannel o) (laneChannel k) ⟨t.val / 3, by omega⟩ ⟨t.val % 3, by omega⟩ else 0

/-- The layers' biases. -/
def AreBiases (x3 : Vec Ideal S4x128 .f32) (B : Fin 4 → Fin 64 → EReal) : Prop :=
  ∀ (l : Fin 4) (o : Fin 128), x3 (ix2 l o) = B l (laneChannel o)

section loads

variable (arg1 : Memref sig .tc .vmem S8x3x7392 .f32) (harg1 : arg1.IsWhole)
  (arg2 : Memref sig .tc .vmem S144x128 .f32) (harg2 : arg2.IsWhole) (arg3 : Memref sig .tc .vmem S3x9x128x128 .f32) (harg3 : arg3.IsWhole)
  (arg4 : Memref sig .tc .vmem S4x128 .f32) (harg4 : arg4.IsWhole) (arg5 : Memref sig .tc .vmem S128x2 .f32) (harg5 : arg5.IsWhole)
  {x0 : Vec Ideal S8x3x7392 .f32} {x1 : Vec Ideal S144x128 .f32} {x2 : Vec Ideal S3x9x128x128 .f32} {x3 : Vec Ideal S4x128 .f32}
  {x4 : Vec Ideal S128x2 .f32}

theorem ldImage_is {X : Fin 8 → Pic 3} (hx : AreImages x0 X) (k : ℕ) (h : k < 8) : IsImage (ldImage arg1 harg1 x0 k h) (X ⟨k, h⟩) := by
  intro ch p
  rw [← hx]
  refine (harg1.readAt_unread _ _ _).trans (congrArg x0 (funext fun a => Fin.ext ?_))
  match a with
  | ⟨0, _⟩ => show k + 1 * 0 = k; omega
  | ⟨1, _⟩ => show 0 + 1 * ch.val = ch.val; omega
  | ⟨2, _⟩ => show 0 + 1 * p.val = p.val; omega

theorem ldFirst_is {W : Wts 3} (hx : IsFirst x1 W) : IsFirst (ldFirst arg2 harg2 x1) W := by
  intro k o
  rw [← hx]
  refine (harg2.readAt_unread _ _ _).trans (congrArg x1 (funext fun a => Fin.ext ?_))
  match a with
  | ⟨0, _⟩ => show 0 + 1 * k.val = k.val; omega
  | ⟨1, _⟩ => show 0 + 1 * o.val = o.val; omega

theorem ldWeight_is {W : Fin 3 → Wts 64} (hx : AreWeights x2 W) (l : ℕ) (h : l < 3) : IsLater (ldWeight arg3 harg3 x2 l h) (W ⟨l, h⟩) := by
  intro t k o
  rw [← hx]
  refine (harg3.readAt_unread _ _ _).trans (congrArg x2 (funext fun a => Fin.ext ?_))
  match a with
  | ⟨0, _⟩ => show l + 1 * 0 = l; omega
  | ⟨1, _⟩ => show t.val + 1 * 0 = t.val; omega
  | ⟨2, _⟩ => show 0 + 1 * k.val = k.val; omega
  | ⟨3, _⟩ => show 0 + 1 * o.val = o.val; omega

theorem ldBias_is {B : Fin 4 → Fin 64 → EReal} (hx : AreBiases x3 B) (l : ℕ) (h : l < 4) : IsBias (ldBias arg4 harg4 x3 l h) (B ⟨l, h⟩) := by
  intro o
  rw [← hx]
  refine (harg4.readAt_unread _ _ _).trans (congrArg x3 (funext fun a => Fin.ext ?_))
  match a with
  | ⟨0, _⟩ => show l + 1 * 0 = l; omega
  | ⟨1, _⟩ => show 0 + 1 * o.val = o.val; omega

theorem ldMask_is (hx : IsMask x4) : IsMask (ldMask arg5 harg5 x4) := by
  intro k h
  rw [← hx]
  refine (harg5.readAt_unread _ _ _).trans (congrArg x4 (funext fun a => Fin.ext ?_))
  match a with
  | ⟨0, _⟩ => show 0 + 1 * k.val = k.val; omega
  | ⟨1, _⟩ => show 0 + 1 * h.val = h.val; omega

end loads

/-- Buffers of zeros. -/
theorem quiet_start : Quiet [⟨Rect.unit (s := S16x7648) ![0, 0] S16x7648.size inb_S16x7648_S16x7648_0_0, k0_pay4 (F := Ideal)⟩]
    [⟨Rect.unit (s := S2128x128) ![0, 0] S2128x128.size inb_S2128x128_S2128x128_0_0, k0_pay5 (F := Ideal)⟩]
    [⟨Rect.unit (s := S589x128) ![0, 0] S589x128.size inb_S589x128_S589x128_0_0, k0_pay6 (F := Ideal)⟩]
    [⟨Rect.unit (s := S589x128) ![0, 0] S589x128.size inb_S589x128_S589x128_0_0, k0_pay7 (F := Ideal)⟩] where
  one := fun r l _ => by
    refine (at2_cons (R := 16) (C := 7648) (n := 16) (m := 7648) _ _ _ r l).trans ?_
    rw [dif_pos (by omega)]
    pointwise [k0_pay4]
  two := fun r l _ => by
    refine (at2_cons (R := 2128) (C := 128) (n := 2128) (m := 128) _ _ _ r l).trans ?_
    rw [dif_pos (by omega)]
    pointwise [k0_pay5]
  three := fun r l _ => by
    refine (at2_cons (R := 589) (C := 128) (n := 589) (m := 128) _ _ _ r l).trans ?_
    rw [dif_pos (by omega)]
    pointwise [k0_pay6]
  four := fun r l _ => by
    refine (at2_cons (R := 589) (C := 128) (n := 589) (m := 128) _ _ _ r l).trans ?_
    rw [dif_pos (by omega)]
    pointwise [k0_pay7]

/-- The result's block: normalised features by image, channel and place. -/
def blockOut (x : Fin 8 → Pic 64) (y : S8x64x441.Idx) : EReal := normed (x (y 0)) (y 1) ((y 2).val / 21) ((y 2).val % 21)

theorem piece_at (x : Fin 8 → Pic 64) (k : ℕ) (h : k < 8) (w : FVec Ideal S1x64x441 .f32)
    (hw : ∀ (d : Fin 64) (i : Fin 441), w (ix3 0 d i) = normed (x ⟨k, h⟩) d (i.val / 21) (i.val % 21)) (z : S1x64x441.Idx) :
    w z = blockOut x ((Rect.unit (s := S8x64x441) ![k, 0, 0] S1x64x441.size (inbOut h)).emb z) := by
  have h0 : (z 0).val < 1 := (z 0).isLt
  have hz : z = ix3 0 (z 1) (z 2) := by
    funext a; apply Fin.ext
    match a with
    | ⟨0, _⟩ => show (z 0).val = 0; omega
    | ⟨1, _⟩ => rfl
    | ⟨2, _⟩ => rfl
  have e0 : (Rect.unit (s := S8x64x441) ![k, 0, 0] S1x64x441.size (inbOut h)).emb z 0 = (⟨k, h⟩ : Fin 8) :=
    Fin.ext (by show k + 1 * (z 0).val = k; omega)
  have e1 : (Rect.unit (s := S8x64x441) ![k, 0, 0] S1x64x441.size (inbOut h)).emb z 1 = (z 1 : Fin 64) :=
    Fin.ext (by show 0 + 1 * (z 1).val = (z 1).val; omega)
  have e2 : (Rect.unit (s := S8x64x441) ![k, 0, 0] S1x64x441.size (inbOut h)).emb z 2 = (z 2 : Fin 441) :=
    Fin.ext (by show 0 + 1 * (z 2).val = (z 2).val; omega)
  refine (congrArg w hz).trans ((hw (z 1) (z 2)).trans ?_)
  unfold blockOut
  rw [e0, e1, e2]

theorem piece_st (x : Fin 8 → Pic 64) (k : ℕ) (h : k < 8) (w : FVec Ideal S1x64x441 .f32)
    (hw : ∀ (d : Fin 64) (i : Fin 441), w (ix3 0 d i) = normed (x ⟨k, h⟩) d (i.val / 21) (i.val % 21)) (z : (stOut k h w).1.shape.Idx) :
    (stOut k h w).2 z = blockOut x ((stOut k h w).1.emb z) := piece_at x k h w hw z

variable (c : Dev nD) (i : grid0.Coords) (arg1 : Memref sig .tc .vmem S8x3x7392 .f32) (harg1 : arg1.IsWhole)
  (arg2 : Memref sig .tc .vmem S144x128 .f32) (harg2 : arg2.IsWhole) (arg3 : Memref sig .tc .vmem S3x9x128x128 .f32) (harg3 : arg3.IsWhole)
  (arg4 : Memref sig .tc .vmem S4x128 .f32) (harg4 : arg4.IsWhole) (arg5 : Memref sig .tc .vmem S128x2 .f32) (harg5 : arg5.IsWhole)
  (arg6 : Memref sig .tc .vmem S8x64x441 .f32) (harg6 : arg6.IsWhole) (arg7 : Memref sig .tc .vmem S16x7648 .f32) (harg7 : arg7.IsWhole)
  (arg8 : Memref sig .tc .vmem S2128x128 .f32) (harg8 : arg8.IsWhole) (arg9 : Memref sig .tc .vmem S589x128 .f32) (harg9 : arg9.IsWhole)
  (arg10 : Memref sig .tc .vmem S589x128 .f32) (harg10 : arg10.IsWhole) (arg11 : Memref sig .tc .vmem S7392x128 .f32) (harg11 : arg11.IsWhole)
  (arg12 : Memref sig .tc .vmem S2016x128 .f32) (harg12 : arg12.IsWhole)
  {x0 : Vec Ideal S8x3x7392 .f32} {x1 : Vec Ideal S144x128 .f32} {x2 : Vec Ideal S3x9x128x128 .f32} {x3 : Vec Ideal S4x128 .f32}
  {x4 : Vec Ideal S128x2 .f32}

variable {X : Fin 8 → Pic 3} {W1 : Wts 3} {W : Fin 3 → Wts 64} {B : Fin 4 → Fin 64 → EReal} (h0 : AreImages x0 X)
  (h1 : IsFirst x1 W1) (h2 : AreWeights x2 W) (h3 : AreBiases x3 B) (h4 : IsMask x4)

include h0 h1 h2 h3

theorem pair_0 : Quiet (kernelRun0_A.sl.HS0_3 (F := Ideal) c arg1 harg1 x0)
      (kernelRun0_A.sl.HS1_43 (F := Ideal) c arg1 harg1 arg2 harg2 arg4 harg4 arg7 arg11 x0 x1 x3)
      (kernelRun0_A.sl.HS2_22 (F := Ideal) c arg1 harg1 arg2 harg2 arg3 harg3 arg4 harg4 arg7 arg8 arg11 arg12 x0 x1 x2 x3)
      (kernelRun0_A.sl.HS3_22 (F := Ideal) c arg1 harg1 arg2 harg2 arg3 harg3 arg4 harg4 arg7 arg8 arg9 arg11 arg12 x0 x1 x2 x3) ∧
    ∀ {r c' : ℕ}, r < 21 → c' < 21 → ∀ (o : Fin 128) (p : Fin 525), p.val = 25 * r + c' + 2 →
      conv3 arg10.view (kernelRun0_A.sl.HS3_22 (F := Ideal) c arg1 harg1 arg2 harg2 arg3 harg3 arg4 harg4 arg7 arg8 arg9 arg11 arg12 x0 x1 x2 x3)
        (ldWeight arg3 harg3 x2 2 (by omega)) (ldBias arg4 harg4 x3 3 (by omega)) (ix2 p o)
        = features (X ⟨0 + (laneImage o).val, by omega⟩) W1 (W 0) (W 1) (W 2) B (laneChannel o) r c' :=
  pair_held arg7.view arg8.view arg9.view arg10.view arg11.view arg12.view (X := fun h => X ⟨0 + h.val, by omega⟩)
    (ldImage_is arg1 harg1 h0 0 (by omega)) (ldImage_is arg1 harg1 h0 1 (by omega)) (ldFirst_is arg2 harg2 h1)
    (ldWeight_is arg3 harg3 h2 0 (by omega)) (ldWeight_is arg3 harg3 h2 1 (by omega)) (ldWeight_is arg3 harg3 h2 2 (by omega))
    (ldBias_is arg4 harg4 h3 0 (by omega)) (ldBias_is arg4 harg4 h3 1 (by omega)) (ldBias_is arg4 harg4 h3 2 (by omega))
    (ldBias_is arg4 harg4 h3 3 (by omega)) quiet_start
    (images_0 c arg1 harg1 x0)
    (first_0 c arg1 harg1 arg2 harg2 arg7 x0 x1)
    (pooled1_0 c arg1 harg1 arg2 harg2 arg4 harg4 arg7 arg11 x0 x1 x3)
    (second_0 c arg1 harg1 arg2 harg2 arg3 harg3 arg4 harg4 arg7 arg8 arg11 x0 x1 x2 x3)
    (pooled2_0 c arg1 harg1 arg2 harg2 arg3 harg3 arg4 harg4 arg7 arg8 arg11 arg12 x0 x1 x2 x3)
    (third_0 c arg1 harg1 arg2 harg2 arg3 harg3 arg4 harg4 arg7 arg8 arg9 arg11 arg12 x0 x1 x2 x3)

theorem pair_1 : Quiet (kernelRun0_A.sl.HS0_5 (F := Ideal) c arg1 harg1 x0)
      (kernelRun0_A.sl.HS1_85 (F := Ideal) c arg1 harg1 arg2 harg2 arg4 harg4 arg7 arg11 x0 x1 x3)
      (kernelRun0_A.sl.HS2_43 (F := Ideal) c arg1 harg1 arg2 harg2 arg3 harg3 arg4 harg4 arg7 arg8 arg11 arg12 x0 x1 x2 x3)
      (kernelRun0_A.sl.HS3_43 (F := Ideal) c arg1 harg1 arg2 harg2 arg3 harg3 arg4 harg4 arg7 arg8 arg9 arg11 arg12 x0 x1 x2 x3) ∧
    ∀ {r c' : ℕ}, r < 21 → c' < 21 → ∀ (o : Fin 128) (p : Fin 525), p.val = 25 * r + c' + 2 →
      conv3 arg10.view (kernelRun0_A.sl.HS3_43 (F := Ideal) c arg1 harg1 arg2 harg2 arg3 harg3 arg4 harg4 arg7 arg8 arg9 arg11 arg12 x0 x1 x2 x3)
        (ldWeight arg3 harg3 x2 2 (by omega)) (ldBias arg4 harg4 x3 3 (by omega)) (ix2 p o)
        = features (X ⟨2 + (laneImage o).val, by omega⟩) W1 (W 0) (W 1) (W 2) B (laneChannel o) r c' :=
  pair_held arg7.view arg8.view arg9.view arg10.view arg11.view arg12.view (X := fun h => X ⟨2 + h.val, by omega⟩)
    (ldImage_is arg1 harg1 h0 2 (by omega)) (ldImage_is arg1 harg1 h0 3 (by omega)) (ldFirst_is arg2 harg2 h1)
    (ldWeight_is arg3 harg3 h2 0 (by omega)) (ldWeight_is arg3 harg3 h2 1 (by omega)) (ldWeight_is arg3 harg3 h2 2 (by omega))
    (ldBias_is arg4 harg4 h3 0 (by omega)) (ldBias_is arg4 harg4 h3 1 (by omega)) (ldBias_is arg4 harg4 h3 2 (by omega))
    (ldBias_is arg4 harg4 h3 3 (by omega)) (pair_0 c arg1 harg1 arg2 harg2 arg3 harg3 arg4 harg4 arg7 arg8 arg9 arg10 arg11 arg12 h0 h1 h2 h3).1
    (images_1 c arg1 harg1 x0)
    (first_1 c arg1 harg1 arg2 harg2 arg7 x0 x1)
    (pooled1_1 c arg1 harg1 arg2 harg2 arg4 harg4 arg7 arg11 x0 x1 x3)
    (second_1 c arg1 harg1 arg2 harg2 arg3 harg3 arg4 harg4 arg7 arg8 arg11 x0 x1 x2 x3)
    (pooled2_1 c arg1 harg1 arg2 harg2 arg3 harg3 arg4 harg4 arg7 arg8 arg11 arg12 x0 x1 x2 x3)
    (third_1 c arg1 harg1 arg2 harg2 arg3 harg3 arg4 harg4 arg7 arg8 arg9 arg11 arg12 x0 x1 x2 x3)

theorem pair_2 : Quiet (kernelRun0_A.sl.HS0_7 (F := Ideal) c arg1 harg1 x0)
      (kernelRun0_A.sl.HS1_127 (F := Ideal) c arg1 harg1 arg2 harg2 arg4 harg4 arg7 arg11 x0 x1 x3)
      (kernelRun0_A.sl.HS2_64 (F := Ideal) c arg1 harg1 arg2 harg2 arg3 harg3 arg4 harg4 arg7 arg8 arg11 arg12 x0 x1 x2 x3)
      (kernelRun0_A.sl.HS3_64 (F := Ideal) c arg1 harg1 arg2 harg2 arg3 harg3 arg4 harg4 arg7 arg8 arg9 arg11 arg12 x0 x1 x2 x3) ∧
    ∀ {r c' : ℕ}, r < 21 → c' < 21 → ∀ (o : Fin 128) (p : Fin 525), p.val = 25 * r + c' + 2 →
      conv3 arg10.view (kernelRun0_A.sl.HS3_64 (F := Ideal) c arg1 harg1 arg2 harg2 arg3 harg3 arg4 harg4 arg7 arg8 arg9 arg11 arg12 x0 x1 x2 x3)
        (ldWeight arg3 harg3 x2 2 (by omega)) (ldBias arg4 harg4 x3 3 (by omega)) (ix2 p o)
        = features (X ⟨4 + (laneImage o).val, by omega⟩) W1 (W 0) (W 1) (W 2) B (laneChannel o) r c' :=
  pair_held arg7.view arg8.view arg9.view arg10.view arg11.view arg12.view (X := fun h => X ⟨4 + h.val, by omega⟩)
    (ldImage_is arg1 harg1 h0 4 (by omega)) (ldImage_is arg1 harg1 h0 5 (by omega)) (ldFirst_is arg2 harg2 h1)
    (ldWeight_is arg3 harg3 h2 0 (by omega)) (ldWeight_is arg3 harg3 h2 1 (by omega)) (ldWeight_is arg3 harg3 h2 2 (by omega))
    (ldBias_is arg4 harg4 h3 0 (by omega)) (ldBias_is arg4 harg4 h3 1 (by omega)) (ldBias_is arg4 harg4 h3 2 (by omega))
    (ldBias_is arg4 harg4 h3 3 (by omega)) (pair_1 c arg1 harg1 arg2 harg2 arg3 harg3 arg4 harg4 arg7 arg8 arg9 arg10 arg11 arg12 h0 h1 h2 h3).1
    (images_2 c arg1 harg1 x0)
    (first_2 c arg1 harg1 arg2 harg2 arg7 x0 x1)
    (pooled1_2 c arg1 harg1 arg2 harg2 arg4 harg4 arg7 arg11 x0 x1 x3)
    (second_2 c arg1 harg1 arg2 harg2 arg3 harg3 arg4 harg4 arg7 arg8 arg11 x0 x1 x2 x3)
    (pooled2_2 c arg1 harg1 arg2 harg2 arg3 harg3 arg4 harg4 arg7 arg8 arg11 arg12 x0 x1 x2 x3)
    (third_2 c arg1 harg1 arg2 harg2 arg3 harg3 arg4 harg4 arg7 arg8 arg9 arg11 arg12 x0 x1 x2 x3)

theorem pair_3 : Quiet (kernelRun0_A.sl.HS0_9 (F := Ideal) c arg1 harg1 x0)
      (kernelRun0_A.sl.HS1_169 (F := Ideal) c arg1 harg1 arg2 harg2 arg4 harg4 arg7 arg11 x0 x1 x3)
      (kernelRun0_A.sl.HS2_85 (F := Ideal) c arg1 harg1 arg2 harg2 arg3 harg3 arg4 harg4 arg7 arg8 arg11 arg12 x0 x1 x2 x3)
      (kernelRun0_A.sl.HS3_85 (F := Ideal) c arg1 harg1 arg2 harg2 arg3 harg3 arg4 harg4 arg7 arg8 arg9 arg11 arg12 x0 x1 x2 x3) ∧
    ∀ {r c' : ℕ}, r < 21 → c' < 21 → ∀ (o : Fin 128) (p : Fin 525), p.val = 25 * r + c' + 2 →
      conv3 arg10.view (kernelRun0_A.sl.HS3_85 (F := Ideal) c arg1 harg1 arg2 harg2 arg3 harg3 arg4 harg4 arg7 arg8 arg9 arg11 arg12 x0 x1 x2 x3)
        (ldWeight arg3 harg3 x2 2 (by omega)) (ldBias arg4 harg4 x3 3 (by omega)) (ix2 p o)
        = features (X ⟨6 + (laneImage o).val, by omega⟩) W1 (W 0) (W 1) (W 2) B (laneChannel o) r c' :=
  pair_held arg7.view arg8.view arg9.view arg10.view arg11.view arg12.view (X := fun h => X ⟨6 + h.val, by omega⟩)
    (ldImage_is arg1 harg1 h0 6 (by omega)) (ldImage_is arg1 harg1 h0 7 (by omega)) (ldFirst_is arg2 harg2 h1)
    (ldWeight_is arg3 harg3 h2 0 (by omega)) (ldWeight_is arg3 harg3 h2 1 (by omega)) (ldWeight_is arg3 harg3 h2 2 (by omega))
    (ldBias_is arg4 harg4 h3 0 (by omega)) (ldBias_is arg4 harg4 h3 1 (by omega)) (ldBias_is arg4 harg4 h3 2 (by omega))
    (ldBias_is arg4 harg4 h3 3 (by omega)) (pair_2 c arg1 harg1 arg2 harg2 arg3 harg3 arg4 harg4 arg7 arg8 arg9 arg10 arg11 arg12 h0 h1 h2 h3).1
    (images_3 c arg1 harg1 x0)
    (first_3 c arg1 harg1 arg2 harg2 arg7 x0 x1)
    (pooled1_3 c arg1 harg1 arg2 harg2 arg4 harg4 arg7 arg11 x0 x1 x3)
    (second_3 c arg1 harg1 arg2 harg2 arg3 harg3 arg4 harg4 arg7 arg8 arg11 x0 x1 x2 x3)
    (pooled2_3 c arg1 harg1 arg2 harg2 arg3 harg3 arg4 harg4 arg7 arg8 arg11 arg12 x0 x1 x2 x3)
    (third_3 c arg1 harg1 arg2 harg2 arg3 harg3 arg4 harg4 arg7 arg8 arg9 arg11 arg12 x0 x1 x2 x3)

include h4

/-- The block after the body. -/
theorem out_apply (y : S8x64x441.Idx) :
    out0_A_5 (F := Ideal) c i arg1 harg1 arg2 harg2 arg3 harg3 arg4 harg4 arg5 harg5 arg6 harg6 arg7 harg7 arg8 harg8 arg9 harg9
      arg10 harg10 arg11 harg11 arg12 harg12 x0 x1 x2 x3 x4 y = blockOut (fun k => features (X k) W1 (W 0) (W 1) (W 2) B) y := by
  have mk := ldMask_is arg5 harg5 h4
  unfold out0_A_5
  rw [View.read_writes_junk_eq_canon]
  refine View.canon_apply_of_pieces (Val := Elt Ideal) (e := .f32)
    (fun y : S8x64x441.Idx => (blockOut (fun k => features (X k) W1 (W 0) (W 1) (W 2) B) y : EReal)) _ ?_ y
    (cover0_A_5 c i arg1 harg1 arg2 harg2 arg3 harg3 arg4 harg4 arg5 harg5 arg6 harg6 arg7 harg7 arg8 harg8 arg9 harg9
      arg10 harg10 arg11 harg11 arg12 harg12 x0 x1 x2 x3 x4 y)
  intro p hp z
  rw [result_eq] at hp
  simp only [List.mem_cons, List.not_mem_nil, or_false] at hp
  rcases hp with rfl | rfl | rfl | rfl | rfl | rfl | rfl | rfl
  · exact piece_st (fun k => features (X k) W1 (W 0) (W 1) (W 2) B) 7 (by omega) _ (outB_held _ _ mk (fun h => features (X ⟨6 + h.val, by omega⟩) W1 (W 0) (W 1) (W 2) B)
      (pair_3 c arg1 harg1 arg2 harg2 arg3 harg3 arg4 harg4 arg7 arg8 arg9 arg10 arg11 arg12 h0 h1 h2 h3).2) z
  · exact piece_st (fun k => features (X k) W1 (W 0) (W 1) (W 2) B) 6 (by omega) _ (outA_held _ _ mk (fun h => features (X ⟨6 + h.val, by omega⟩) W1 (W 0) (W 1) (W 2) B)
      (pair_3 c arg1 harg1 arg2 harg2 arg3 harg3 arg4 harg4 arg7 arg8 arg9 arg10 arg11 arg12 h0 h1 h2 h3).2) z
  · exact piece_st (fun k => features (X k) W1 (W 0) (W 1) (W 2) B) 5 (by omega) _ (outB_held _ _ mk (fun h => features (X ⟨4 + h.val, by omega⟩) W1 (W 0) (W 1) (W 2) B)
      (pair_2 c arg1 harg1 arg2 harg2 arg3 harg3 arg4 harg4 arg7 arg8 arg9 arg10 arg11 arg12 h0 h1 h2 h3).2) z
  · exact piece_st (fun k => features (X k) W1 (W 0) (W 1) (W 2) B) 4 (by omega) _ (outA_held _ _ mk (fun h => features (X ⟨4 + h.val, by omega⟩) W1 (W 0) (W 1) (W 2) B)
      (pair_2 c arg1 harg1 arg2 harg2 arg3 harg3 arg4 harg4 arg7 arg8 arg9 arg10 arg11 arg12 h0 h1 h2 h3).2) z
  · exact piece_st (fun k => features (X k) W1 (W 0) (W 1) (W 2) B) 3 (by omega) _ (outB_held _ _ mk (fun h => features (X ⟨2 + h.val, by omega⟩) W1 (W 0) (W 1) (W 2) B)
      (pair_1 c arg1 harg1 arg2 harg2 arg3 harg3 arg4 harg4 arg7 arg8 arg9 arg10 arg11 arg12 h0 h1 h2 h3).2) z
  · exact piece_st (fun k => features (X k) W1 (W 0) (W 1) (W 2) B) 2 (by omega) _ (outA_held _ _ mk (fun h => features (X ⟨2 + h.val, by omega⟩) W1 (W 0) (W 1) (W 2) B)
      (pair_1 c arg1 harg1 arg2 harg2 arg3 harg3 arg4 harg4 arg7 arg8 arg9 arg10 arg11 arg12 h0 h1 h2 h3).2) z
  · exact piece_st (fun k => features (X k) W1 (W 0) (W 1) (W 2) B) 1 (by omega) _ (outB_held _ _ mk (fun h => features (X ⟨0 + h.val, by omega⟩) W1 (W 0) (W 1) (W 2) B)
      (pair_0 c arg1 harg1 arg2 harg2 arg3 harg3 arg4 harg4 arg7 arg8 arg9 arg10 arg11 arg12 h0 h1 h2 h3).2) z
  · exact piece_st (fun k => features (X k) W1 (W 0) (W 1) (W 2) B) 0 (by omega) _ (outA_held _ _ mk (fun h => features (X ⟨0 + h.val, by omega⟩) W1 (W 0) (W 1) (W 2) B)
      (pair_0 c arg1 harg1 arg2 harg2 arg3 harg3 arg4 harg4 arg7 arg8 arg9 arg10 arg11 arg12 h0 h1 h2 h3).2) z

end

end Proof.Enc
-- ==== Proof.EncHost.lean ====
module

public import proofs.«01_k».proof.Proof.EncBlock
public import Idealize.ShloMosaic.Lib.StableHlo.ReadAt

@[expose] public section

/-!
# The arrays that the encoder call reads

The host operations put the images one after the other, take the scales into the weights and biases, lay the weights out in two diagonal blocks, one per image of a pair, repeat the biases, write
the mask that sums over an image's lanes, and put two columns of zeros at each side of every image.
-/

namespace Proof.Enc

open Cert.EncodeIdeal Cert.EncodeIdeal.Gen Idealize.ShloMosaic Idealize.SL.Sem

noncomputable section

variable (m : (b : Loc nD τ sig) → Buf (Elt Ideal) b) (c : Dev nD)

/-- The query images and the support images one after the other. -/
def batch (q : S2x15x3x84x84.Idx → EReal) (s : S2x5x5x3x84x84.Idx → EReal) : S80x3x84x84.Idx → EReal :=
  concatenate S80x3x84x84 0 [⟨S30x3x84x84, shapeCast S30x3x84x84 q shapeCasts_S2x15x3x84x84_S30x3x84x84⟩,
    ⟨S50x3x84x84, shapeCast S50x3x84x84 s shapeCasts_S2x5x5x3x84x84_S50x3x84x84⟩] concatenates_S30x3x84x84_S50x3x84x84_S80x3x84x84_d0

/-- The first layer's weights times the scales of their output channels. -/
def scaled1 (w : S64x3x3x3.Idx → EReal) (g : S64.Idx → EReal) : S64x3x3x3.Idx → EReal :=
  mulf (F := Ideal) (φ := .f32) w (broadcastInDim S64x3x3x3 ![0, 1, 2, 3] bcast_S64x1x1x1_S64x3x3x3_0_1_2_3
    (broadcastInDim S64x1x1x1 ![0] bcast_S64_S64x1x1x1_0 g))

/-- A later layer's weights times the scales of their output channels. -/
def scaled (w : S64x64x3x3.Idx → EReal) (g : S64.Idx → EReal) : S64x64x3x3.Idx → EReal :=
  mulf (F := Ideal) (φ := .f32) w (broadcastInDim S64x64x3x3 ![0, 1, 2, 3] bcast_S64x1x1x1_S64x64x3x3_0_1_2_3
    (broadcastInDim S64x1x1x1 ![0] bcast_S64_S64x1x1x1_0 g))

/-- A layer's biases times its scales, and its shifts added. -/
def shifted (b g t : S64.Idx → EReal) : S64.Idx → EReal := addf (F := Ideal) (φ := .f32) (mulf (F := Ideal) (φ := .f32) b g) t

/-- The images. -/
def argX : S80x3x84x84.Idx → EReal := batch (m ((c.tc : Thread nD τ).loc main_arg0)) (m ((c.tc : Thread nD τ).loc main_arg1))
/-- The first layer's weights with its scales taken in. -/
def argW1 : S64x3x3x3.Idx → EReal := scaled1 (m ((c.tc : Thread nD τ).loc main_arg2)) (m ((c.tc : Thread nD τ).loc main_arg4))
/-- The second layer's weights with its scales taken in. -/
def argW2 : S64x64x3x3.Idx → EReal := scaled (m ((c.tc : Thread nD τ).loc main_arg6)) (m ((c.tc : Thread nD τ).loc main_arg8))
/-- The third layer's weights with its scales taken in. -/
def argW3 : S64x64x3x3.Idx → EReal := scaled (m ((c.tc : Thread nD τ).loc main_arg10)) (m ((c.tc : Thread nD τ).loc main_arg12))
/-- The fourth layer's weights with its scales taken in. -/
def argW4 : S64x64x3x3.Idx → EReal := scaled (m ((c.tc : Thread nD τ).loc main_arg14)) (m ((c.tc : Thread nD τ).loc main_arg16))
/-- The first layer's biases with its scales and shifts taken in. -/
def argB1 : S64.Idx → EReal := shifted (m ((c.tc : Thread nD τ).loc main_arg3)) (m ((c.tc : Thread nD τ).loc main_arg4)) (m ((c.tc : Thread nD τ).loc main_arg5))
/-- The second layer's biases with its scales and shifts taken in. -/
def argB2 : S64.Idx → EReal := shifted (m ((c.tc : Thread nD τ).loc main_arg7)) (m ((c.tc : Thread nD τ).loc main_arg8)) (m ((c.tc : Thread nD τ).loc main_arg9))
/-- The third layer's biases with its scales and shifts taken in. -/
def argB3 : S64.Idx → EReal := shifted (m ((c.tc : Thread nD τ).loc main_arg11)) (m ((c.tc : Thread nD τ).loc main_arg12)) (m ((c.tc : Thread nD τ).loc main_arg13))
/-- The fourth layer's biases with its scales and shifts taken in. -/
def argB4 : S64.Idx → EReal := shifted (m ((c.tc : Thread nD τ).loc main_arg15)) (m ((c.tc : Thread nD τ).loc main_arg16)) (m ((c.tc : Thread nD τ).loc main_arg17))

/-- The images with two columns of zeros at each side, each flattened. -/
theorem images_eq : (V m c main_v56 : S80x3x7392.Idx → EReal)
    = shapeCast S80x3x7392 (Idealize.ShloMosaic.pad S80x3x84x88 ![0, 0, 0, 2] ![0, 0, 0, 2] ![0, 0, 0, 0] (argX m c) (sitofp (F := Ideal) .f32 (constantI S_ 32 0#32))
        pads_S80x3x84x84_S80x3x84x88_000_000_000_220 h_S_) shapeCasts_S80x3x84x88_S80x3x7392 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

theorem first_eq : (V m c main_v11 : S144x128.Idx → EReal)
    = shapeCast S144x128 (concatenate S9x16x128 1 [
        ⟨S9x8x128, Idealize.ShloMosaic.pad S9x8x128 ![0, 0, 0] ![0, 0, 64] ![0, 0, 0] (Idealize.ShloMosaic.pad S9x8x64 ![0, 0, 0] ![0, 5, 0] ![0, 0, 0]
          (shapeCast S9x3x64 (transpose S3x3x3x64 [2, 3, 1, 0] (argW1 m c) transposes_S64x3x3x3_S3x3x3x64_2_3_1_0) shapeCasts_S3x3x3x64_S9x3x64)
          (sitofp (F := Ideal) .f32 (constantI S_ 32 0#32)) pads_S9x3x64_S9x8x64_000_050_000 h_S_)
          (sitofp (F := Ideal) .f32 (constantI S_ 32 0#32)) pads_S9x8x64_S9x8x128_000_000_0640 h_S_⟩,
        ⟨S9x8x128, Idealize.ShloMosaic.pad S9x8x128 ![0, 0, 64] ![0, 0, 0] ![0, 0, 0] (Idealize.ShloMosaic.pad S9x8x64 ![0, 0, 0] ![0, 5, 0] ![0, 0, 0]
          (shapeCast S9x3x64 (transpose S3x3x3x64 [2, 3, 1, 0] (argW1 m c) transposes_S64x3x3x3_S3x3x3x64_2_3_1_0) shapeCasts_S3x3x3x64_S9x3x64)
          (sitofp (F := Ideal) .f32 (constantI S_ 32 0#32)) pads_S9x3x64_S9x8x64_000_050_000 h_S_)
          (sitofp (F := Ideal) .f32 (constantI S_ 32 0#32)) pads_S9x8x64_S9x8x128_000_000_6400 h_S_⟩]
        concatenates_S9x8x128_S9x8x128_S9x16x128_d1) shapeCasts_S9x16x128_S144x128 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- A later layer's weights as a stack of nine matrices. -/
def taps (w : S64x64x3x3.Idx → EReal) : S1x9x64x64.Idx → EReal :=
  broadcastInDim S1x9x64x64 ![1, 2, 3] bcast_S9x64x64_S1x9x64x64_1_2_3 (shapeCast S9x64x64
    (transpose S3x3x64x64 [2, 3, 1, 0] w transposes_S64x64x3x3_S3x3x64x64_2_3_1_0) shapeCasts_S3x3x64x64_S9x64x64)

/-- The three later layers' weights. -/
def stack (w2 w3 w4 : S64x64x3x3.Idx → EReal) : S3x9x64x64.Idx → EReal :=
  concatenate S3x9x64x64 0 [⟨S1x9x64x64, taps w2⟩, ⟨S1x9x64x64, taps w3⟩, ⟨S1x9x64x64, taps w4⟩]
    concatenates_S1x9x64x64_S1x9x64x64_S1x9x64x64_S3x9x64x64_d0

/-- Zeros of the same shape. -/
def nought : S3x9x64x64.Idx → EReal := broadcastInDim S3x9x64x64 ![] bcast_S_S3x9x64x64 (constant (F := Ideal) S_ .f32 0x00000000#32)

theorem later_eq : (V m c main_v40 : S3x9x128x128.Idx → EReal)
    = concatenate S3x9x128x128 2 [
        ⟨S3x9x64x128, concatenate S3x9x64x128 3 [⟨S3x9x64x64, stack (argW2 m c) (argW3 m c) (argW4 m c)⟩, ⟨S3x9x64x64, nought⟩]
          concatenates_S3x9x64x64_S3x9x64x64_S3x9x64x128_d3⟩,
        ⟨S3x9x64x128, concatenate S3x9x64x128 3 [⟨S3x9x64x64, nought⟩, ⟨S3x9x64x64, stack (argW2 m c) (argW3 m c) (argW4 m c)⟩]
          concatenates_S3x9x64x64_S3x9x64x64_S3x9x64x128_d3⟩] concatenates_S3x9x64x128_S3x9x64x128_S3x9x128x128_d2 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- The four layers' biases. -/
def rows (b1 b2 b3 b4 : S64.Idx → EReal) : S4x64.Idx → EReal :=
  concatenate S4x64 0 [⟨S1x64, broadcastInDim S1x64 ![1] bcast_S64_S1x64_1 b1⟩, ⟨S1x64, broadcastInDim S1x64 ![1] bcast_S64_S1x64_1 b2⟩,
    ⟨S1x64, broadcastInDim S1x64 ![1] bcast_S64_S1x64_1 b3⟩, ⟨S1x64, broadcastInDim S1x64 ![1] bcast_S64_S1x64_1 b4⟩]
    concatenates_S1x64_S1x64_S1x64_S1x64_S4x64_d0

theorem biases_eq : (V m c main_v46 : S4x128.Idx → EReal)
    = concatenate S4x128 1 [⟨S4x64, rows (argB1 m c) (argB2 m c) (argB3 m c) (argB4 m c)⟩,
        ⟨S4x64, rows (argB1 m c) (argB2 m c) (argB3 m c) (argB4 m c)⟩] concatenates_S4x64_S4x64_S4x128_d1 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-- A column of ones. -/
def ones : S64x1.Idx → EReal := broadcastInDim S64x1 ![] bcast_S_S64x1 (constant (F := Ideal) S_ .f32 0x3F800000#32)

/-- A column of zeros. -/
def zeros : S64x1.Idx → EReal := broadcastInDim S64x1 ![] bcast_S_S64x1 (constant (F := Ideal) S_ .f32 0x00000000#32)

theorem mask_eq : (V m c main_v51 : S128x2.Idx → EReal)
    = concatenate S128x2 0 [⟨S64x2, concatenate S64x2 1 [⟨S64x1, ones⟩, ⟨S64x1, zeros⟩] concatenates_S64x1_S64x1_S64x2_d1⟩,
        ⟨S64x2, concatenate S64x2 1 [⟨S64x1, zeros⟩, ⟨S64x1, ones⟩] concatenates_S64x1_S64x1_S64x2_d1⟩]
        concatenates_S64x2_S64x2_S128x2_d0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results <;> rfl

end

end Proof.Enc
-- ==== Proof.EncArrays.lean ====
module

public import proofs.«01_k».proof.Proof.EncSpec

@[expose] public section

/-!
# The encoder's arguments as pictures and weights

Kernel and reference are compared as functions of these.
-/

namespace Proof.Enc

open Idealize.ShloMosaic

noncomputable section

/-- Picture `n` of an array of square pictures. -/
def imageOf {N C H : ℕ} (a : (⟨4, ![N, C, H, H]⟩ : Shape).Idx → EReal) (n : Fin N) : Pic C := fun ch r c =>
  if h : r < H ∧ c < H then a (ix4 n ch ⟨r, h.1⟩ ⟨c, h.2⟩) else 0

theorem imageOf_at {N C H : ℕ} (a : (⟨4, ![N, C, H, H]⟩ : Shape).Idx → EReal) (n : Fin N) (ch : Fin C) (r c : ℕ) (hr : r < H) (hc : c < H) :
    imageOf a n ch r c = a (ix4 n ch ⟨r, hr⟩ ⟨c, hc⟩) := dif_pos ⟨hr, hc⟩

/-- An array of weights by output channel, input channel, row and column of the window. -/
def weightsOf {C : ℕ} (w : (⟨4, ![64, C, 3, 3]⟩ : Shape).Idx → EReal) : Fin 64 → Fin C → Fin 3 → Fin 3 → EReal := fun o ch i j => w (ix4 o ch i j)

/-- An array of biases by channel. -/
def biasOf (b : (⟨1, ![64]⟩ : Shape).Idx → EReal) : Fin 64 → EReal := fun o => b (ix1 o)

/-- A layer as the reference computes it: the convolution with its biases times the scales, and the shifts added. -/
def scaledLayer (H : ℕ) {C : ℕ} (x : Pic C) (w : Fin 64 → Fin C → Fin 3 → Fin 3 → EReal) (b g t : Fin 64 → EReal) : Pic 64 :=
  fun o r c => leaky ((conv (pad H x) (w o) r c + b o) * g o + t o)

/-- Such a layer that halves the size of the picture. -/
def scaledPool (H : ℕ) {C : ℕ} (x : Pic C) (w : Fin 64 → Fin C → Fin 3 → Fin 3 → EReal) (b g t : Fin 64 → EReal) : Pic 64 :=
  fun o => pool (scaledLayer H x w b g t o)

/-- The integer zero made a float. -/
theorem sitofp_nought : (FloatOps.sitofp FTy.f32 0#32 : Ideal .f32) = (0 : EReal) := by
  simp [FloatOps.sitofp]

end

end Proof.Enc
-- ==== Proof.EncHostRead.lean ====
module

public import proofs.«01_k».proof.Proof.EncHost
public import proofs.«01_k».proof.Proof.EncArrays

@[expose] public section

/-!
# What the arrays of the encoder call hold
-/

namespace Proof.Enc

open Cert.EncodeIdeal Cert.EncodeIdeal.Gen Idealize.ShloMosaic Idealize.SL.Sem

noncomputable section

variable (m : (b : Loc nD τ sig) → Buf (Elt Ideal) b) (c : Dev nD)

/-- A weight by the numbers of its channels and its place in the window. -/
theorem wts_congr_of {C : ℕ} (w : Wts C) {o o' : Fin 64} {k k' : Fin C} {i i' j j' : Fin 3} (e0 : o.val = o'.val) (e1 : k.val = k'.val)
    (e2 : i.val = i'.val) (e3 : j.val = j'.val) : w o k i j = w o' k' i' j' := by
  obtain rfl := Fin.ext e0; exact wts_congr (w o) e1 e2 e3

theorem wts_congr_at {C : ℕ} (a : (⟨4, ![64, C, 3, 3]⟩ : Shape).Idx → EReal) {o o' : Fin 64} {k k' : Fin C} {i i' j j' : Fin 3} (e0 : o.val = o'.val)
    (e1 : k.val = k'.val) (e2 : i.val = i'.val) (e3 : j.val = j'.val) : a (ix4 o k i j) = weightsOf a o' k' i' j' :=
  wts_congr_of (weightsOf a) e0 e1 e2 e3

theorem images_at (n : Fin 80) (ch : Fin 3) (p : Fin 7392) : (V m c main_v56 : S80x3x7392.Idx → EReal) (ix3 n ch p)
    = if 2 ≤ p.val % 88 ∧ p.val % 88 < 86 then imageOf (argX m c) n ch (p.val / 88) (p.val % 88 - 2) else 0 := by
  rw [images_eq]
  generalize argX m c = a
  pointwise
  by_cases h : 2 ≤ p.val % 88 ∧ p.val % 88 < 86
  · rw [dif_pos (by omega), if_pos h, imageOf_at a n ch _ _ (by omega) (by omega)]
  · rw [dif_neg (by omega), if_neg h]; exact sitofp_nought

/-- A row of the first layer's matrix: which image of the pair it serves, and whether it holds a channel. -/
theorem first_cases (t q o : ℕ) (ht : t < 9 ∧ q < 16 ∧ o < 128) (z : EReal) (hz : z = 0)
    (ga : q < 8 → t < 9 ∧ q < 8 ∧ o < 64 → t < 9 ∧ q < 3 ∧ o < 64 → EReal)
    (gb : ¬ q < 8 → t < 9 ∧ q - 8 < 8 ∧ 64 ≤ o ∧ o - 64 < 64 → t < 9 ∧ q - 8 < 3 ∧ o - 64 < 64 → EReal)
    {w : q / 8 = o / 64 ∧ q % 8 < 3 → EReal} (ha : ∀ h h1 h2 k, ga h h1 h2 = w k) (hb : ∀ h h1 h2 k, gb h h1 h2 = w k) :
    (if h : q < 8 then
      if h1 : t < 9 ∧ q < 8 ∧ o < 64 then if h2 : t < 9 ∧ q < 3 ∧ o < 64 then ga h h1 h2 else z else z
    else if h1 : t < 9 ∧ q - 8 < 8 ∧ 64 ≤ o ∧ o - 64 < 64 then
      if h2 : t < 9 ∧ q - 8 < 3 ∧ o - 64 < 64 then gb h h1 h2 else z else z) = if k : q / 8 = o / 64 ∧ q % 8 < 3 then w k else 0 := by
  subst hz
  by_cases k : q / 8 = o / 64 ∧ q % 8 < 3
  · rw [dif_pos k]
    by_cases h : q < 8
    · rw [dif_pos h, dif_pos (by omega), dif_pos (by omega)]; exact ha _ _ _ k
    · rw [dif_neg h, dif_pos (by omega), dif_pos (by omega)]; exact hb _ _ _ k
  · rw [dif_neg k]
    by_cases h : q < 8
    · rw [dif_pos h]
      by_cases h1 : t < 9 ∧ q < 8 ∧ o < 64
      · rw [dif_pos h1, dif_neg (by omega)]
      · rw [dif_neg h1]
    · rw [dif_neg h]
      by_cases h1 : t < 9 ∧ q - 8 < 8 ∧ 64 ≤ o ∧ o - 64 < 64
      · rw [dif_pos h1, dif_neg (by omega)]
      · rw [dif_neg h1]

theorem first_at : IsFirst (V m c main_v11 : S144x128.Idx → EReal) (weightsOf (argW1 m c)) := by
  intro k o
  rw [first_eq]
  generalize argW1 m c = a
  pointwise
  exact first_cases _ _ _ (by omega) _ sitofp_nought _ _
    (fun h h1 h2 q => wts_congr_at a (show o.val = o.val % 64 by omega) (show k.val % 16 = k.val % 16 % 8 by omega) rfl rfl)
    (fun h h1 h2 q => wts_congr_at a (show o.val - 64 = o.val % 64 by omega) (show k.val % 16 - 8 = k.val % 16 % 8 by omega) rfl rfl)

theorem taps_at (w : S64x64x3x3.Idx → EReal) (t : Fin 9) (k o : Fin 64) : taps w (ix4 0 t k o)
    = weightsOf w o k ⟨t.val / 3, by omega⟩ ⟨t.val % 3, by omega⟩ := by
  pointwise [taps]
  rfl

theorem stack_at (w2 w3 w4 : S64x64x3x3.Idx → EReal) (l : Fin 3) (t : Fin 9) (k o : Fin 64) : stack w2 w3 w4 (ix4 l t k o)
    = (![weightsOf w2, weightsOf w3, weightsOf w4] : Fin 3 → Wts 64) l o k ⟨t.val / 3, by omega⟩ ⟨t.val % 3, by omega⟩ := by
  pointwise [stack]
  match l with
  | ⟨0, _⟩ => exact taps_at w2 t k o
  | ⟨1, _⟩ => exact taps_at w3 t k o
  | ⟨2, _⟩ => exact taps_at w4 t k o

theorem nought_at (l : Fin 3) (t : Fin 9) (k o : Fin 64) : nought (ix4 l t k o) = 0 := by
  pointwise [nought]

theorem later_at : AreWeights (V m c main_v40 : S3x9x128x128.Idx → EReal)
    ![weightsOf (argW2 m c), weightsOf (argW3 m c), weightsOf (argW4 m c)] := by
  intro l t k o
  rw [later_eq]
  generalize argW2 m c = w2
  generalize argW3 m c = w3
  generalize argW4 m c = w4
  pointwise
  simp only [stack_at, nought_at]
  by_cases hk : k.val < 64 <;> by_cases ho : o.val < 64
  · rw [dif_pos hk, dif_pos ho, if_pos (by omega)]
    exact wts_congr_of _ (show o.val = o.val % 64 by omega) (show k.val = k.val % 64 by omega) rfl rfl
  · rw [dif_pos hk, dif_neg ho, if_neg (by omega)]
  · rw [dif_neg hk, dif_pos ho, if_neg (by omega)]
  · rw [dif_neg hk, dif_neg ho]
    refine Eq.trans ?_ (if_pos (by omega)).symm
    exact wts_congr_of _ (show o.val - 64 = o.val % 64 by omega) (show k.val - 64 = k.val % 64 by omega) rfl rfl

theorem rows_at (b1 b2 b3 b4 : S64.Idx → EReal) (l : Fin 4) (o : Fin 64) : rows b1 b2 b3 b4 (ix2 l o)
    = (![biasOf b1, biasOf b2, biasOf b3, biasOf b4] : Fin 4 → Fin 64 → EReal) l o := by
  pointwise [rows]
  match l with
  | ⟨0, _⟩ => rfl
  | ⟨1, _⟩ => rfl
  | ⟨2, _⟩ => rfl
  | ⟨3, _⟩ => rfl

theorem biases_at : AreBiases (V m c main_v46 : S4x128.Idx → EReal)
    ![biasOf (argB1 m c), biasOf (argB2 m c), biasOf (argB3 m c), biasOf (argB4 m c)] := by
  intro l o
  rw [biases_eq]
  pointwise
  simp only [rows_at]
  by_cases ho : o.val < 64
  · rw [dif_pos ho]
    exact congrArg _ (Fin.ext (show o.val = o.val % 64 by omega))
  · rw [dif_neg ho]
    exact congrArg _ (Fin.ext (show o.val - 64 = o.val % 64 by omega))

theorem mask_at : IsMask (V m c main_v51 : S128x2.Idx → EReal) := by
  intro k h
  rw [mask_eq]
  pointwise [ones, zeros]
  by_cases hk : k.val < 64 <;> by_cases hh : h.val < 1
  · rw [dif_pos hk, dif_pos hh, if_pos (by omega)]
  · rw [dif_pos hk, dif_neg hh, if_neg (by omega)]
  · rw [dif_neg hk, dif_pos hh, if_neg (by omega)]
  · rw [dif_neg hk, dif_neg hh, if_pos (by omega)]

end

end Proof.Enc
-- ==== Proof.EncArray.lean ====
module

public import proofs.«01_k».proof.Proof.EncHostRead
public import proofs.«01_k».proof.Proof.Gen.EncodeIdeal.Frame
public import Idealize.ShloMosaic.Lib.Pipeline.Value

@[expose] public section

/-!
# The encoder's result array

Each of the ten grid points encodes eight images; the ten blocks tile the result.
-/

namespace Proof.Enc

open Cert.EncodeIdeal Cert.EncodeIdeal.Gen Idealize.ShloMosaic Idealize.SL.Sem

noncomputable section

variable (m : (b : Loc nD τ sig) → Buf (Elt Ideal) b) (c : Dev nD)

theorem points (t : Fin cfg0.N) : t.val < 10 := t.isLt

/-- Point `t` takes the images from `8 t` … -/
theorem index0 (t : Fin cfg0.N) : win0_0.index t (0 : Fin 3) = t.val ∧ win0_0.index t (1 : Fin 3) = 0 ∧ win0_0.index t (2 : Fin 3) = 0 := by
  revert t; decide +kernel

/-- … and the whole of the other arrays … -/
theorem index1 (t : Fin cfg0.N) : win0_1.index t (0 : Fin 2) = 0 ∧ win0_1.index t (1 : Fin 2) = 0 := by
  revert t; decide +kernel

theorem index2 (t : Fin cfg0.N) : win0_2.index t (0 : Fin 4) = 0 ∧ win0_2.index t (1 : Fin 4) = 0 ∧ win0_2.index t (2 : Fin 4) = 0
    ∧ win0_2.index t (3 : Fin 4) = 0 := by
  revert t; decide +kernel

theorem index3 (t : Fin cfg0.N) : win0_3.index t (0 : Fin 2) = 0 ∧ win0_3.index t (1 : Fin 2) = 0 := by
  revert t; decide +kernel

theorem index4 (t : Fin cfg0.N) : win0_4.index t (0 : Fin 2) = 0 ∧ win0_4.index t (1 : Fin 2) = 0 := by
  revert t; decide +kernel

/-- … and writes rows from `8 t` of the result. -/
theorem index5 (t : Fin cfg0.N) : win0_5.index t (0 : Fin 3) = t.val ∧ win0_5.index t (1 : Fin 3) = 0 ∧ win0_5.index t (2 : Fin 3) = 0 := by
  revert t; decide +kernel

/-- The images of point `t`. -/
theorem block_images (t : Fin cfg0.N) : AreImages (iblk m c 0 t : S8x3x7392.Idx → EReal)
    (fun k => imageOf (argX m c) ⟨8 * t.val + k.val, by have := points t; omega⟩) := by
  intro k ch p
  obtain ⟨e0, e1, e2⟩ := index0 t
  refine Eq.trans ?_ (images_at m c ⟨8 * t.val + k.val, by have := points t; omega⟩ ch p)
  refine congrArg (V m c main_v56 : S80x3x7392.Idx → EReal) (funext fun a => Fin.ext ?_)
  match a with
  | ⟨0, _⟩ => show win0_0.index t (0 : Fin 3) * 8 + 1 * k.val = 8 * t.val + k.val; omega
  | ⟨1, _⟩ => show win0_0.index t (1 : Fin 3) * 3 + 1 * ch.val = ch.val; omega
  | ⟨2, _⟩ => show win0_0.index t (2 : Fin 3) * 7392 + 1 * p.val = p.val; omega

theorem block_first (t : Fin cfg0.N) : IsFirst (iblk m c 1 t : S144x128.Idx → EReal) (weightsOf (argW1 m c)) := by
  intro k o
  obtain ⟨e0, e1⟩ := index1 t
  refine Eq.trans ?_ (first_at m c k o)
  refine congrArg (V m c main_v11 : S144x128.Idx → EReal) (funext fun a => Fin.ext ?_)
  match a with
  | ⟨0, _⟩ => show win0_1.index t (0 : Fin 2) * 144 + 1 * k.val = k.val; omega
  | ⟨1, _⟩ => show win0_1.index t (1 : Fin 2) * 128 + 1 * o.val = o.val; omega

theorem block_weights (t : Fin cfg0.N) : AreWeights (iblk m c 2 t : S3x9x128x128.Idx → EReal)
    ![weightsOf (argW2 m c), weightsOf (argW3 m c), weightsOf (argW4 m c)] := by
  intro l n k o
  obtain ⟨e0, e1, e2, e3⟩ := index2 t
  refine Eq.trans ?_ (later_at m c l n k o)
  refine congrArg (V m c main_v40 : S3x9x128x128.Idx → EReal) (funext fun a => Fin.ext ?_)
  match a with
  | ⟨0, _⟩ => show win0_2.index t (0 : Fin 4) * 3 + 1 * l.val = l.val; omega
  | ⟨1, _⟩ => show win0_2.index t (1 : Fin 4) * 9 + 1 * n.val = n.val; omega
  | ⟨2, _⟩ => show win0_2.index t (2 : Fin 4) * 128 + 1 * k.val = k.val; omega
  | ⟨3, _⟩ => show win0_2.index t (3 : Fin 4) * 128 + 1 * o.val = o.val; omega

theorem block_biases (t : Fin cfg0.N) : AreBiases (iblk m c 3 t : S4x128.Idx → EReal)
    ![biasOf (argB1 m c), biasOf (argB2 m c), biasOf (argB3 m c), biasOf (argB4 m c)] := by
  intro l o
  obtain ⟨e0, e1⟩ := index3 t
  refine Eq.trans ?_ (biases_at m c l o)
  refine congrArg (V m c main_v46 : S4x128.Idx → EReal) (funext fun a => Fin.ext ?_)
  match a with
  | ⟨0, _⟩ => show win0_3.index t (0 : Fin 2) * 4 + 1 * l.val = l.val; omega
  | ⟨1, _⟩ => show win0_3.index t (1 : Fin 2) * 128 + 1 * o.val = o.val; omega

theorem block_mask (t : Fin cfg0.N) : IsMask (iblk m c 4 t : S128x2.Idx → EReal) := by
  intro k h
  obtain ⟨e0, e1⟩ := index4 t
  refine Eq.trans ?_ (mask_at m c k h)
  refine congrArg (V m c main_v51 : S128x2.Idx → EReal) (funext fun a => Fin.ext ?_)
  match a with
  | ⟨0, _⟩ => show win0_4.index t (0 : Fin 2) * 128 + 1 * k.val = k.val; omega
  | ⟨1, _⟩ => show win0_4.index t (1 : Fin 2) * 2 + 1 * h.val = h.val; omega

/-- The features of image `n`. -/
def featuresAt (n : Fin 80) : Pic 64 :=
  features (imageOf (argX m c) n) (weightsOf (argW1 m c)) (weightsOf (argW2 m c)) (weightsOf (argW3 m c)) (weightsOf (argW4 m c))
    ![biasOf (argB1 m c), biasOf (argB2 m c), biasOf (argB3 m c), biasOf (argB4 m c)]

/-- The result: at image `n`, channel `d` and place `i`, the normalised feature. -/
def G : S80x64x441.Idx → EReal := fun i => normed (featuresAt m c (i 0)) (i 1) ((i 2).val / 21) ((i 2).val % 21)

theorem normed_congr {n n' : Fin 80} {d d' : Fin 64} {i i' : ℕ} (e0 : n.val = n'.val) (e1 : d.val = d'.val) (e2 : i = i') :
    normed (featuresAt m c n) d (i / 21) (i % 21) = normed (featuresAt m c n') d' (i' / 21) (i' % 21) := by
  obtain rfl := Fin.ext e0; obtain rfl := Fin.ext e1; subst e2; rfl

theorem outs_at (t : Fin cfg0.N) (y : S8x64x441.Idx) : (outsAt0 (F := Ideal) m c t : S8x64x441.Idx → EReal) y
    = normed (featuresAt m c ⟨8 * t.val + (y 0).val, by have := points t; have h : (y 0).val < 8 := (y 0).isLt; omega⟩) (y 1) ((y 2).val / 21) ((y 2).val % 21) := by
  unfold outsAt0
  exact out_apply c (grid0.coords t) _ _ _ _ _ _ _ _ _ _ _ _ _ _ _ _ _ _ _ _ _ _ _ _
    (block_images m c t) (block_first m c t) (block_weights m c t) (block_biases m c t) (block_mask m c t) y

theorem flushed5 (t : Fin cfg0.N) : (dats m 0 c).flushed 5 t = (cfg0.win 5).cut (grid0.coords t) (outsAt0 (F := Ideal) m c t) := by
  show (cfg0.win 5).cut (grid0.coords t) ((dats m 0 c).after 5 t) = _
  rw [after0_5]

/-- What point `t` writes back is its block of the result. -/
theorem flushed_eq (t : Fin cfg0.N) : (dats m 0 c).flushed 5 t = ((cfg0.win 5).blk t).view.read (Elt Ideal) (G m c) := by
  rw [flushed5]
  obtain ⟨e0, e1, e2⟩ := index5 t
  funext j
  have h0 : (j (0 : Fin 3)).val < 8 := (j (0 : Fin 3)).isLt
  have h1 : (j (1 : Fin 3)).val < 64 := (j (1 : Fin 3)).isLt
  have h2 : (j (2 : Fin 3)).val < 441 := (j (2 : Fin 3)).isLt
  have ht := points t
  refine (outs_at m c t j).trans ?_
  show _ = normed (featuresAt m c _) _ (_ / 21) (_ % 21)
  refine normed_congr m c ?_ ?_ ?_
  · show 8 * t.val + (j (0 : Fin 3)).val = win0_5.index t (0 : Fin 3) * 8 + 1 * (j (0 : Fin 3)).val; omega
  · show (j (1 : Fin 3)).val = win0_5.index t (1 : Fin 3) * 64 + 1 * (j (1 : Fin 3)).val; omega
  · show (j (2 : Fin 3)).val = win0_5.index t (2 : Fin 3) * 441 + 1 * (j (2 : Fin 3)).val; omega

/-- Every index of the result is in the block of the point of its image. -/
theorem covered (i : S80x64x441.Idx) : ∃ t : Fin cfg0.N, (cfg0.win 5).flush t = true ∧ i ∈ ((cfg0.win 5).blk t).view.set := by
  have h0 : (i 0).val < 80 := (i 0).isLt
  have h1 : (i 1).val < 64 := (i 1).isLt
  have h2 : (i 2).val < 441 := (i 2).isLt
  have ht : (i 0).val / 8 < 10 := by omega
  refine ⟨⟨(i 0).val / 8, ht⟩, flush0_5 _, ?_⟩
  obtain ⟨e0, e1, e2⟩ := index5 ⟨(i 0).val / 8, ht⟩
  show i ∈ ((View.whole main_v57).slice (win0_5.rect ⟨(i 0).val / 8, ht⟩)).set
  rw [View.set_slice_whole, Rect.mem_set_unit]
  intro a
  match a with
  | ⟨0, _⟩ => show win0_5.index ⟨(i 0).val / 8, ht⟩ (0 : Fin 3) * 8 ≤ (i 0).val ∧ (i 0).val < win0_5.index ⟨(i 0).val / 8, ht⟩ (0 : Fin 3) * 8 + 8; rw [e0]; show (i 0).val / 8 * 8 ≤ _ ∧ _ < (i 0).val / 8 * 8 + 8; omega
  | ⟨1, _⟩ => show win0_5.index ⟨(i 0).val / 8, ht⟩ (1 : Fin 3) * 64 ≤ (i 1).val ∧ (i 1).val < win0_5.index ⟨(i 0).val / 8, ht⟩ (1 : Fin 3) * 64 + 64; omega
  | ⟨2, _⟩ => show win0_5.index ⟨(i 0).val / 8, ht⟩ (2 : Fin 3) * 441 ≤ (i 2).val ∧ (i 2).val < win0_5.index ⟨(i 0).val / 8, ht⟩ (2 : Fin 3) * 441 + 441; omega

/-- The result array when the launch has ended. -/
theorem final : (dats m 0 c).arrAt 5 cfg0.N = G m c :=
  (dats m 0 c).arrAt_eq_of_cover 5 (G m c) (fun t _ => flushed_eq m c t) covered

end

end Proof.Enc
-- ==== Proof.EncRef.lean ====
module

public import proofs.«01_k».proof.Proof.Gen.EncodeReferenceIdeal.Run
public import proofs.«01_k».proof.Proof.EncArrays
public import proofs.«01_k».proof.Proof.EncSums

@[expose] public section

/-!
# The encoder's reference read at an index

Layer by layer: an array of the reference holds, at a picture, a channel, a row and a column, the value of the
layer of pictures that it computes.
-/

namespace Proof.EncRef

open Cert.EncodeReferenceIdeal Cert.EncodeReferenceIdeal.Gen Cert.EncodeReferenceIdeal.Value Idealize.ShloMosaic Idealize.SL.Sem Proof.Enc

noncomputable section

variable (V0 : Valuation τ sig (Elt Ideal))

/-- The images: the query images and the support images one after the other. -/
def argX : S80x3x84x84.Idx → EReal :=
  concatenate S80x3x84x84 0 [⟨S30x3x84x84, shapeCast S30x3x84x84 (V0 (Proc.devRef .tc main_arg0) : S2x15x3x84x84.Idx → EReal) shapeCasts_S2x15x3x84x84_S30x3x84x84⟩,
    ⟨S50x3x84x84, shapeCast S50x3x84x84 (V0 (Proc.devRef .tc main_arg1) : S2x5x5x3x84x84.Idx → EReal) shapeCasts_S2x5x5x3x84x84_S50x3x84x84⟩]
    concatenates_S30x3x84x84_S50x3x84x84_S80x3x84x84_d0
/-- The first layer's weights. -/
abbrev argW1 : S64x3x3x3.Idx → EReal := V0 (Proc.devRef .tc main_arg2)
/-- The first layer's biases. -/
abbrev argB1 : S64.Idx → EReal := V0 (Proc.devRef .tc main_arg3)
/-- The first layer's scales. -/
abbrev argG1 : S64.Idx → EReal := V0 (Proc.devRef .tc main_arg4)
/-- The first layer's shifts. -/
abbrev argT1 : S64.Idx → EReal := V0 (Proc.devRef .tc main_arg5)
/-- The second layer's weights. -/
abbrev argW2 : S64x64x3x3.Idx → EReal := V0 (Proc.devRef .tc main_arg6)
/-- The second layer's biases. -/
abbrev argB2 : S64.Idx → EReal := V0 (Proc.devRef .tc main_arg7)
/-- The second layer's scales. -/
abbrev argG2 : S64.Idx → EReal := V0 (Proc.devRef .tc main_arg8)
/-- The second layer's shifts. -/
abbrev argT2 : S64.Idx → EReal := V0 (Proc.devRef .tc main_arg9)
/-- The third layer's weights. -/
abbrev argW3 : S64x64x3x3.Idx → EReal := V0 (Proc.devRef .tc main_arg10)
/-- The third layer's biases. -/
abbrev argB3 : S64.Idx → EReal := V0 (Proc.devRef .tc main_arg11)
/-- The third layer's scales. -/
abbrev argG3 : S64.Idx → EReal := V0 (Proc.devRef .tc main_arg12)
/-- The third layer's shifts. -/
abbrev argT3 : S64.Idx → EReal := V0 (Proc.devRef .tc main_arg13)
/-- The fourth layer's weights. -/
abbrev argW4 : S64x64x3x3.Idx → EReal := V0 (Proc.devRef .tc main_arg14)
/-- The fourth layer's biases. -/
abbrev argB4 : S64.Idx → EReal := V0 (Proc.devRef .tc main_arg15)
/-- The fourth layer's scales. -/
abbrev argG4 : S64.Idx → EReal := V0 (Proc.devRef .tc main_arg16)
/-- The fourth layer's shifts. -/
abbrev argT4 : S64.Idx → EReal := V0 (Proc.devRef .tc main_arg17)

/-- Picture `n` after the first layer. -/
def after1 (n : Fin 80) : Pic 64 := scaledPool 84 (imageOf (argX V0) n) (weightsOf (argW1 V0)) (biasOf (argB1 V0)) (biasOf (argG1 V0)) (biasOf (argT1 V0))
/-- Picture `n` after the second layer. -/
def after2 (n : Fin 80) : Pic 64 := scaledPool 42 (after1 V0 n) (weightsOf (argW2 V0)) (biasOf (argB2 V0)) (biasOf (argG2 V0)) (biasOf (argT2 V0))
/-- Picture `n` after the third layer. -/
def after3 (n : Fin 80) : Pic 64 := scaledLayer 21 (after2 V0 n) (weightsOf (argW3 V0)) (biasOf (argB3 V0)) (biasOf (argG3 V0)) (biasOf (argT3 V0))
/-- Picture `n` after the fourth layer. -/
def after4 (n : Fin 80) : Pic 64 := scaledLayer 21 (after3 V0 n) (weightsOf (argW4 V0)) (biasOf (argB4 V0)) (biasOf (argG4 V0)) (biasOf (argT4 V0))

/-- The nine products of a window in the order in which the reference adds them. -/
theorem conv_nine {C : ℕ} (x : Pic C) (w : Fin C → Fin 3 → Fin 3 → EReal) (r c : ℕ) : conv x w r c
    = (∑ k, w k 0 0 * x k r c) + (∑ k, w k 0 1 * x k r (1 + c)) + (∑ k, w k 0 2 * x k r (2 + c))
      + (∑ k, w k 1 0 * x k (1 + r) c) + (∑ k, w k 1 1 * x k (1 + r) (1 + c)) + (∑ k, w k 1 2 * x k (1 + r) (2 + c))
      + (∑ k, w k 2 0 * x k (2 + r) c) + (∑ k, w k 2 1 * x k (2 + r) (1 + c)) + (∑ k, w k 2 2 * x k (2 + r) (2 + c)) := by
  unfold conv
  rw [Nat.add_comm 1 r, Nat.add_comm 2 r, Nat.add_comm 1 c, Nat.add_comm 2 c]
  exact (sum_nine (fun t => ∑ k, w k ⟨t.val / 3, by omega⟩ ⟨t.val % 3, by omega⟩ * x k (r + t.val / 3) (c + t.val % 3))).symm.trans
    (add_nine _).symm |>.symm ▸ rfl

/-- A bordered picture from a case split on the border. -/
theorem pad_of_dite {C : ℕ} (H : ℕ) (x : Pic C) (ch : Fin C) (r c : ℕ) (z : EReal) (hz : z = 0)
    (g : ((1 ≤ r ∧ r - 1 < H) ∧ 1 ≤ c ∧ c - 1 < H) → EReal) (hg : ∀ h, g h = x ch (r - 1) (c - 1)) :
    (if h : (1 ≤ r ∧ r - 1 < H) ∧ 1 ≤ c ∧ c - 1 < H then g h else z) = Enc.pad H x ch r c := by
  unfold Enc.pad
  by_cases h : (1 ≤ r ∧ r - 1 < H) ∧ 1 ≤ c ∧ c - 1 < H
  · rw [dif_pos h, if_pos (by omega)]; exact hg h
  · rw [dif_neg h, if_neg (by omega)]; exact hz

theorem v3_at (n : Fin 80) (ch : Fin 3) (r c : Fin 86) : (res_main_v3 V0 : S80x3x86x86.Idx → EReal) (ix4 n ch r c)
    = Enc.pad 84 (imageOf (argX V0) n) ch r.val c.val := by
  have e : (res_main_v3 V0 : S80x3x86x86.Idx → EReal) = Idealize.ShloMosaic.pad S80x3x86x86 ![0, 0, 1, 1] ![0, 0, 1, 1] ![0, 0, 0, 0] (argX V0)
      (sitofp (F := Ideal) .f32 (constantI S_ 32 0#32)) pads_S80x3x84x84_S80x3x86x86_000_000_110_110 h_S_ := rfl
  rw [e]
  generalize argX V0 = a
  pointwise
  exact pad_of_dite 84 _ ch _ _ _ sitofp_nought _ fun h => (imageOf_at a n ch _ _ _ _).symm

theorem v57_at (n : Fin 80) (o : Fin 64) (r c : Fin 84) : (res_main_v57 V0 : S80x64x84x84.Idx → EReal) (ix4 n o r c)
    = (conv (Enc.pad 84 (imageOf (argX V0) n)) (weightsOf (argW1 V0) o) r.val c.val + biasOf (argB1 V0) o) * biasOf (argG1 V0) o + biasOf (argT1 V0) o := by
  rw [conv_nine]
  pointwise [res_main_v57]
  simp only [v3_at V0]
  rfl

theorem v62_at (n : Fin 80) (o : Fin 64) (r c : Fin 84) : (res_main_v62 V0 : S80x64x84x84.Idx → EReal) (ix4 n o r c)
    = scaledLayer 84 (imageOf (argX V0) n) (weightsOf (argW1 V0)) (biasOf (argB1 V0)) (biasOf (argG1 V0)) (biasOf (argT1 V0)) o r.val c.val := by
  pointwise [res_main_v62]
  rw [v57_at V0]
  rfl

theorem v70_at (n : Fin 80) (o : Fin 64) (r c : Fin 44) : (res_main_v70 V0 : S80x64x44x44.Idx → EReal) (ix4 n o r c)
    = Enc.pad 42 (after1 V0 n) o r.val c.val := by
  pointwise [res_main_v70]
  refine pad_of_dite 42 _ o _ _ _ sitofp_nought _ fun h => ?_
  simp only [v62_at V0, after1, scaledPool, Enc.pool, Nat.add_comm 1]

theorem v124_at (n : Fin 80) (o : Fin 64) (r c : Fin 42) : (res_main_v124 V0 : S80x64x42x42.Idx → EReal) (ix4 n o r c)
    = (conv (Enc.pad 42 (after1 V0 n)) (weightsOf (argW2 V0) o) r.val c.val + biasOf (argB2 V0) o) * biasOf (argG2 V0) o + biasOf (argT2 V0) o := by
  rw [conv_nine]
  pointwise [res_main_v124]
  simp only [v70_at V0]
  rfl

theorem v129_at (n : Fin 80) (o : Fin 64) (r c : Fin 42) : (res_main_v129 V0 : S80x64x42x42.Idx → EReal) (ix4 n o r c)
    = scaledLayer 42 (after1 V0 n) (weightsOf (argW2 V0)) (biasOf (argB2 V0)) (biasOf (argG2 V0)) (biasOf (argT2 V0)) o r.val c.val := by
  pointwise [res_main_v129]
  rw [v124_at V0]
  rfl

theorem v137_at (n : Fin 80) (o : Fin 64) (r c : Fin 23) : (res_main_v137 V0 : S80x64x23x23.Idx → EReal) (ix4 n o r c)
    = Enc.pad 21 (after2 V0 n) o r.val c.val := by
  pointwise [res_main_v137]
  refine pad_of_dite 21 _ o _ _ _ sitofp_nought _ fun h => ?_
  simp only [v129_at V0, after2, scaledPool, Enc.pool, Nat.add_comm 1]

theorem v191_at (n : Fin 80) (o : Fin 64) (r c : Fin 21) : (res_main_v191 V0 : S80x64x21x21.Idx → EReal) (ix4 n o r c)
    = (conv (Enc.pad 21 (after2 V0 n)) (weightsOf (argW3 V0) o) r.val c.val + biasOf (argB3 V0) o) * biasOf (argG3 V0) o + biasOf (argT3 V0) o := by
  rw [conv_nine]
  pointwise [res_main_v191]
  simp only [v137_at V0]
  rfl

/-- The rectified array with a border of zeros. -/
def border (a : S80x64x21x21.Idx → EReal) : S80x64x23x23.Idx → EReal :=
  Idealize.ShloMosaic.pad S80x64x23x23 ![0, 0, 1, 1] ![0, 0, 1, 1] ![0, 0, 0, 0]
    (select (cmpf (F := Ideal) (φ := .f32) .oge a (broadcastInDim S80x64x21x21 ![] bcast_S_S80x64x21x21 (constant S_ .f32 0x00000000#32))) a
      (mulf (F := Ideal) (φ := .f32) (broadcastInDim S80x64x21x21 ![] bcast_S_S80x64x21x21 (constant S_ .f32 0x3E4CCCCD#32)) a))
    (sitofp (F := Ideal) .f32 (constantI S_ 32 0#32)) pads_S80x64x21x21_S80x64x23x23_000_000_110_110 h_S_

theorem v197_at (n : Fin 80) (o : Fin 64) (r c : Fin 23) : (res_main_v197 V0 : S80x64x23x23.Idx → EReal) (ix4 n o r c)
    = Enc.pad 21 (after3 V0 n) o r.val c.val := by
  have e : (res_main_v197 V0 : S80x64x23x23.Idx → EReal) = border (res_main_v191 V0) := rfl
  rw [e]
  unfold border
  have hv := v191_at V0 n o
  generalize (res_main_v191 V0 : S80x64x21x21.Idx → EReal) = a at hv
  pointwise
  refine pad_of_dite 21 _ o _ _ _ sitofp_nought _ fun h => ?_
  rw [hv]
  rfl

theorem v251_at (n : Fin 80) (o : Fin 64) (r c : Fin 21) : (res_main_v251 V0 : S80x64x21x21.Idx → EReal) (ix4 n o r c)
    = (conv (Enc.pad 21 (after3 V0 n)) (weightsOf (argW4 V0) o) r.val c.val + biasOf (argB4 V0) o) * biasOf (argG4 V0) o + biasOf (argT4 V0) o := by
  rw [conv_nine]
  pointwise [res_main_v251]
  simp only [v197_at V0]
  rfl

theorem v258_at (n : Fin 80) (i : Fin 441) (d : Fin 64) : (res_main_v258 V0 : S80x441x64.Idx → EReal) (ix3 n i d)
    = after4 V0 n d (i.val / 21) (i.val % 21) := by
  pointwise [res_main_v258]
  simp only [v251_at V0]
  rfl

/-- The reference's result. -/
def result : S80x64x441.Idx → EReal :=
  transpose S80x64x441 [0, 2, 1] (Host.divf (F := Ideal) (φ := .f32) (res_main_v258 V0) (broadcastInDim S80x441x64 ![0, 1, 2] bcast_S80x441x1_S80x441x64_0_1_2 (maximumf (broadcastInDim S80x441x1 ![] bcast_S_S80x441x1 (id (constant S_ .f32 0x2B8CBCCC#32))) (Host.sqrt (broadcastInDim S80x441x1 ![0, 1] bcast_S80x441_S80x441x1_0_1 (Host.reduceAdd (mulf (res_main_v258 V0) (res_main_v258 V0)) (constant S_ .f32 0x00000000#32) reducesTo_S80x441x64_S80x441_d2 h_S_)))))) transposes_S80x441x64_S80x64x441_0_2_1

theorem result_at (n : Fin 80) (d : Fin 64) (i : Fin 441) : result V0 (ix3 n d i) = normed (after4 V0 n) d (i.val / 21) (i.val % 21) := by
  unfold result
  pointwise
  simp only [v258_at V0]
  rfl

end

end Proof.EncRef
-- ==== Proof.EncFinite.lean ====
module

public import proofs.«01_k».proof.Proof.EncArrays
public import proofs.«01_k».proof.Proof.EncSums

@[expose] public section

/-!
# Scales taken into the weights

For numbers that are not infinite, the convolution times a scale is the convolution with the weights times the
scale. Every layer of such numbers gives such numbers.
-/

namespace Proof.Enc

open Idealize.ShloMosaic

noncomputable section

/-- The value is a real number. -/
def IsReal (v : EReal) : Prop := ∃ a : ℝ, v = (a : EReal)

/-- Every value of the array is a real number. -/
def RealArray {s : Shape} (x : s.Idx → EReal) : Prop := ∀ i, IsReal (x i)

theorem IsReal.zero : IsReal 0 := ⟨0, rfl⟩

theorem IsReal.add {u v : EReal} (hu : IsReal u) (hv : IsReal v) : IsReal (u + v) := by
  obtain ⟨a, rfl⟩ := hu; obtain ⟨b, rfl⟩ := hv; exact ⟨a + b, (EReal.coe_add a b).symm⟩

theorem IsReal.mul {u v : EReal} (hu : IsReal u) (hv : IsReal v) : IsReal (u * v) := by
  obtain ⟨a, rfl⟩ := hu; obtain ⟨b, rfl⟩ := hv; exact ⟨a * b, (EReal.coe_mul a b).symm⟩

theorem IsReal.max {u v : EReal} (hu : IsReal u) (hv : IsReal v) : IsReal (max u v) := by
  rcases max_choice u v with h | h
  · rw [h]; exact hu
  · rw [h]; exact hv

theorem IsReal.sum {n : ℕ} (f : Fin n → EReal) (hf : ∀ i, IsReal (f i)) : IsReal (∑ i, f i) := by
  induction n with
  | zero => exact IsReal.zero
  | succ n ih => rw [Fin.sum_univ_succ]; exact (hf 0).add (ih _ fun i => hf i.succ)

theorem IsReal.leaky {v : EReal} (hv : IsReal v) : IsReal (leaky v) := by
  unfold Enc.leaky
  split
  · exact hv
  · exact IsReal.mul ⟨_, slope_eq.1⟩ hv

/-- Every value of the picture is a real number. -/
def RealPic {C : ℕ} (x : Pic C) : Prop := ∀ ch r c, IsReal (x ch r c)

theorem RealPic.pad {C : ℕ} {x : Pic C} (hx : RealPic x) (H : ℕ) : RealPic (pad H x) := by
  intro ch r c
  unfold Enc.pad
  split
  · exact hx _ _ _
  · exact IsReal.zero

theorem conv_real {C : ℕ} {x : Pic C} (hx : RealPic x) {w : Fin C → Fin 3 → Fin 3 → EReal} (hw : ∀ ch i j, IsReal (w ch i j)) (r c : ℕ) :
    IsReal (conv x w r c) :=
  IsReal.sum _ fun i => IsReal.sum _ fun j => IsReal.sum _ fun ch => (hw ch i j).mul (hx _ _ _)

/-- A real scale distributes over a sum of which one term is real. -/
theorem add_scale {a : EReal} (ha : IsReal a) (b : EReal) {g : EReal} (hg : IsReal g) : (a + b) * g = a * g + b * g := by
  obtain ⟨a, rfl⟩ := ha
  obtain ⟨g, rfl⟩ := hg
  induction b with
  | coe b => norm_cast; ring
  | top =>
    rw [EReal.coe_add_top]
    rcases lt_trichotomy g 0 with h | h | h
    · rw [EReal.top_mul_coe_of_neg h, EReal.add_bot]
    · subst h; simp
    · rw [EReal.top_mul_coe_of_pos h, ← EReal.coe_mul, EReal.coe_add_top]
  | bot =>
    rw [EReal.add_bot]
    rcases lt_trichotomy g 0 with h | h | h
    · rw [EReal.bot_mul_coe_of_neg h, ← EReal.coe_mul, EReal.coe_add_top]
    · subst h; simp
    · rw [EReal.bot_mul_coe_of_pos h, EReal.add_bot]

theorem sum_scale {n : ℕ} (f : Fin n → EReal) (hf : ∀ i, IsReal (f i)) {g : EReal} (hg : IsReal g) : (∑ i, f i) * g = ∑ i, f i * g := by
  induction n with
  | zero => simp
  | succ n ih => rw [Fin.sum_univ_succ, Fin.sum_univ_succ, add_scale (hf 0) _ hg, ih _ fun i => hf i.succ]

/-- The scale of a convolution taken into its weights. -/
theorem conv_scale {C : ℕ} {x : Pic C} (hx : RealPic x) {w : Fin C → Fin 3 → Fin 3 → EReal} (hw : ∀ ch i j, IsReal (w ch i j))
    {g : EReal} (hg : IsReal g) (r c : ℕ) : conv x w r c * g = conv x (fun ch i j => w ch i j * g) r c := by
  have h3 : ∀ i j ch, IsReal (w ch i j * x ch (r + (i : Fin 3).val) (c + (j : Fin 3).val)) := fun i j ch => (hw ch i j).mul (hx _ _ _)
  unfold conv
  rw [sum_scale _ (fun i => IsReal.sum _ fun j => IsReal.sum _ fun ch => h3 i j ch) hg]
  refine Finset.sum_congr rfl fun i _ => ?_
  rw [sum_scale _ (fun j => IsReal.sum _ fun ch => h3 i j ch) hg]
  refine Finset.sum_congr rfl fun j _ => ?_
  rw [sum_scale _ (fun ch => h3 i j ch) hg]
  exact Finset.sum_congr rfl fun ch _ => mul_right_comm _ _ _

section layers

variable {C : ℕ} {x : Pic C} (hx : RealPic x) {w : Fin 64 → Fin C → Fin 3 → Fin 3 → EReal} (hw : ∀ o ch i j, IsReal (w o ch i j))
  {b g t : Fin 64 → EReal} (hg : ∀ o, IsReal (g o)) (H : ℕ)

include hx hw hg

/-- The reference's layer is the layer with the scales taken into weights and biases. -/
theorem scaledLayer_eq : scaledLayer H x w b g t = layer H x (fun o ch i j => w o ch i j * g o) (fun o => b o * g o + t o) := by
  funext o r c
  unfold scaledLayer layer
  rw [add_scale (conv_real (hx.pad H) (hw o) r c) _ (hg o), conv_scale (hx.pad H) (hw o) (hg o), add_assoc]

theorem scaledPool_eq : scaledPool H x w b g t = layerPool H x (fun o ch i j => w o ch i j * g o) (fun o => b o * g o + t o) := by
  unfold scaledPool layerPool
  rw [scaledLayer_eq hx hw hg]

variable (hb : ∀ o, IsReal (b o)) (ht : ∀ o, IsReal (t o))

include hb ht

theorem scaledLayer_real : RealPic (scaledLayer H x w b g t) := fun o r c =>
  ((((conv_real (hx.pad H) (hw o) r c).add (hb o)).mul (hg o)).add (ht o)).leaky

theorem scaledPool_real : RealPic (scaledPool H x w b g t) := fun o r c =>
  have h := scaledLayer_real hx hw hg H hb ht o
  ((h _ _).max (h _ _)).max ((h _ _).max (h _ _))

end layers

end

end Proof.Enc
-- ==== Proof.EncFold.lean ====
module

public import proofs.«01_k».proof.Proof.EncHost
public import proofs.«01_k».proof.Proof.EncArrays
public import proofs.«01_k».proof.Proof.EncPair
public import proofs.«01_k».proof.Proof.EncFinite

@[expose] public section

/-!
# The encoder with its scales in the weights

The features computed with the scales taken into the weights and biases are those of the layers that scale the
convolution, as long as no infinity enters.
-/

namespace Proof.Enc

open Cert.EncodeIdeal Cert.EncodeIdeal.Gen Idealize.ShloMosaic Idealize.SL.Sem

noncomputable section

theorem scaled1_at (w : S64x3x3x3.Idx → EReal) (g : S64.Idx → EReal) :
    weightsOf (scaled1 w g) = fun o ch i j => weightsOf w o ch i j * biasOf g o := by
  funext o ch i j
  show scaled1 w g (ix4 o ch i j) = _
  pointwise [scaled1]
  rfl

theorem scaled_at (w : S64x64x3x3.Idx → EReal) (g : S64.Idx → EReal) :
    weightsOf (scaled w g) = fun o ch i j => weightsOf w o ch i j * biasOf g o := by
  funext o ch i j
  show scaled w g (ix4 o ch i j) = _
  pointwise [scaled]
  rfl

theorem shifted_at (b g t : S64.Idx → EReal) : biasOf (shifted b g t) = fun o => biasOf b o * biasOf g o + biasOf t o := rfl

/-- Every image of the batch is one of the query images or of the support images. -/
theorem batch_real {q : S2x15x3x84x84.Idx → EReal} {s : S2x5x5x3x84x84.Idx → EReal} (hq : RealArray q) (hs : RealArray s) (n : Fin 80) :
    RealPic (imageOf (batch q s) n) := by
  intro ch r c
  unfold imageOf
  split
  · pointwise [batch]
    split
    · exact hq _
    · exact hs _
  · exact IsReal.zero

/-- The features of a batch of images, one vector per place, each vector over its length. -/
def encoded (x : S80x3x84x84.Idx → EReal) (w1 : S64x3x3x3.Idx → EReal) (w2 w3 w4 : S64x64x3x3.Idx → EReal) (b1 b2 b3 b4 : S64.Idx → EReal) :
    S80x64x441.Idx → EReal := fun i =>
  normed (features (imageOf x (i 0)) (weightsOf w1) (weightsOf w2) (weightsOf w3) (weightsOf w4)
    ![biasOf b1, biasOf b2, biasOf b3, biasOf b4]) (i 1) ((i 2).val / 21) ((i 2).val % 21)

/-- The features of a picture with scales and shifts applied to the convolutions. -/
def scaledFeatures (x : Pic 3) (w1 : S64x3x3x3.Idx → EReal) (b1 g1 t1 : S64.Idx → EReal) (w2 : S64x64x3x3.Idx → EReal)
    (b2 g2 t2 : S64.Idx → EReal) (w3 : S64x64x3x3.Idx → EReal) (b3 g3 t3 : S64.Idx → EReal) (w4 : S64x64x3x3.Idx → EReal)
    (b4 g4 t4 : S64.Idx → EReal) : Pic 64 :=
  scaledLayer 21 (scaledLayer 21 (scaledPool 42 (scaledPool 84 x
    (weightsOf w1) (biasOf b1) (biasOf g1) (biasOf t1)) (weightsOf w2) (biasOf b2) (biasOf g2) (biasOf t2))
    (weightsOf w3) (biasOf b3) (biasOf g3) (biasOf t3)) (weightsOf w4) (biasOf b4) (biasOf g4) (biasOf t4)

/-- The same as `encoded` with scales and shifts applied to the convolutions. -/
def encodedScaled (x : S80x3x84x84.Idx → EReal) (w1 : S64x3x3x3.Idx → EReal) (b1 g1 t1 : S64.Idx → EReal) (w2 : S64x64x3x3.Idx → EReal)
    (b2 g2 t2 : S64.Idx → EReal) (w3 : S64x64x3x3.Idx → EReal) (b3 g3 t3 : S64.Idx → EReal) (w4 : S64x64x3x3.Idx → EReal)
    (b4 g4 t4 : S64.Idx → EReal) : S80x64x441.Idx → EReal := fun i =>
  normed (scaledFeatures (imageOf x (i 0)) w1 b1 g1 t1 w2 b2 g2 t2 w3 b3 g3 t3 w4 b4 g4 t4) (i 1) ((i 2).val / 21) ((i 2).val % 21)

/-- The features of a picture are the same when the picture, weights and scales hold real numbers, and the biases and
shifts of the layers that others follow do. -/
theorem scaledFeatures_eq {x : Pic 3} (hx : RealPic x)
    {w1 : S64x3x3x3.Idx → EReal} {b1 g1 t1 : S64.Idx → EReal} {w2 : S64x64x3x3.Idx → EReal} {b2 g2 t2 : S64.Idx → EReal}
    {w3 : S64x64x3x3.Idx → EReal} {b3 g3 t3 : S64.Idx → EReal} {w4 : S64x64x3x3.Idx → EReal} {b4 g4 t4 : S64.Idx → EReal}
    (hw1 : RealArray w1) (hb1 : RealArray b1) (hg1 : RealArray g1) (ht1 : RealArray t1)
    (hw2 : RealArray w2) (hb2 : RealArray b2) (hg2 : RealArray g2) (ht2 : RealArray t2)
    (hw3 : RealArray w3) (hb3 : RealArray b3) (hg3 : RealArray g3) (ht3 : RealArray t3)
    (hw4 : RealArray w4) (hg4 : RealArray g4) :
    scaledFeatures x w1 b1 g1 t1 w2 b2 g2 t2 w3 b3 g3 t3 w4 b4 g4 t4
      = features x (weightsOf (scaled1 w1 g1)) (weightsOf (scaled w2 g2)) (weightsOf (scaled w3 g3)) (weightsOf (scaled w4 g4))
        ![biasOf (shifted b1 g1 t1), biasOf (shifted b2 g2 t2), biasOf (shifted b3 g3 t3), biasOf (shifted b4 g4 t4)] := by
  have r1 := scaledPool_real hx (w := weightsOf w1) (fun o ch i j => hw1 _) (g := biasOf g1) (fun o => hg1 _) 84
    (b := biasOf b1) (fun o => hb1 _) (t := biasOf t1) (fun o => ht1 _)
  have r2 := scaledPool_real r1 (w := weightsOf w2) (fun o ch i j => hw2 _) (g := biasOf g2) (fun o => hg2 _) 42
    (b := biasOf b2) (fun o => hb2 _) (t := biasOf t2) (fun o => ht2 _)
  have r3 := scaledLayer_real r2 (w := weightsOf w3) (fun o ch i j => hw3 _) (g := biasOf g3) (fun o => hg3 _) 21
    (b := biasOf b3) (fun o => hb3 _) (t := biasOf t3) (fun o => ht3 _)
  unfold scaledFeatures features
  rw [scaledLayer_eq r3 (w := weightsOf w4) (fun o ch i j => hw4 _) (g := biasOf g4) (fun o => hg4 _), scaledLayer_eq r2 (w := weightsOf w3) (fun o ch i j => hw3 _) (g := biasOf g3) (fun o => hg3 _),
    scaledPool_eq r1 (w := weightsOf w2) (fun o ch i j => hw2 _) (g := biasOf g2) (fun o => hg2 _), scaledPool_eq hx (w := weightsOf w1) (fun o ch i j => hw1 _) (g := biasOf g1) (fun o => hg1 _),
    scaled1_at, scaled_at, scaled_at, scaled_at]
  rfl

theorem encodedScaled_eq {x : S80x3x84x84.Idx → EReal} (hx : ∀ n, RealPic (imageOf x n))
    {w1 : S64x3x3x3.Idx → EReal} {b1 g1 t1 : S64.Idx → EReal} {w2 : S64x64x3x3.Idx → EReal} {b2 g2 t2 : S64.Idx → EReal}
    {w3 : S64x64x3x3.Idx → EReal} {b3 g3 t3 : S64.Idx → EReal} {w4 : S64x64x3x3.Idx → EReal} {b4 g4 t4 : S64.Idx → EReal}
    (hw1 : RealArray w1) (hb1 : RealArray b1) (hg1 : RealArray g1) (ht1 : RealArray t1)
    (hw2 : RealArray w2) (hb2 : RealArray b2) (hg2 : RealArray g2) (ht2 : RealArray t2)
    (hw3 : RealArray w3) (hb3 : RealArray b3) (hg3 : RealArray g3) (ht3 : RealArray t3)
    (hw4 : RealArray w4) (hg4 : RealArray g4) :
    encodedScaled x w1 b1 g1 t1 w2 b2 g2 t2 w3 b3 g3 t3 w4 b4 g4 t4
      = encoded x (scaled1 w1 g1) (scaled w2 g2) (scaled w3 g3) (scaled w4 g4)
        (shifted b1 g1 t1) (shifted b2 g2 t2) (shifted b3 g3 t3) (shifted b4 g4 t4) := by
  funext i
  exact congrArg (fun f => normed f (i 1) ((i 2).val / 21) ((i 2).val % 21))
    (scaledFeatures_eq (hx (i 0)) hw1 hb1 hg1 ht1 hw2 hb2 hg2 ht2 hw3 hb3 hg3 ht3 hw4 hg4)

end

end Proof.Enc
-- ==== Proof.EncPre.lean ====
module

public import proofs.«01_k».proof.Defs
public import proofs.«01_k».proof.Proof.Gen.Pre_all_finite
public import proofs.«01_k».proof.Proof.EncFinite

@[expose] public section

/-!
# The precondition

An array whose absolute values are all below infinity holds real numbers.
-/

namespace Proof.Enc

open Idealize.ShloMosaic Idealize.SL.Sem

noncomputable section

theorem isReal_of_abs {v : EReal} (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  induction v with
  | coe a => exact ⟨a, rfl⟩
  | top => simp [Ideal.cmp] at h
  | bot => simp [Ideal.cmp] at h

/-- The test of an array, read at an index. -/
theorem isReal_at {s : Shape} (d : Fin 0 → Fin s.rank) (h : (⟨0, ![]⟩ : Shape).BroadcastsInDim s d) (x : FVec Ideal s .f32)
    (hx : cmpf .olt (Host.absf x) (broadcastInDim s d h (constant ⟨0, ![]⟩ .f32 0x7F800000#32)) = fun _ => 1#1) (i : s.Idx) : IsReal (x i) := by
  have e := congrFun hx i
  exact isReal_of_abs e

section arguments

open Cert.EncodeIdeal

variable (m : (b : Loc nD τ sig) → Buf (Elt Ideal) b) (c : Dev nD)

/-- The arguments that the precondition names hold real numbers. -/
theorem arguments_real (h : Cert.Pre_EncodeIdeal_all_finite m) :
    RealArray (m ((c.tc : Thread nD τ).loc main_arg0) : S2x15x3x84x84.Idx → EReal)
    ∧ RealArray (m ((c.tc : Thread nD τ).loc main_arg1) : S2x5x5x3x84x84.Idx → EReal)
    ∧ RealArray (m ((c.tc : Thread nD τ).loc main_arg2) : S64x3x3x3.Idx → EReal)
    ∧ RealArray (m ((c.tc : Thread nD τ).loc main_arg3) : S64.Idx → EReal)
    ∧ RealArray (m ((c.tc : Thread nD τ).loc main_arg4) : S64.Idx → EReal)
    ∧ RealArray (m ((c.tc : Thread nD τ).loc main_arg5) : S64.Idx → EReal)
    ∧ RealArray (m ((c.tc : Thread nD τ).loc main_arg6) : S64x64x3x3.Idx → EReal)
    ∧ RealArray (m ((c.tc : Thread nD τ).loc main_arg7) : S64.Idx → EReal)
    ∧ RealArray (m ((c.tc : Thread nD τ).loc main_arg8) : S64.Idx → EReal)
    ∧ RealArray (m ((c.tc : Thread nD τ).loc main_arg9) : S64.Idx → EReal)
    ∧ RealArray (m ((c.tc : Thread nD τ).loc main_arg10) : S64x64x3x3.Idx → EReal)
    ∧ RealArray (m ((c.tc : Thread nD τ).loc main_arg11) : S64.Idx → EReal)
    ∧ RealArray (m ((c.tc : Thread nD τ).loc main_arg12) : S64.Idx → EReal)
    ∧ RealArray (m ((c.tc : Thread nD τ).loc main_arg13) : S64.Idx → EReal)
    ∧ RealArray (m ((c.tc : Thread nD τ).loc main_arg14) : S64x64x3x3.Idx → EReal)
    ∧ RealArray (m ((c.tc : Thread nD τ).loc main_arg16) : S64.Idx → EReal) := by
  have e := h c
  obtain ⟨e0, e1, e2, e3, e4, e5, e6, e7, e8, e9, e10, e11, e12, e13, e14, e16⟩ := e
  exact ⟨isReal_at _ _ _ e0,
    isReal_at _ _ _ e1,
    isReal_at _ _ _ e2,
    isReal_at _ _ _ e3,
    isReal_at _ _ _ e4,
    isReal_at _ _ _ e5,
    isReal_at _ _ _ e6,
    isReal_at _ _ _ e7,
    isReal_at _ _ _ e8,
    isReal_at _ _ _ e9,
    isReal_at _ _ _ e10,
    isReal_at _ _ _ e11,
    isReal_at _ _ _ e12,
    isReal_at _ _ _ e13,
    isReal_at _ _ _ e14,
    isReal_at _ _ _ e16⟩

end arguments

end

end Proof.Enc
-- ==== Proof.EncAlgebraic.lean ====
module

public import proofs.«01_k».proof.Defs
public import proofs.«01_k».proof.Proof.EncArray
public import proofs.«01_k».proof.Proof.EncRef
public import proofs.«01_k».proof.Proof.EncFold
public import proofs.«01_k».proof.Proof.EncPre
public import proofs.«01_k».proof.Proof.Gen.Encode.Frame
public import proofs.«01_k».proof.Proof.Gen.EncodeIdeal.Frame
public import proofs.«01_k».proof.Proof.Gen.EncodeReferenceIdeal.Run

@[expose] public section

/-!
# The encoder's result is the reference's

Both result arrays hold, at an image, a channel and a place, the same normalised feature of the same arguments.
-/

namespace Proof.Enc

open Idealize.ShloMosaic Idealize.SL.Sem

noncomputable section

/-- The reference computes them. -/
theorem reference_eq (V0 : Valuation Cert.EncodeReferenceIdeal.τ Cert.EncodeReferenceIdeal.sig (Elt Ideal)) : EncRef.result V0
    = encodedScaled (EncRef.argX V0) (EncRef.argW1 V0) (EncRef.argB1 V0) (EncRef.argG1 V0) (EncRef.argT1 V0) (EncRef.argW2 V0) (EncRef.argB2 V0) (EncRef.argG2 V0) (EncRef.argT2 V0) (EncRef.argW3 V0) (EncRef.argB3 V0) (EncRef.argG3 V0) (EncRef.argT3 V0) (EncRef.argW4 V0) (EncRef.argB4 V0) (EncRef.argG4 V0) (EncRef.argT4 V0) := by
  funext i
  have hi : i = ix3 (i 0) (i 1) (i 2) := by
    funext a
    match a with
    | ⟨0, _⟩ => rfl
    | ⟨1, _⟩ => rfl
    | ⟨2, _⟩ => rfl
  refine (congrArg (EncRef.result V0) hi).trans ((EncRef.result_at V0 (i 0) (i 1) (i 2)).trans ?_)
  rfl

section run

open Cert.EncodeIdeal Cert.EncodeIdeal.Gen

variable (m : (b : Loc nD τ sig) → Buf (Elt Ideal) b)

/-- The kernel computes them. -/
theorem kernel_eq (c : Dev nD) : G m c
    = encoded (argX m c) (argW1 m c) (argW2 m c) (argW3 m c) (argW4 m c) (argB1 m c) (argB2 m c) (argB3 m c) (argB4 m c) := rfl

/-- The kernel's run: the result array and the arguments when it has ended. -/
theorem run_result (ρ : Dev nD → PrngReg) :
    θ_run (defs (F := Ideal)) (onTc (τ := τ) (main (F := Ideal))) ⟨m, fun _ => 0, ρ⟩ fun r => ∀ c : Dev nD,
      r.2.mem ((c.tc : Thread nD τ).loc main_v57) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩)
    (run_main m ρ)

end run

section run

open Cert.EncodeIdeal Cert.EncodeIdeal.Gen

variable (m : (b : Loc nD τ sig) → Buf (Elt Ideal) b)

/-- The kernel's result with scales and shifts applied to the convolutions. -/
theorem kernel_scaled (h : Cert.Pre_EncodeIdeal_all_finite m) (c : Dev nD) : G m c
    = encodedScaled (argX m c)
      (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg12)) (m ((c.tc : Thread nD τ).loc main_arg13))
      (m ((c.tc : Thread nD τ).loc main_arg14)) (m ((c.tc : Thread nD τ).loc main_arg15)) (m ((c.tc : Thread nD τ).loc main_arg16)) (m ((c.tc : Thread nD τ).loc main_arg17)) := by
  obtain ⟨e0, e1, e2, e3, e4, e5, e6, e7, e8, e9, e10, e11, e12, e13, e14, e16⟩ := arguments_real m c h
  exact (kernel_eq m c).trans (encodedScaled_eq (batch_real e0 e1) e2 e3 e4 e5 e6 e7 e8 e9 e10 e11 e12 e13 e14 e16).symm

end run

section reference

open Cert.EncodeReferenceIdeal Cert.EncodeReferenceIdeal.Gen

variable (m' : (b : Loc nD τ sig) → Buf (Elt Ideal) b)

/-- The arguments at the reference's places. -/
theorem reference_result (c : Dev nD) : EncRef.result (StableHlo.launchContents m' c)
    = encodedScaled (batch (m' ((c.tc : Thread nD τ).loc main_arg0)) (m' ((c.tc : Thread nD τ).loc main_arg1)))
      (m' ((c.tc : Thread nD τ).loc main_arg2)) (m' ((c.tc : Thread nD τ).loc main_arg3)) (m' ((c.tc : Thread nD τ).loc main_arg4)) (m' ((c.tc : Thread nD τ).loc main_arg5))
      (m' ((c.tc : Thread nD τ).loc main_arg6)) (m' ((c.tc : Thread nD τ).loc main_arg7)) (m' ((c.tc : Thread nD τ).loc main_arg8)) (m' ((c.tc : Thread nD τ).loc main_arg9))
      (m' ((c.tc : Thread nD τ).loc main_arg10)) (m' ((c.tc : Thread nD τ).loc main_arg11)) (m' ((c.tc : Thread nD τ).loc main_arg12)) (m' ((c.tc : Thread nD τ).loc main_arg13))
      (m' ((c.tc : Thread nD τ).loc main_arg14)) (m' ((c.tc : Thread nD τ).loc main_arg15)) (m' ((c.tc : Thread nD τ).loc main_arg16)) (m' ((c.tc : Thread nD τ).loc main_arg17)) :=
  reference_eq (StableHlo.launchContents m' c)

end reference

/-- Equal arguments have equal features. -/
theorem scaled_congr {q q' : (⟨5, ![2, 15, 3, 84, 84]⟩ : Shape).Idx → EReal} {s s' : (⟨6, ![2, 5, 5, 3, 84, 84]⟩ : Shape).Idx → EReal}
    {w1 w1' : (⟨4, ![64, 3, 3, 3]⟩ : Shape).Idx → EReal} {w2 w2' w3 w3' w4 w4' : (⟨4, ![64, 64, 3, 3]⟩ : Shape).Idx → EReal}
    {b1 b1' g1 g1' t1 t1' b2 b2' g2 g2' t2 t2' b3 b3' g3 g3' t3 t3' b4 b4' g4 g4' t4 t4' : (⟨1, ![64]⟩ : Shape).Idx → EReal}
    (hq : q = q') (hs : s = s') (hw1 : w1 = w1') (hb1 : b1 = b1') (hg1 : g1 = g1') (ht1 : t1 = t1') (hw2 : w2 = w2') (hb2 : b2 = b2') (hg2 : g2 = g2') (ht2 : t2 = t2') (hw3 : w3 = w3') (hb3 : b3 = b3') (hg3 : g3 = g3') (ht3 : t3 = t3') (hw4 : w4 = w4') (hb4 : b4 = b4') (hg4 : g4 = g4') (ht4 : t4 = t4') :
    encodedScaled (batch q s) w1 b1 g1 t1 w2 b2 g2 t2 w3 b3 g3 t3 w4 b4 g4 t4
      = encodedScaled (batch q' s') w1' b1' g1' t1' w2' b2' g2' t2' w3' b3' g3' t3' w4' b4' g4' t4' := by
  subst hq hs hw1 hb1 hg1 ht1 hw2 hb2 hg2 ht2 hw3 hb3 hg3 ht3 hw4 hb4 hg4 ht4
  rfl

theorem algebraic : Cert.algebraic_EncodeIdeal_EncodeReferenceIdeal_pre_all_finite (hEncodeIdeal := Cert.EncodeIdeal.Gen.facts)
    (hEncodeReferenceIdeal := Cert.EncodeReferenceIdeal.Gen.facts) (hPre_all_finite := Cert.Pre_all_finite.Gen.facts) := by
  intro m g m' g' hpre hag
  refine ⟨fun c => G m c, run_result m g, ?_⟩
  refine (θ_run _ _ _).mono (fun r h c => ⟨?_, (h c).2⟩) (Cert.EncodeReferenceIdeal.Value.run m' g')
  have e : EncRef.result (StableHlo.launchContents m' c) = G m c := by
    obtain ⟨e0, e1, e2, e3, e4, e5, e6, e7, e8, e9, e10, e11, e12, e13, e14, e15, e16, e17⟩ := hag c
    rw [reference_result, kernel_scaled m hpre c]
    exact scaled_congr e0 e1 e2 e3 e4 e5 e6 e7 e8 e9 e10 e11 e12 e13 e14 e15 e16 e17
  exact (h c).1.trans e

end

end Proof.Enc
-- ==== Proof.lean ====
module

public import proofs.«01_k».proof.Defs
public import proofs.«01_k».proof.Proof.Gen.Kernel.Frame
public import proofs.«01_k».proof.Proof.Gen.KernelIdeal.Frame
public import proofs.«01_k».proof.Proof.Algebraic
public import proofs.«01_k».proof.Proof.EncAlgebraic
public import proofs.«01_k».proof.Proof.Gen.Pre_all_finite
public import Idealize.ShloMosaic.Lib.Quiescent

@[expose] public section

/-!
# The certificate

The kernels' frames are the generated ones; a reference's is its run, which declares no semaphore.
The ideal pass rewrote nothing. The value claims are `Proof.algebraic` (the scores) and `Proof.Enc.algebraic`
(the features).
-/

namespace Cert.Proof

open Idealize.ShloMosaic Idealize.SL.Sem

theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem encode_reference_frame : Cert.quiescent_EncodeReferenceIdeal (hEncodeReferenceIdeal := Cert.EncodeReferenceIdeal.Gen.facts) := fun m ρ _ =>
  (θ_run Cert.EncodeReferenceIdeal.defs _ _).mono
    (fun r h => ⟨fun c => (h c).2, sem_eq_zero_of_no_sems (by decide) r.2⟩)
    (Cert.EncodeReferenceIdeal.Value.run (F := Ideal) m ρ)

theorem claim : Cert.Claim :=
  ⟨Cert.Kernel.Gen.facts, Cert.KernelIdeal.Gen.facts, Cert.ReferenceIdeal.Gen.facts,
    Cert.Encode.Gen.facts, Cert.EncodeIdeal.Gen.facts, Cert.EncodeReferenceIdeal.Gen.facts, Cert.Pre_all_finite.Gen.facts,
    fun m ρ _ => Cert.Kernel.Gen.frame m ρ, fun m ρ _ => Cert.KernelIdeal.Gen.frame m ρ, reference_frame,
    fun m ρ _ => Cert.Encode.Gen.frame m ρ, fun m ρ _ => Cert.EncodeIdeal.Gen.frame m ρ,
    fun m ρ _ => Cert.EncodeIdeal.Gen.frame m ρ, encode_reference_frame, fun m ρ _ => encode_reference_frame m ρ trivial,
    trivial, _root_.Proof.algebraic, trivial, _root_.Proof.Enc.algebraic⟩

end Cert.Proof
